-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_finite3 [hPre_finite3 : Cert.Pre_finite3.Facts] (m : (ℓ : Loc Cert.StickIdeal.nD Cert.StickIdeal.τ Cert.StickIdeal.sig) → Buf (Elt Ideal) ℓ) : Prop :=
  ∀ c : Dev Cert.StickIdeal.nD,
    (Cert.Pre_finite3.fn (F := Ideal) (m ((c.tc : Thread Cert.StickIdeal.nD Cert.StickIdeal.τ).loc Cert.StickIdeal.main_arg0))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_finite3 [hPre_finite3 : Cert.Pre_finite3.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_finite3.fn (F := Ideal) (m ((c.tc : Thread Cert.StickRefIdeal.nD Cert.StickRefIdeal.τ).loc Cert.StickRefIdeal.main_arg0))) = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite4 [hPre_finite4 : Cert.Pre_finite4.Facts] (m : (ℓ : Loc Cert.FoxIdeal.nD Cert.FoxIdeal.τ Cert.FoxIdeal.sig) → Buf (Elt Ideal) ℓ) : Prop :=
  ∀ c : Dev Cert.FoxIdeal.nD,
    (Cert.Pre_finite4.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite4 [hPre_finite4 : Cert.Pre_finite4.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite4.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickIdeal_pre_finite3 [hStickIdeal : Cert.StickIdeal.Facts] [hPre_finite3 : Cert.Pre_finite3.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite3 m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def quiescent_StickRefIdeal_pre_finite3 [hStickRefIdeal : Cert.StickRefIdeal.Facts] [hPre_finite3 : Cert.Pre_finite3.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_finite3 m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite4 [hFoxIdeal : Cert.FoxIdeal.Facts] [hPre_finite4 : Cert.Pre_finite4.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite4 m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite4 [hFoxRefIdeal : Cert.FoxRefIdeal.Facts] [hPre_finite4 : Cert.Pre_finite4.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite4 m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)
      ∧ m' ((c.tc : Thread Cert.PostRefIdeal.nD Cert.PostRefIdeal.τ).loc Cert.PostRefIdeal.main_arg15) = m ((c.tc : Thread Cert.PostIdeal.nD Cert.PostIdeal.τ).loc Cert.PostIdeal.main_arg15)) →
    ∃ (v0 : (c : Dev Cert.PostIdeal.nD) → Buf (Elt Ideal) ((c.tc : Thread Cert.PostIdeal.nD Cert.PostIdeal.τ).loc Cert.PostIdeal.main_v29)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v29) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v95) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14)
          ∧ r.2.mem ((c.tc : Thread Cert.PostRefIdeal.nD Cert.PostRefIdeal.τ).loc Cert.PostRefIdeal.main_arg15) = m' ((c.tc : Thread Cert.PostRefIdeal.nD Cert.PostRefIdeal.τ).loc Cert.PostRefIdeal.main_arg15))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v19_0)) (v1 : (c : Dev Cert.ProjIdeal.nD) → Buf (Elt Ideal) ((c.tc : Thread Cert.ProjIdeal.nD Cert.ProjIdeal.τ).loc Cert.ProjIdeal.main_v19_1)) (v2 : (c : Dev Cert.ProjIdeal.nD) → Buf (Elt Ideal) ((c.tc : Thread Cert.ProjIdeal.nD Cert.ProjIdeal.τ).loc Cert.ProjIdeal.main_v19_2)) (v3 : (c : Dev Cert.ProjIdeal.nD) → Buf (Elt Ideal) ((c.tc : Thread Cert.ProjIdeal.nD Cert.ProjIdeal.τ).loc Cert.ProjIdeal.main_v19_3)) (v4 : (c : Dev Cert.ProjIdeal.nD) → Buf (Elt Ideal) ((c.tc : Thread Cert.ProjIdeal.nD Cert.ProjIdeal.τ).loc Cert.ProjIdeal.main_v19_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_0) = v0 c
          ∧ r.2.mem ((c.tc : Thread Cert.ProjIdeal.nD Cert.ProjIdeal.τ).loc Cert.ProjIdeal.main_v19_1) = v1 c
          ∧ r.2.mem ((c.tc : Thread Cert.ProjIdeal.nD Cert.ProjIdeal.τ).loc Cert.ProjIdeal.main_v19_2) = v2 c
          ∧ r.2.mem ((c.tc : Thread Cert.ProjIdeal.nD Cert.ProjIdeal.τ).loc Cert.ProjIdeal.main_v19_3) = v3 c
          ∧ r.2.mem ((c.tc : Thread Cert.ProjIdeal.nD Cert.ProjIdeal.τ).loc Cert.ProjIdeal.main_v19_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v44) = v0 c
          ∧ r.2.mem ((c.tc : Thread Cert.ProjRefIdeal.nD Cert.ProjRefIdeal.τ).loc Cert.ProjRefIdeal.main_v45) = v1 c
          ∧ r.2.mem ((c.tc : Thread Cert.ProjRefIdeal.nD Cert.ProjRefIdeal.τ).loc Cert.ProjRefIdeal.main_v46) = v2 c
          ∧ r.2.mem ((c.tc : Thread Cert.ProjRefIdeal.nD Cert.ProjRefIdeal.τ).loc Cert.ProjRefIdeal.main_v47) = v3 c
          ∧ r.2.mem ((c.tc : Thread Cert.ProjRefIdeal.nD Cert.ProjRefIdeal.τ).loc Cert.ProjRefIdeal.main_v49) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Stick_StickIdeal : Prop :=
  IdealRules.named_const.Statement Cert.StickIdeal.κ "mask" .f32 0xF149F2CA#32 ⊥

def algebraic_StickIdeal_StickRefIdeal_pre_finite3 [hStickIdeal : Cert.StickIdeal.Facts] [hStickRefIdeal : Cert.StickRefIdeal.Facts] [hPre_finite3 : Cert.Pre_finite3.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_finite3 m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v34) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0))

def preserves_Fox_FoxIdeal : Prop :=
  IdealRules.named_const.Statement Cert.FoxIdeal.κ "mask" .f32 0xF149F2CA#32 ⊥

def algebraic_FoxIdeal_FoxRefIdeal_pre_finite4 [hFoxIdeal : Cert.FoxIdeal.Facts] [hFoxRefIdeal : Cert.FoxRefIdeal.Facts] [hPre_finite4 : Cert.Pre_finite4.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite4 m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v43) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def Claim : Prop :=
  ∃ (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hStick : Cert.Stick.Facts) (hStickIdeal : Cert.StickIdeal.Facts) (hStickRefIdeal : Cert.StickRefIdeal.Facts) (hFox : Cert.Fox.Facts) (hFoxIdeal : Cert.FoxIdeal.Facts) (hFoxRefIdeal : Cert.FoxRefIdeal.Facts) (hPre_finite3 : Cert.Pre_finite3.Facts) (hPre_finite4 : Cert.Pre_finite4.Facts),
    quiescent_Post (hPost := hPost)
    ∧ quiescent_PostIdeal (hPostIdeal := hPostIdeal)
    ∧ quiescent_PostRefIdeal (hPostRefIdeal := hPostRefIdeal)
    ∧ quiescent_Proj (hProj := hProj)
    ∧ quiescent_ProjIdeal (hProjIdeal := hProjIdeal)
    ∧ quiescent_ProjRefIdeal (hProjRefIdeal := hProjRefIdeal)
    ∧ quiescent_Stick (hStick := hStick)
    ∧ quiescent_StickIdeal (hStickIdeal := hStickIdeal)
    ∧ quiescent_StickIdeal_pre_finite3 (hStickIdeal := hStickIdeal) (hPre_finite3 := hPre_finite3)
    ∧ quiescent_StickRefIdeal (hStickRefIdeal := hStickRefIdeal)
    ∧ quiescent_StickRefIdeal_pre_finite3 (hStickRefIdeal := hStickRefIdeal) (hPre_finite3 := hPre_finite3)
    ∧ quiescent_Fox (hFox := hFox)
    ∧ quiescent_FoxIdeal (hFoxIdeal := hFoxIdeal)
    ∧ quiescent_FoxIdeal_pre_finite4 (hFoxIdeal := hFoxIdeal) (hPre_finite4 := hPre_finite4)
    ∧ quiescent_FoxRefIdeal (hFoxRefIdeal := hFoxRefIdeal)
    ∧ quiescent_FoxRefIdeal_pre_finite4 (hFoxRefIdeal := hFoxRefIdeal) (hPre_finite4 := hPre_finite4)
    ∧ preserves_Post_PostIdeal
    ∧ algebraic_PostIdeal_PostRefIdeal (hPostIdeal := hPostIdeal) (hPostRefIdeal := hPostRefIdeal)
    ∧ preserves_Proj_ProjIdeal
    ∧ algebraic_ProjIdeal_ProjRefIdeal (hProjIdeal := hProjIdeal) (hProjRefIdeal := hProjRefIdeal)
    ∧ preserves_Stick_StickIdeal
    ∧ algebraic_StickIdeal_StickRefIdeal_pre_finite3 (hStickIdeal := hStickIdeal) (hStickRefIdeal := hStickRefIdeal) (hPre_finite3 := hPre_finite3)
    ∧ preserves_Fox_FoxIdeal
    ∧ algebraic_FoxIdeal_FoxRefIdeal_pre_finite4 (hFoxIdeal := hFoxIdeal) (hFoxRefIdeal := hFoxRefIdeal) (hPre_finite4 := hPre_finite4)
-- ==== Pre_finite3.lean ====
abbrev S16x2048x1536 : Shape := ⟨3, ![16, 2048, 1536]⟩
abbrev S16x2048x1024 : Shape := ⟨3, ![16, 2048, 1024]⟩
abbrev S_ : Shape := ⟨0, ![]⟩

class Facts : Prop where
  slices_S16x2048x1536_S16x2048x1024_0_0_0 : S16x2048x1536.Slices ![0, 0, 0] S16x2048x1024
  bitsLt_bf16_f32 : FTy.bits .bf16 < FTy.bits .f32
  bcast_S_S16x2048x1024 : S_.BroadcastsInDim S16x2048x1024 (![] : Fin 0 → Fin S16x2048x1024.rank)

variable [Facts]

def fn {F : FTy → Type} [FloatOps F] (main_arg0 : FVec F S16x2048x1536 .bf16) : IVec S16x2048x1024 1 :=
  let main_v0 : FVec F S16x2048x1024 .bf16 := (extractStridedSlice S16x2048x1024 ![0, 0, 0] · slices_S16x2048x1536_S16x2048x1024_0_0_0) main_arg0
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  main_v4
-- ==== Pre_finite4.lean ====
abbrev S16x2048x1536 : Shape := ⟨3, ![16, 2048, 1536]⟩
abbrev S16x2048x128 : Shape := ⟨3, ![16, 2048, 128]⟩
abbrev S16x8x2048 : Shape := ⟨3, ![16, 8, 2048]⟩
abbrev S16x2048x1024 : Shape := ⟨3, ![16, 2048, 1024]⟩
abbrev S_ : Shape := ⟨0, ![]⟩
abbrev S16x2048x8x128 : Shape := ⟨4, ![16, 2048, 8, 128]⟩
abbrev S16x2048x1x128 : Shape := ⟨4, ![16, 2048, 1, 128]⟩
abbrev S16x2048x8 : Shape := ⟨3, ![16, 2048, 8]⟩
abbrev S16x2048x8x1 : Shape := ⟨4, ![16, 2048, 8, 1]⟩

class Facts : Prop where
  slices_S16x2048x1536_S16x2048x1024_0_0_0 : S16x2048x1536.Slices ![0, 0, 0] S16x2048x1024
  bitsLt_bf16_f32 : FTy.bits .bf16 < FTy.bits .f32
  bcast_S_S16x2048x1024 : S_.BroadcastsInDim S16x2048x1024 (![] : Fin 0 → Fin S16x2048x1024.rank)
  shapeCasts_S16x2048x1024_S16x2048x8x128 : S16x2048x1024.ShapeCasts S16x2048x8x128
  bcast_S_S16x2048x128 : S_.BroadcastsInDim S16x2048x128 (![] : Fin 0 → Fin S16x2048x128.rank)
  bcast_S16x2048x128_S16x2048x1x128_0_1_3 : S16x2048x128.BroadcastsInDim S16x2048x1x128 (![0, 1, 3] : Fin 3 → Fin S16x2048x1x128.rank)
  bcast_S_S16x8x2048 : S_.BroadcastsInDim S16x8x2048 (![] : Fin 0 → Fin S16x8x2048.rank)
  transposes_S16x8x2048_S16x2048x8_0_2_1 : S16x8x2048.Transposes [0, 2, 1] S16x2048x8
  bcast_S16x2048x8_S16x2048x8x1_0_1_2 : S16x2048x8.BroadcastsInDim S16x2048x8x1 (![0, 1, 2] : Fin 3 → Fin S16x2048x8x1.rank)
  bcast_S16x2048x1x128_S16x2048x8x128_0_1_2_3 : S16x2048x1x128.BroadcastsInDim S16x2048x8x128 (![0, 1, 2, 3] : Fin 4 → Fin S16x2048x8x128.rank)
  bcast_S16x2048x8x1_S16x2048x8x128_0_1_2_3 : S16x2048x8x1.BroadcastsInDim S16x2048x8x128 (![0, 1, 2, 3] : Fin 4 → Fin S16x2048x8x128.rank)

variable [Facts]

def fn {F : FTy → Type} [FloatOps F] (main_arg0 : FVec F S16x2048x1536 .bf16) (main_arg1 : FVec F S16x2048x128 .f32) (main_arg2 : FVec F S16x8x2048 .f32) : IVec S16x2048x8x128 1 :=
  let main_v0 : FVec F S16x2048x1024 .bf16 := (extractStridedSlice S16x2048x1024 ![0, 0, 0] · slices_S16x2048x1536_S16x2048x1024_0_0_0) main_arg0
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  let main_v5 : IVec S16x2048x8x128 1 := shapeCast S16x2048x8x128 main_v4 shapeCasts_S16x2048x1024_S16x2048x8x128
  let main_v6 : FVec F S16x2048x128 .f32 := Host.absf main_arg1
  let main_cst_0 : FVec F S_ .f32 := constant S_ .f32 0x7F800000#32
  let main_v7 : FVec F S16x2048x128 .f32 := broadcastInDim S16x2048x128 ![] bcast_S_S16x2048x128 main_cst_0
  let main_v8 : IVec S16x2048x128 1 := cmpf .olt main_v6 main_v7
  let main_v9 : IVec S16x2048x1x128 1 := broadcastInDim S16x2048x1x128 ![0, 1, 3] bcast_S16x2048x128_S16x2048x1x128_0_1_3 main_v8
  let main_v10 : FVec F S16x8x2048 .f32 := Host.absf main_arg2
  let main_cst_1 : FVec F S_ .f32 := constant S_ .f32 0x7F800000#32
  let main_v11 : FVec F S16x8x2048 .f32 := broadcastInDim S16x8x2048 ![] bcast_S_S16x8x2048 main_cst_1
  let main_v12 : IVec S16x8x2048 1 := cmpf .olt main_v10 main_v11
  let main_v13 : IVec S16x2048x8 1 := (transpose S16x2048x8 [0, 2, 1] · transposes_S16x8x2048_S16x2048x8_0_2_1) main_v12
  let main_v14 : IVec S16x2048x8x1 1 := broadcastInDim S16x2048x8x1 ![0, 1, 2] bcast_S16x2048x8_S16x2048x8x1_0_1_2 main_v13
  let main_v15 : IVec S16x2048x8x128 1 := broadcastInDim S16x2048x8x128 ![0, 1, 2, 3] bcast_S16x2048x1x128_S16x2048x8x128_0_1_2_3 main_v9
  let main_v16 : IVec S16x2048x8x128 1 := andi main_v5 main_v15
  let main_v17 : IVec S16x2048x8x128 1 := broadcastInDim S16x2048x8x128 ![0, 1, 2, 3] bcast_S16x2048x8x1_S16x2048x8x128_0_1_2_3 main_v14
  let main_v18 : IVec S16x2048x8x128 1 := andi main_v16 main_v17
  main_v18
-- ==== Post.lean ====
abbrev S16x2048x1024 : Shape := ⟨3, ![16, 2048, 1024]⟩
abbrev S16x2048x512 : Shape := ⟨3, ![16, 2048, 512]⟩
abbrev S16x2048x2048 : Shape := ⟨3, ![16, 2048, 2048]⟩
abbrev S1x16x2048x256 : Shape := ⟨4, ![1, 16, 2048, 256]⟩
abbrev S1x2x1024 : Shape := ⟨3, ![1, 2, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S2x1024 : Shape := ⟨2, ![2, 1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S32768x1024 : Shape := ⟨2, ![32768, 1024]⟩
abbrev S32768x512 : Shape := ⟨2, ![32768, 512]⟩
abbrev S32768x2048 : Shape := ⟨2, ![32768, 2048]⟩
abbrev S16x2048x256 : Shape := ⟨3, ![16, 2048, 256]⟩
abbrev S32768x256 : Shape := ⟨2, ![32768, 256]⟩
abbrev S512x512 : Shape := ⟨2, ![512, 512]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩

abbrev nBuf : Space → Nat
  | .hbm => 46
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x2048, .f32⟩
  | .hbm, ⟨4, _⟩ => ⟨S1x16x2048x256, .f32⟩
  | .hbm, ⟨5, _⟩ => ⟨S1x2x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S2x1024, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S1024x4096, .f32⟩
  | .hbm, ⟨26, _⟩ => ⟨S1024x4096, .bf16⟩
  | .hbm, ⟨27, _⟩ => ⟨S4096x1024, .f32⟩
  | .hbm, ⟨28, _⟩ => ⟨S4096x1024, .bf16⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .bf16⟩
  | .hbm, ⟨33, _⟩ => ⟨S256x1024, .f32⟩
  | .hbm, ⟨34, _⟩ => ⟨S256x1024, .bf16⟩
  | .hbm, ⟨35, _⟩ => ⟨S1x1024, .f32⟩
  | .hbm, ⟨36, _⟩ => ⟨S32768x1024, .f32⟩
  | .hbm, ⟨37, _⟩ => ⟨S16x2048x512, .bf16⟩
  | .hbm, ⟨38, _⟩ => ⟨S32768x512, .bf16⟩
  | .hbm, ⟨39, _⟩ => ⟨S16x2048x512, .bf16⟩
  | .hbm, ⟨40, _⟩ => ⟨S32768x512, .bf16⟩
  | .hbm, ⟨41, _⟩ => ⟨S16x2048x2048, .bf16⟩
  | .hbm, ⟨42, _⟩ => ⟨S32768x2048, .bf16⟩
  | .hbm, ⟨43, _⟩ => ⟨S16x2048x256, .f32⟩
  | .hbm, ⟨44, _⟩ => ⟨S32768x256, .f32⟩
  | .hbm, ⟨45, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x256, .f32⟩
  | .local _ .vmem, ⟨9, _⟩ => ⟨S512x256, .f32⟩
  | .local _ .vmem, ⟨10, _⟩ => ⟨S2x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x4096, .bf16⟩
  | .local _ .vmem, ⟨16, _⟩ => ⟨S4096x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostRefIdeal.lean ====
abbrev S16x2048x1024 : Shape := ⟨3, ![16, 2048, 1024]⟩
abbrev S16x2048x512 : Shape := ⟨3, ![16, 2048, 512]⟩
abbrev S16x2048x2048 : Shape := ⟨3, ![16, 2048, 2048]⟩
abbrev S1x16x2048x256 : Shape := ⟨4, ![1, 16, 2048, 256]⟩
abbrev S1x2x1024 : Shape := ⟨3, ![1, 2, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S512x1024 : Shape := ⟨2, ![512, 1024]⟩
abbrev S1x1x1024 : Shape := ⟨3, ![1, 1, 1024]⟩
abbrev S_ : Shape := ⟨0, ![]⟩
abbrev S1024x1024 : Shape := ⟨2, ![1024, 1024]⟩
abbrev S16x2048 : Shape := ⟨2, ![16, 2048]⟩
abbrev S16x2048x1 : Shape := ⟨3, ![16, 2048, 1]⟩
abbrev S1024x4096 : Shape := ⟨2, ![1024, 4096]⟩
abbrev S16x2048x4096 : Shape := ⟨3, ![16, 2048, 4096]⟩
abbrev S4096x1024 : Shape := ⟨2, ![4096, 1024]⟩
abbrev S16x2048x256 : Shape := ⟨3, ![16, 2048, 256]⟩
abbrev S256x1024 : Shape := ⟨2, ![256, 1024]⟩
abbrev S32768x1024 : Shape := ⟨2, ![32768, 1024]⟩

abbrev nBuf : Space → Nat
  | .hbm => 129
  | .vmem => 0
  | .smem => 0
  | _ => 0

abbrev hbmTy0_0 (i : Nat) : BufTy := match i % 128 with
  | 0 => ⟨S16x2048x1024, .f32⟩
  | 1 => ⟨S16x2048x512, .f32⟩
  | 2 => ⟨S16x2048x512, .f32⟩
  | 3 => ⟨S16x2048x2048, .f32⟩
  | 4 => ⟨S1x16x2048x256, .f32⟩
  | 5 => ⟨S1x2x1024, .f32⟩
  | 6 => ⟨S1x512x1024, .f32⟩
  | 7 => ⟨S1x512x1024, .f32⟩
  | 8 => ⟨S1x1024x1024, .f32⟩
  | 9 => ⟨S1x1024, .f32⟩
  | 10 => ⟨S1x1024x4096, .f32⟩
  | 11 => ⟨S1x4096x1024, .f32⟩
  | 12 => ⟨S1x1024, .f32⟩
  | 13 => ⟨S1x1024x1024, .f32⟩
  | 14 => ⟨S1x256x1024, .f32⟩
  | 15 => ⟨S1024, .f32⟩
  | 16 => ⟨S512x1024, .f32⟩
  | 17 => ⟨S16x2048x1024, .f32⟩
  | 18 => ⟨S512x1024, .f32⟩
  | 19 => ⟨S16x2048x1024, .f32⟩
  | 20 => ⟨S16x2048x1024, .f32⟩
  | 21 => ⟨S1x1x1024, .f32⟩
  | 22 => ⟨S1024, .f32⟩
  | 23 => ⟨S1x1x1024, .f32⟩
  | 24 => ⟨S16x2048x1024, .f32⟩
  | 25 => ⟨S16x2048x1024, .f32⟩
  | 26 => ⟨S16x2048x1024, .f32⟩
  | 27 => ⟨S16x2048x1024, .f32⟩
  | 28 => ⟨S_, .f32⟩
  | 29 => ⟨S16x2048x1024, .f32⟩
  | 30 => ⟨S16x2048x1024, .f32⟩
  | 31 => ⟨S_, .f32⟩
  | 32 => ⟨S16x2048x1024, .f32⟩
  | 33 => ⟨S16x2048x1024, .f32⟩
  | 34 => ⟨S16x2048x1024, .f32⟩
  | 35 => ⟨S16x2048x1024, .f32⟩
  | 36 => ⟨S1x1x1024, .f32⟩
  | 37 => ⟨S1024, .f32⟩
  | 38 => ⟨S1x1x1024, .f32⟩
  | 39 => ⟨S16x2048x1024, .f32⟩
  | 40 => ⟨S16x2048x1024, .f32⟩
  | 41 => ⟨S16x2048x1024, .f32⟩
  | 42 => ⟨S16x2048x1024, .f32⟩
  | 43 => ⟨S_, .f32⟩
  | 44 => ⟨S16x2048x1024, .f32⟩
  | 45 => ⟨S16x2048x1024, .f32⟩
  | 46 => ⟨S_, .f32⟩
  | 47 => ⟨S16x2048x1024, .f32⟩
  | 48 => ⟨S16x2048x1024, .f32⟩
  | 49 => ⟨S16x2048x1024, .f32⟩
  | 50 => ⟨S16x2048x1024, .f32⟩
  | 51 => ⟨S1024x1024, .f32⟩
  | 52 => ⟨S16x2048x1024, .f32⟩
  | 53 => ⟨S16x2048x1024, .f32⟩
  | 54 => ⟨S1024, .f32⟩
  | 55 => ⟨S16x2048x1024, .f32⟩
  | 56 => ⟨S_, .f32⟩
  | 57 => ⟨S16x2048, .f32⟩
  | 58 => ⟨S16x2048x1, .f32⟩
  | 59 => ⟨S_, .f32⟩
  | 60 => ⟨S16x2048x1, .f32⟩
  | 61 => ⟨S16x2048x1, .f32⟩
  | 62 => ⟨S_, .f32⟩
  | 63 => ⟨S16x2048x1, .f32⟩
  | 64 => ⟨S16x2048x1, .f32⟩
  | 65 => ⟨S16x2048x1, .f32⟩
  | 66 => ⟨S16x2048x1024, .f32⟩
  | 67 => ⟨S16x2048x1024, .f32⟩
  | 68 => ⟨S1x1x1024, .f32⟩
  | 69 => ⟨S16x2048x1024, .f32⟩
  | 70 => ⟨S16x2048x1024, .f32⟩
  | 71 => ⟨S1024x4096, .f32⟩
  | 72 => ⟨S16x2048x4096, .f32⟩
  | 73 => ⟨S_, .f32⟩
  | 74 => ⟨S16x2048x4096, .f32⟩
  | 75 => ⟨S16x2048x4096, .f32⟩
  | 76 => ⟨S16x2048x4096, .f32⟩
  | 77 => ⟨S4096x1024, .f32⟩
  | 78 => ⟨S16x2048x1024, .f32⟩
  | 79 => ⟨S16x2048x1024, .f32⟩
  | 80 => ⟨S1024, .f32⟩
  | 81 => ⟨S16x2048x1024, .f32⟩
  | 82 => ⟨S_, .f32⟩
  | 83 => ⟨S16x2048, .f32⟩
  | 84 => ⟨S16x2048x1, .f32⟩
  | 85 => ⟨S_, .f32⟩
  | 86 => ⟨S16x2048x1, .f32⟩
  | 87 => ⟨S16x2048x1, .f32⟩
  | 88 => ⟨S_, .f32⟩
  | 89 => ⟨S16x2048x1, .f32⟩
  | 90 => ⟨S16x2048x1, .f32⟩
  | 91 => ⟨S16x2048x1, .f32⟩
  | 92 => ⟨S16x2048x1024, .f32⟩
  | 93 => ⟨S16x2048x1024, .f32⟩
  | 94 => ⟨S1x1x1024, .f32⟩
  | 95 => ⟨S16x2048x1024, .f32⟩
  | 96 => ⟨S16x2048x1024, .f32⟩
  | 97 => ⟨S1024x1024, .f32⟩
  | 98 => ⟨S16x2048x1024, .f32⟩
  | 99 => ⟨S16x2048x1024, .f32⟩
  | 100 => ⟨S16x2048x1024, .f32⟩
  | 101 => ⟨S_, .f32⟩
  | 102 => ⟨S16x2048x1024, .f32⟩
  | 103 => ⟨S16x2048x1024, .f32⟩
  | 104 => ⟨S_, .f32⟩
  | 105 => ⟨S16x2048x1024, .f32⟩
  | 106 => ⟨S16x2048x1024, .f32⟩
  | 107 => ⟨S16x2048x256, .f32⟩
  | 108 => ⟨S256x1024, .f32⟩
  | 109 => ⟨S16x2048x1024, .f32⟩
  | 110 => ⟨S16x2048x1024, .f32⟩
  | 111 => ⟨S16x2048x1024, .f32⟩
  | 112 => ⟨S16x2048x1024, .f32⟩
  | 113 => ⟨S_, .f32⟩
  | 114 => ⟨S16x2048, .f32⟩
  | 115 => ⟨S16x2048x1, .f32⟩
  | 116 => ⟨S_, .f32⟩
  | 117 => ⟨S16x2048x1, .f32⟩
  | 118 => ⟨S16x2048x1, .f32⟩
  | 119 => ⟨S_, .f32⟩
  | 120 => ⟨S16x2048x1, .f32⟩
  | 121 => ⟨S16x2048x1, .f32⟩
  | 122 => ⟨S16x2048x1, .f32⟩
  | 123 => ⟨S16x2048x1024, .f32⟩
  | 124 => ⟨S16x2048x1024, .f32⟩
  | 125 => ⟨S1x1x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_cst : Ref sig .tc := ⟨.hbm, 73, rfl⟩
abbrev main_call0_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_cst_7 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_9 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_11 : Ref sig .tc := ⟨.hbm, 113, rfl⟩
abbrev main_v83 : Ref sig .tc := ⟨.hbm, 114, rfl⟩
abbrev main_v84 : Ref sig .tc := ⟨.hbm, 115, rfl⟩
abbrev main_cst_12 : Ref sig .tc := ⟨.hbm, 116, rfl⟩
abbrev main_v85 : Ref sig .tc := ⟨.hbm, 117, rfl⟩
abbrev main_v86 : Ref sig .tc := ⟨.hbm, 118, rfl⟩
abbrev main_cst_13 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Proj.lean ====
abbrev S16x2048x1024 : Shape := ⟨3, ![16, 2048, 1024]⟩
abbrev S1x1024 : Shape := ⟨2, ![1, 1024]⟩
abbrev S1x1024x5128 : Shape := ⟨3, ![1, 1024, 5128]⟩
abbrev S1x8 : Shape := ⟨2, ![1, 8]⟩
abbrev S1024x5128 : Shape := ⟨2, ![1024, 5128]⟩
abbrev S1024x1536 : Shape := ⟨2, ![1024, 1536]⟩
abbrev S1024x8 : Shape := ⟨2, ![1024, 8]⟩
abbrev S1024x2048 : Shape := ⟨2, ![1024, 2048]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S32768x1024 : Shape := ⟨2, ![32768, 1024]⟩
abbrev S1024 : Shape := ⟨1, ![1024]⟩
abbrev S32768x1536 : Shape := ⟨2, ![32768, 1536]⟩
abbrev S32768x2048 : Shape := ⟨2, ![32768, 2048]⟩
abbrev S32768x128 : Shape := ⟨2, ![32768, 128]⟩
abbrev S16x8x2048 : Shape := ⟨3, ![16, 8, 2048]⟩
abbrev S512x1024 : Shape := ⟨2, ![512, 1024]⟩
abbrev S512x1536 : Shape := ⟨2, ![512, 1536]⟩
abbrev S512x2048 : Shape := ⟨2, ![512, 2048]⟩
abbrev S512x128 : Shape := ⟨2, ![512, 128]⟩
abbrev S1x8x512 : Shape := ⟨3, ![1, 8, 512]⟩
abbrev S512 : Shape := ⟨1, ![512]⟩
abbrev S512x1 : Shape := ⟨2, ![512, 1]⟩
abbrev S128x128 : Shape := ⟨2, ![128, 128]⟩
abbrev S512x512 : Shape := ⟨2, ![512, 512]⟩
abbrev S8x128 : Shape := ⟨2, ![8, 128]⟩
abbrev S1x8x128 : Shape := ⟨3, ![1, 8, 128]⟩

abbrev nBuf : Space → Nat
  | .hbm => 32
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x5128, .f32⟩
  | .hbm, ⟨3, _⟩ => ⟨S1x8, .f32⟩
  | .hbm, ⟨4, _⟩ => ⟨S1024x5128, .f32⟩
  | .hbm, ⟨5, _⟩ => ⟨S1024x1536, .f32⟩
  | .hbm, ⟨6, _⟩ => ⟨S1024x1536, .bf16⟩
  | .hbm, ⟨7, _⟩ => ⟨S1024x5128, .f32⟩
  | .hbm, ⟨8, _⟩ => ⟨S1024x8, .f32⟩
  | .hbm, ⟨9, _⟩ => ⟨S1024x8, .bf16⟩
  | .hbm, ⟨10, _⟩ => ⟨S1024x5128, .f32⟩
  | .hbm, ⟨11, _⟩ => ⟨S1024x1536, .f32⟩
  | .hbm, ⟨12, _⟩ => ⟨S1024x1536, .bf16⟩
  | .hbm, ⟨13, _⟩ => ⟨S1024x5128, .f32⟩
  | .hbm, ⟨14, _⟩ => ⟨S1024x2048, .f32⟩
  | .hbm, ⟨15, _⟩ => ⟨S1024x2048, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S8, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S32768x1024, .f32⟩
  | .hbm, ⟨25, _⟩ => ⟨S1024, .f32⟩
  | .hbm, ⟨26, _⟩ => ⟨S1x1024, .f32⟩
  | .hbm, ⟨27, _⟩ => ⟨S32768x1536, .bf16⟩
  | .hbm, ⟨28, _⟩ => ⟨S32768x1536, .bf16⟩
  | .hbm, ⟨29, _⟩ => ⟨S32768x2048, .bf16⟩
  | .hbm, ⟨30, _⟩ => ⟨S32768x128, .f32⟩
  | .hbm, ⟨31, _⟩ => ⟨S16x8x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1024x1536, .bf16⟩
  | .local _ .vmem, ⟨6, _⟩ => ⟨S1024x2048, .bf16⟩
  | .local _ .vmem, ⟨7, _⟩ => ⟨S1x128, .f32⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | .local _ .vmem, ⟨12, _⟩ => ⟨S512x2048, .bf16⟩
  | .local _ .vmem, ⟨13, _⟩ => ⟨S512x2048, .bf16⟩
  | .local _ .vmem, ⟨14, _⟩ => ⟨S512x128, .f32⟩
  | .local _ .vmem, ⟨15, _⟩ => ⟨S512x128, .f32⟩
  | .local _ .vmem, ⟨16, _⟩ => ⟨S1x8x512, .f32⟩
  | .local _ .vmem, ⟨17, _⟩ => ⟨S1x8x512, .f32⟩
  | .local _ .vmem, ⟨18, _⟩ => ⟨S1x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S16x2048x1024 : Shape := ⟨3, ![16, 2048, 1024]⟩
abbrev S1x1024 : Shape := ⟨2, ![1, 1024]⟩
abbrev S1x1024x5128 : Shape := ⟨3, ![1, 1024, 5128]⟩
abbrev S1x8 : Shape := ⟨2, ![1, 8]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5128 : Shape := ⟨2, ![1024, 5128]⟩
abbrev S16x2048x5128 : Shape := ⟨3, ![16, 2048, 5128]⟩
abbrev S16x2048x512 : Shape := ⟨3, ![16, 2048, 512]⟩
abbrev S16x2048x8 : Shape := ⟨3, ![16, 2048, 8]⟩
abbrev S8 : Shape := ⟨1, ![8]⟩
abbrev S1x1x8 : Shape := ⟨3, ![1, 1, 8]⟩
abbrev S16x2048x128 : Shape := ⟨3, ![16, 2048, 128]⟩
abbrev S16x2048x1536 : Shape := ⟨3, ![16, 2048, 1536]⟩
abbrev S16x2048x2048 : Shape := ⟨3, ![16, 2048, 2048]⟩
abbrev S32768x1536 : Shape := ⟨2, ![32768, 1536]⟩
abbrev S32768x2048 : Shape := ⟨2, ![32768, 2048]⟩
abbrev S32768x128 : Shape := ⟨2, ![32768, 128]⟩
abbrev S16x8x2048 : Shape := ⟨3, ![16, 8, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x5128, .f32⟩
  | .hbm, ⟨3, _⟩ => ⟨S1x8, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1024x5128, .f32⟩
  | .hbm, ⟨22, _⟩ => ⟨S16x2048x5128, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x8, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S16x2048x1024, .f32⟩
  | .hbm, ⟨31, _⟩ => ⟨S16x2048x1024, .f32⟩
  | .hbm, ⟨32, _⟩ => ⟨S8, .f32⟩
  | .hbm, ⟨33, _⟩ => ⟨S1x1x8, .f32⟩
  | .hbm, ⟨34, _⟩ => ⟨S16x2048x8, .f32⟩
  | .hbm, ⟨35, _⟩ => ⟨S16x2048x8, .f32⟩
  | .hbm, ⟨36, _⟩ => ⟨S_, .i32⟩
  | .hbm, ⟨37, _⟩ => ⟨S_, .f32⟩
  | .hbm, ⟨38, _⟩ => ⟨S16x2048x128, .f32⟩
  | .hbm, ⟨39, _⟩ => ⟨S16x2048x128, .f32⟩
  | .hbm, ⟨40, _⟩ => ⟨S_, .f32⟩
  | .hbm, ⟨41, _⟩ => ⟨S16x2048x128, .f32⟩
  | .hbm, ⟨42, _⟩ => ⟨S16x2048x128, .f32⟩
  | .hbm, ⟨43, _⟩ => ⟨S16x2048x128, .f32⟩
  | .hbm, ⟨44, _⟩ => ⟨S16x2048x128, .f32⟩
  | .hbm, ⟨45, _⟩ => ⟨S16x2048x128, .i1⟩
  | .hbm, ⟨46, _⟩ => ⟨S16x2048x128, .f32⟩
  | .hbm, ⟨47, _⟩ => ⟨S16x2048x128, .f32⟩
  | .hbm, ⟨48, _⟩ => ⟨S16x2048x128, .f32⟩
  | .hbm, ⟨49, _⟩ => ⟨S16x2048x128, .f32⟩
  | .hbm, ⟨50, _⟩ => ⟨S16x2048x128, .f32⟩
  | .hbm, ⟨51, _⟩ => ⟨S16x2048x128, .f32⟩
  | .hbm, ⟨52, _⟩ => ⟨S16x2048x128, .f32⟩
  | .hbm, ⟨53, _⟩ => ⟨S16x2048x128, .f32⟩
  | .hbm, ⟨54, _⟩ => ⟨S16x2048x128, .f32⟩
  | .hbm, ⟨55, _⟩ => ⟨S_, .f32⟩
  | .hbm, ⟨56, _⟩ => ⟨S_, .f32⟩
  | .hbm, ⟨57, _⟩ => ⟨S16x2048x128, .f32⟩
  | .hbm, ⟨58, _⟩ => ⟨S_, .f32⟩
  | .hbm, ⟨59, _⟩ => ⟨S16x2048x128, .f32⟩
  | .hbm, ⟨60, _⟩ => ⟨S16x2048x128, .f32⟩
  | .hbm, ⟨61, _⟩ => ⟨S_, .f32⟩
  | .hbm, ⟨62, _⟩ => ⟨S16x2048x512, .f32⟩
  | .hbm, ⟨63, _⟩ => ⟨S16x2048x512, .f32⟩
  | .hbm, ⟨64, _⟩ => ⟨S16x2048x1536, .f32⟩
  | .hbm, ⟨65, _⟩ => ⟨S16x2048x1536, .bf16⟩
  | .hbm, ⟨66, _⟩ => ⟨S_, .f32⟩
  | .hbm, ⟨67, _⟩ => ⟨S16x2048x512, .f32⟩
  | .hbm, ⟨68, _⟩ => ⟨S16x2048x512, .f32⟩
  | .hbm, ⟨69, _⟩ => ⟨S16x2048x1536, .f32⟩
  | .hbm, ⟨70, _⟩ => ⟨S16x2048x1536, .bf16⟩
  | .hbm, ⟨71, _⟩ => ⟨S16x2048x2048, .f32⟩
  | .hbm, ⟨72, _⟩ => ⟨S16x2048x2048, .bf16⟩
  | .hbm, ⟨73, _⟩ => ⟨S32768x1536, .bf16⟩
  | .hbm, ⟨74, _⟩ => ⟨S32768x1536, .bf16⟩
  | .hbm, ⟨75, _⟩ => ⟨S32768x2048, .bf16⟩
  | .hbm, ⟨76, _⟩ => ⟨S32768x128, .f32⟩
  | .hbm, ⟨77, _⟩ => ⟨S16x2048x8, .f32⟩
  | .hbm, ⟨78, _⟩ => ⟨S16x8x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_call0_v0 : Ref sig .tc := ⟨.hbm, 37, rfl⟩
abbrev main_v29 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v30 : Ref sig .tc := ⟨.hbm, 54, rfl⟩
abbrev main_call2_call0_cst : Ref sig .tc := ⟨.hbm, 55, rfl⟩
abbrev main_call2_call0_v0 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_cst_3 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Stick.lean ====
abbrev S16x2048x1536 : Shape := ⟨3, ![16, 2048, 1536]⟩
abbrev S16x2048x512 : Shape := ⟨3, ![16, 2048, 512]⟩
abbrev S1x256x256 : Shape := ⟨3, ![1, 256, 256]⟩
abbrev S1x2048x256 : Shape := ⟨3, ![1, 2048, 256]⟩
abbrev S1024x256 : Shape := ⟨2, ![1024, 256]⟩
abbrev S2x256x128 : Shape := ⟨3, ![2, 256, 128]⟩
abbrev S256x256 : Shape := ⟨2, ![256, 256]⟩
abbrev S256x1 : Shape := ⟨2, ![256, 1]⟩
abbrev S256x128 : Shape := ⟨2, ![256, 128]⟩
abbrev S512x128 : Shape := ⟨2, ![512, 128]⟩
abbrev S1x256x128 : Shape := ⟨3, ![1, 256, 128]⟩
abbrev S256x512 : Shape := ⟨2, ![256, 512]⟩

abbrev nBuf : Space → Nat
  | .hbm => 2
  | .vmem => 10
  | .smem => 0
  | _ => 0

abbrev bufTy : (tb : Table) → Fin (tcTables nBuf tb) → BufTy
  | .hbm, ⟨0, _⟩ => ⟨S16x2048x1536, .bf16⟩
  | .hbm, ⟨1, _⟩ => ⟨S16x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1024x256, .bf16⟩
  | .local _ .vmem, ⟨9, _⟩ => ⟨S2x256x128, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def k0_mult1 (i : grid0.Coords) : BitVec 32 :=
  let arg2 : BitVec 32 := BitVec.ofNat 32 (i 2).val
  let c256_i32_22 : BitVec 32 := 256#32
  let v76 : BitVec 32 := Scalar.muli arg2 c256_i32_22
  v76
def k0_off1 (i : grid0.Coords) : Fin 3 → Nat :=
  let c0_23 : Index := 0#32
  let arg2 : BitVec 32 := BitVec.ofNat 32 (i 2).val
  let c256_i32_22 : BitVec 32 := 256#32
  let v76 : BitVec 32 := Scalar.muli arg2 c256_i32_22
  let v77 : BitVec 32 := v76
  let v78 : Index := Scalar.indexCast v77
  let c0_24 : Index := 0#32
  ![0, v78.toNat, 0]
@[reducible] def k0_t1_loop (i : grid0.Coords) : Scf.Loop 32 :=
  let c0_i32_83 : BitVec 32 := 0#32
  let arg2 : BitVec 32 := BitVec.ofNat 32 (i 2).val
  let v291 : BitVec 32 := Scalar.subi arg2 c0_i32_83
  let c1_i32_84 : BitVec 32 := 1#32
  let v293 : BitVec 32 := Scalar.divsi v291 c1_i32_84
  let v294 : BitVec 32 := Scalar.muli v293 c1_i32_84
  let v295 : BitVec 32 := Scalar.addi c0_i32_83 v294
  let c1_i32_85 : BitVec 32 := 1#32
  ⟨c0_i32_83, v295, c1_i32_85⟩
def k0_mult2 (i : grid0.Coords) (k0_t1 : Fin (k0_t1_loop i).trips) : BitVec 32 :=
  let arg2 : BitVec 32 := BitVec.ofNat 32 (i 2).val
  let c1_i32_96 : BitVec 32 := 1#32
  let v307 : BitVec 32 := Scalar.subi arg2 c1_i32_96
  let c0_i32_83 : BitVec 32 := 0#32
  let c1_i32_85 : BitVec 32 := 1#32
  let arg9 : BitVec 32 := Scf.iv c0_i32_83 c1_i32_85 k0_t1
  let v308 : BitVec 32 := Scalar.subi v307 arg9
  let c256_i32_97 : BitVec 32 := 256#32
  let v309 : BitVec 32 := Scalar.muli v308 c256_i32_97
  v309
def k0_off2 (i : grid0.Coords) (k0_t1 : Fin (k0_t1_loop i).trips) : Fin 3 → Nat :=
  let c0_98 : Index := 0#32
  let arg2 : BitVec 32 := BitVec.ofNat 32 (i 2).val
  let c1_i32_96 : BitVec 32 := 1#32
  let v307 : BitVec 32 := Scalar.subi arg2 c1_i32_96
  let c0_i32_83 : BitVec 32 := 0#32
  let c1_i32_85 : BitVec 32 := 1#32
  let arg9 : BitVec 32 := Scf.iv c0_i32_83 c1_i32_85 k0_t1
  let v308 : BitVec 32 := Scalar.subi v307 arg9
  let c256_i32_97 : BitVec 32 := 256#32
  let v309 : BitVec 32 := Scalar.muli v308 c256_i32_97
  let v310 : BitVec 32 := v309
  let v311 : Index := Scalar.indexCast v310
  let c0_99 : Index := 0#32
  ![0, v311.toNat, 0]
@[reducible] def k0_t2_loop (i : grid0.Coords) : Scf.Loop 32 :=
  let c0_i32_83 : BitVec 32 := 0#32
  let arg2 : BitVec 32 := BitVec.ofNat 32 (i 2).val
  let v291 : BitVec 32 := Scalar.subi arg2 c0_i32_83
  let c1_i32_84 : BitVec 32 := 1#32
  let v293 : BitVec 32 := Scalar.divsi v291 c1_i32_84
  let v294 : BitVec 32 := Scalar.muli v293 c1_i32_84
  let v295 : BitVec 32 := Scalar.addi c0_i32_83 v294
  let v292 : BitVec 32 := Scalar.addi c0_i32_83 v291
  let c1_i32_86 : BitVec 32 := 1#32
  ⟨v295, v292, c1_i32_86⟩
def k0_mult3 (i : grid0.Coords) (k0_t2 : Fin (k0_t2_loop i).trips) : BitVec 32 :=
  let arg2 : BitVec 32 := BitVec.ofNat 32 (i 2).val
  let c1_i32_96 : BitVec 32 := 1#32
  let v307 : BitVec 32 := Scalar.subi arg2 c1_i32_96
  let c0_i32_83 : BitVec 32 := 0#32
  let v291 : BitVec 32 := Scalar.subi arg2 c0_i32_83
  let c1_i32_84 : BitVec 32 := 1#32
  let v293 : BitVec 32 := Scalar.divsi v291 c1_i32_84
  let v294 : BitVec 32 := Scalar.muli v293 c1_i32_84
  let v295 : BitVec 32 := Scalar.addi c0_i32_83 v294
  let c1_i32_86 : BitVec 32 := 1#32
  let arg9 : BitVec 32 := Scf.iv v295 c1_i32_86 k0_t2
  let v308 : BitVec 32 := Scalar.subi v307 arg9
  let c256_i32_97 : BitVec 32 := 256#32
  let v309 : BitVec 32 := Scalar.muli v308 c256_i32_97
  v309
def k0_off3 (i : grid0.Coords) (k0_t2 : Fin (k0_t2_loop i).trips) : Fin 3 → Nat :=
  let c0_98 : Index := 0#32
  let arg2 : BitVec 32 := BitVec.ofNat 32 (i 2).val
  let c1_i32_96 : BitVec 32 := 1#32
  let v307 : BitVec 32 := Scalar.subi arg2 c1_i32_96
  let c0_i32_83 : BitVec 32 := 0#32
  let v291 : BitVec 32 := Scalar.subi arg2 c0_i32_83
  let c1_i32_84 : BitVec 32 := 1#32
  let v293 : BitVec 32 := Scalar.divsi v291 c1_i32_84
  let v294 : BitVec 32 := Scalar.muli v293 c1_i32_84
  let v295 : BitVec 32 := Scalar.addi c0_i32_83 v294
  let c1_i32_86 : BitVec 32 := 1#32
  let arg9 : BitVec 32 := Scf.iv v295 c1_i32_86 k0_t2
  let v308 : BitVec 32 := Scalar.subi v307 arg9
  let c256_i32_97 : BitVec 32 := 256#32
  let v309 : BitVec 32 := Scalar.muli v308 c256_i32_97
  let v310 : BitVec 32 := v309
  let v311 : Index := Scalar.indexCast v310
  let c0_99 : Index := 0#32
  ![0, v311.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== StickIdeal.lean ====
variable {F : FTy → Type} [FloatOps F] [Named F]
def κ : String → Option EReal := fun
  | "mask" => some ⊥
  | _ => none
-- ==== StickRefIdeal.lean ====
abbrev S16x2048x1536 : Shape := ⟨3, ![16, 2048, 1536]⟩
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1536, .bf16⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S16x2048x8x64, .bf16⟩
  | .hbm, ⟨5, _⟩ => ⟨S16x8x2048x64, .bf16⟩
  | .hbm, ⟨6, _⟩ => ⟨S16x8x2048x64, .f32⟩
  | .hbm, ⟨7, _⟩ => ⟨S16x2048x8x64, .bf16⟩
  | .hbm, ⟨8, _⟩ => ⟨S16x8x2048x64, .bf16⟩
  | .hbm, ⟨9, _⟩ => ⟨S16x8x2048x64, .f32⟩
  | .hbm, ⟨10, _⟩ => ⟨S16x2048x8x64, .bf16⟩
  | .hbm, ⟨11, _⟩ => ⟨S16x8x2048x64, .bf16⟩
  | .hbm, ⟨12, _⟩ => ⟨S16x8x2048x64, .f32⟩
  | .hbm, ⟨13, _⟩ => ⟨S16x8x2048x2048, .f32⟩
  | .hbm, ⟨14, _⟩ => ⟨S_, .f32⟩
  | .hbm, ⟨15, _⟩ => ⟨S16x8x2048x2048, .f32⟩
  | .hbm, ⟨16, _⟩ => ⟨S16x8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S16x8x2048x2048, .f32⟩
  | .hbm, ⟨25, _⟩ => ⟨S16x8x2048x2048, .f32⟩
  | .hbm, ⟨26, _⟩ => ⟨S_, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .i1⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S16x8x2048x2048, .f32⟩
  | .hbm, ⟨39, _⟩ => ⟨S16x8x2048x2048, .f32⟩
  | .hbm, ⟨40, _⟩ => ⟨S16x8x2048x2048, .f32⟩
  | .hbm, ⟨41, _⟩ => ⟨S_, .f32⟩
  | .hbm, ⟨42, _⟩ => ⟨S_, .f32⟩
  | .hbm, ⟨43, _⟩ => ⟨S16x8x2048x2048, .i1⟩
  | .hbm, ⟨44, _⟩ => ⟨S16x8x2048x2048, .f32⟩
  | .hbm, ⟨45, _⟩ => ⟨S16x8x2048x2048, .f32⟩
  | .hbm, ⟨46, _⟩ => ⟨S_, .f32⟩
  | .hbm, ⟨47, _⟩ => ⟨S_, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .f32⟩
  | .hbm, ⟨51, _⟩ => ⟨S_, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .i1⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S16x8x2048x2048, .f32⟩
  | .hbm, ⟨64, _⟩ => ⟨S16x8x2048x2048, .f32⟩
  | .hbm, ⟨65, _⟩ => ⟨S16x8x2048x2048, .f32⟩
  | .hbm, ⟨66, _⟩ => ⟨S16x8x2048x2048, .f32⟩
  | .hbm, ⟨67, _⟩ => ⟨S16x8x2048x2048, .f32⟩
  | .hbm, ⟨68, _⟩ => ⟨S_, .f32⟩
  | .hbm, ⟨69, _⟩ => ⟨S_, .f32⟩
  | .hbm, ⟨70, _⟩ => ⟨S16x8x2048x2048, .i1⟩
  | .hbm, ⟨71, _⟩ => ⟨S16x8x2048x2048, .f32⟩
  | .hbm, ⟨72, _⟩ => ⟨S16x8x2048x2048, .f32⟩
  | .hbm, ⟨73, _⟩ => ⟨S16x8x2048x64, .f32⟩
  | .hbm, ⟨74, _⟩ => ⟨S16x2048x8x64, .f32⟩
  | .hbm, ⟨75, _⟩ => ⟨S16x2048x512, .f32⟩
  | .hbm, ⟨76, _⟩ => ⟨S16x2048x512, .bf16⟩
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v23 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩

abbrev nD : Nat := 1
abbrev τ : Topo := Topo.v7x

variable {F : FTy → Type} [FloatOps F]
-- ==== Fox.lean ====
abbrev S16x2048x1536 : Shape := ⟨3, ![16, 2048, 1536]⟩
abbrev S16x2048x128 : Shape := ⟨3, ![16, 2048, 128]⟩
abbrev S16x8x2048 : Shape := ⟨3, ![16, 8, 2048]⟩
abbrev S16x2048x512 : Shape := ⟨3, ![16, 2048, 512]⟩
abbrev S1x256x256 : Shape := ⟨3, ![1, 256, 256]⟩
abbrev S1x2048x256 : Shape := ⟨3, ![1, 2048, 256]⟩
abbrev S1x256x128 : Shape := ⟨3, ![1, 256, 128]⟩
abbrev S1x8x2048 : Shape := ⟨3, ![1, 8, 2048]⟩
abbrev S1024x256 : Shape := ⟨2, ![1024, 256]⟩
abbrev S2x256x256 : Shape := ⟨3, ![2, 256, 256]⟩
abbrev S256x256 : Shape := ⟨2, ![256, 256]⟩
abbrev S256x128 : Shape := ⟨2, ![256, 128]⟩
abbrev S8x256 : Shape := ⟨2, ![8, 256]⟩
abbrev S256 : Shape := ⟨1, ![256]⟩
abbrev S256x1 : Shape := ⟨2, ![256, 1]⟩
abbrev S1x8x256 : Shape := ⟨3, ![1, 8, 256]⟩
abbrev S1x256 : Shape := ⟨2, ![1, 256]⟩
abbrev S512x256 : Shape := ⟨2, ![512, 256]⟩
abbrev S256x512 : Shape := ⟨2, ![256, 512]⟩

abbrev nBuf : Space → Nat
  | .hbm => 4
  | .vmem => 14
  | .smem => 0
  | _ => 0

abbrev bufTy : (tb : Table) → Fin (tcTables nBuf tb) → BufTy
  | .hbm, ⟨0, _⟩ => ⟨S16x2048x1536, .bf16⟩
  | .hbm, ⟨1, _⟩ => ⟨S16x2048x128, .f32⟩
  | .hbm, ⟨2, _⟩ => ⟨S16x8x2048, .f32⟩
  | .hbm, ⟨3, _⟩ => ⟨S16x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x128, .f32⟩
  | .local _ .vmem, ⟨7, _⟩ => ⟨S1x256x128, .f32⟩
  | .local _ .vmem, ⟨8, _⟩ => ⟨S1x8x2048, .f32⟩
  | .local _ .vmem, ⟨9, _⟩ => ⟨S1x8x2048, .f32⟩
  | .local _ .vmem, ⟨10, _⟩ => ⟨S1x256x256, .bf16⟩
  | .local _ .vmem, ⟨11, _⟩ => ⟨S1x256x256, .bf16⟩
  | .local _ .vmem, ⟨12, _⟩ => ⟨S1024x256, .bf16⟩
  | .local _ .vmem, ⟨13, _⟩ => ⟨S2x256x256, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

@[reducible] def k0_t1_loop (i : grid0.Coords) : Scf.Loop 32 :=
  let c0_i32_42 : BitVec 32 := 0#32
  let arg2 : BitVec 32 := BitVec.ofNat 32 (i 2).val
  let v111 : BitVec 32 := Scalar.subi arg2 c0_i32_42
  let c1_i32_43 : BitVec 32 := 1#32
  let v113 : BitVec 32 := Scalar.divsi v111 c1_i32_43
  let v114 : BitVec 32 := Scalar.muli v113 c1_i32_43
  let v115 : BitVec 32 := Scalar.addi c0_i32_42 v114
  let c1_i32_44 : BitVec 32 := 1#32
  ⟨c0_i32_42, v115, c1_i32_44⟩
def k0_mult1 (i : grid0.Coords) (k0_t1 : Fin (k0_t1_loop i).trips) : BitVec 32 :=
  let c0_i32_42 : BitVec 32 := 0#32
  let c1_i32_44 : BitVec 32 := 1#32
  let arg11 : BitVec 32 := Scf.iv c0_i32_42 c1_i32_44 k0_t1
  let c256_i32_132 : BitVec 32 := 256#32
  let v374 : BitVec 32 := Scalar.muli arg11 c256_i32_132
  v374
def k0_off1 (i : grid0.Coords) (k0_t1 : Fin (k0_t1_loop i).trips) : Fin 3 → Nat :=
  let c0_133 : Index := 0#32
  let c0_i32_42 : BitVec 32 := 0#32
  let c1_i32_44 : BitVec 32 := 1#32
  let arg11 : BitVec 32 := Scf.iv c0_i32_42 c1_i32_44 k0_t1
  let c256_i32_132 : BitVec 32 := 256#32
  let v374 : BitVec 32 := Scalar.muli arg11 c256_i32_132
  let v375 : BitVec 32 := v374
  let v376 : Index := Scalar.indexCast v375
  let c0_134 : Index := 0#32
  ![0, v376.toNat, 0]
def k0_off2 (i : grid0.Coords) (k0_t1 : Fin (k0_t1_loop i).trips) : Fin 3 → Nat :=
  let c0_137 : Index := 0#32
  let c0_138 : Index := 0#32
  let c0_i32_42 : BitVec 32 := 0#32
  let c1_i32_44 : BitVec 32 := 1#32
  let arg11 : BitVec 32 := Scf.iv c0_i32_42 c1_i32_44 k0_t1
  let c256_i32_132 : BitVec 32 := 256#32
  let v374 : BitVec 32 := Scalar.muli arg11 c256_i32_132
  let v375 : BitVec 32 := v374
  let v382 : Index := Scalar.indexCast v375
  ![0, 0, v382.toNat]
@[reducible] def k0_t2_loop (i : grid0.Coords) : Scf.Loop 32 :=
  let c0_i32_42 : BitVec 32 := 0#32
  let arg2 : BitVec 32 := BitVec.ofNat 32 (i 2).val
  let v111 : BitVec 32 := Scalar.subi arg2 c0_i32_42
  let c1_i32_43 : BitVec 32 := 1#32
  let v113 : BitVec 32 := Scalar.divsi v111 c1_i32_43
  let v114 : BitVec 32 := Scalar.muli v113 c1_i32_43
  let v115 : BitVec 32 := Scalar.addi c0_i32_42 v114
  let v112 : BitVec 32 := Scalar.addi c0_i32_42 v111
  let c1_i32_45 : BitVec 32 := 1#32
  ⟨v115, v112, c1_i32_45⟩
def k0_mult2 (i : grid0.Coords) (k0_t2 : Fin (k0_t2_loop i).trips) : BitVec 32 :=
  let c0_i32_42 : BitVec 32 := 0#32
  let arg2 : BitVec 32 := BitVec.ofNat 32 (i 2).val
  let v111 : BitVec 32 := Scalar.subi arg2 c0_i32_42
  let c1_i32_43 : BitVec 32 := 1#32
  let v113 : BitVec 32 := Scalar.divsi v111 c1_i32_43
  let v114 : BitVec 32 := Scalar.muli v113 c1_i32_43
  let v115 : BitVec 32 := Scalar.addi c0_i32_42 v114
  let c1_i32_45 : BitVec 32 := 1#32
  let arg11 : BitVec 32 := Scf.iv v115 c1_i32_45 k0_t2
  let c256_i32_132 : BitVec 32 := 256#32
  let v374 : BitVec 32 := Scalar.muli arg11 c256_i32_132
  v374
def k0_off3 (i : grid0.Coords) (k0_t2 : Fin (k0_t2_loop i).trips) : Fin 3 → Nat :=
  let c0_133 : Index := 0#32
  let c0_i32_42 : BitVec 32 := 0#32
  let arg2 : BitVec 32 := BitVec.ofNat 32 (i 2).val
  let v111 : BitVec 32 := Scalar.subi arg2 c0_i32_42
  let c1_i32_43 : BitVec 32 := 1#32
  let v113 : BitVec 32 := Scalar.divsi v111 c1_i32_43
  let v114 : BitVec 32 := Scalar.muli v113 c1_i32_43
  let v115 : BitVec 32 := Scalar.addi c0_i32_42 v114
  let c1_i32_45 : BitVec 32 := 1#32
  let arg11 : BitVec 32 := Scf.iv v115 c1_i32_45 k0_t2
  let c256_i32_132 : BitVec 32 := 256#32
  let v374 : BitVec 32 := Scalar.muli arg11 c256_i32_132
  let v375 : BitVec 32 := v374
  let v376 : Index := Scalar.indexCast v375
  let c0_134 : Index := 0#32
  ![0, v376.toNat, 0]
def k0_off4 (i : grid0.Coords) (k0_t2 : Fin (k0_t2_loop i).trips) : Fin 3 → Nat :=
  let c0_137 : Index := 0#32
  let c0_138 : Index := 0#32
  let c0_i32_42 : BitVec 32 := 0#32
  let arg2 : BitVec 32 := BitVec.ofNat 32 (i 2).val
  let v111 : BitVec 32 := Scalar.subi arg2 c0_i32_42
  let c1_i32_43 : BitVec 32 := 1#32
  let v113 : BitVec 32 := Scalar.divsi v111 c1_i32_43
  let v114 : BitVec 32 := Scalar.muli v113 c1_i32_43
  let v115 : BitVec 32 := Scalar.addi c0_i32_42 v114
  let c1_i32_45 : BitVec 32 := 1#32
  let arg11 : BitVec 32 := Scf.iv v115 c1_i32_45 k0_t2
  let c256_i32_132 : BitVec 32 := 256#32
  let v374 : BitVec 32 := Scalar.muli arg11 c256_i32_132
  let v375 : BitVec 32 := v374
  let v382 : Index := Scalar.indexCast v375
  ![0, 0, v382.toNat]
def k0_mult3 (i : grid0.Coords) : BitVec 32 :=
  let arg2 : BitVec 32 := BitVec.ofNat 32 (i 2).val
  let c256_i32_46 : BitVec 32 := 256#32
  let v118 : BitVec 32 := Scalar.muli arg2 c256_i32_46
  v118
def k0_off5 (i : grid0.Coords) : Fin 3 → Nat :=
  let c0_47 : Index := 0#32
  let arg2 : BitVec 32 := BitVec.ofNat 32 (i 2).val
  let c256_i32_46 : BitVec 32 := 256#32
  let v118 : BitVec 32 := Scalar.muli arg2 c256_i32_46
  let v119 : BitVec 32 := v118
  let v120 : Index := Scalar.indexCast v119
  let c0_48 : Index := 0#32
  ![0, v120.toNat, 0]
def k0_off6 (i : grid0.Coords) : Fin 3 → Nat :=
  let c0_51 : Index := 0#32
  let c0_52 : Index := 0#32
  let arg2 : BitVec 32 := BitVec.ofNat 32 (i 2).val
  let c256_i32_46 : BitVec 32 := 256#32
  let v118 : BitVec 32 := Scalar.muli arg2 c256_i32_46
  let v119 : BitVec 32 := v118
  let v126 : Index := Scalar.indexCast v119
  ![0, 0, v126.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S16x2048x1536 : Shape := ⟨3, ![16, 2048, 1536]⟩
abbrev S16x2048x128 : Shape := ⟨3, ![16, 2048, 128]⟩
abbrev S16x8x2048 : Shape := ⟨3, ![16, 8, 2048]⟩
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048x2048 : Shape := ⟨4, ![16, 8, 2048, 2048]⟩
abbrev S_ : Shape := ⟨0, ![]⟩
abbrev S16x8x2048x1 : Shape := ⟨4, ![16, 8, 2048, 1]⟩
abbrev S16x8x1x2048 : Shape := ⟨4, ![16, 8, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16x2048x1536, .bf16⟩
  | .hbm, ⟨1, _⟩ => ⟨S16x2048x128, .f32⟩
  | .hbm, ⟨2, _⟩ => ⟨S16x8x2048, .f32⟩
  | .hbm, ⟨3, _⟩ => ⟨S16x2048x512, .bf16⟩
  | .hbm, ⟨4, _⟩ => ⟨S16x2048x512, .bf16⟩
  | .hbm, ⟨5, _⟩ => ⟨S16x2048x512, .bf16⟩
  | .hbm, ⟨6, _⟩ => ⟨S16x2048x8x64, .bf16⟩
  | .hbm, ⟨7, _⟩ => ⟨S16x8x2048x64, .bf16⟩
  | .hbm, ⟨8, _⟩ => ⟨S16x8x2048x64, .f32⟩
  | .hbm, ⟨9, _⟩ => ⟨S16x2048x8x64, .bf16⟩
  | .hbm, ⟨10, _⟩ => ⟨S16x8x2048x64, .bf16⟩
  | .hbm, ⟨11, _⟩ => ⟨S16x8x2048x64, .f32⟩
  | .hbm, ⟨12, _⟩ => ⟨S16x2048x8x64, .bf16⟩
  | .hbm, ⟨13, _⟩ => ⟨S16x8x2048x64, .bf16⟩
  | .hbm, ⟨14, _⟩ => ⟨S16x8x2048x64, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S16x8x2048x2048, .f32⟩
  | .hbm, ⟨23, _⟩ => ⟨S_, .f32⟩
  | .hbm, ⟨24, _⟩ => ⟨S16x8x2048x2048, .f32⟩
  | .hbm, ⟨25, _⟩ => ⟨S16x8x2048x2048, .f32⟩
  | .hbm, ⟨26, _⟩ => ⟨S16x8x2048x1, .f32⟩
  | .hbm, ⟨27, _⟩ => ⟨S16x8x2048x2048, .f32⟩
  | .hbm, ⟨28, _⟩ => ⟨S16x8x2048x2048, .f32⟩
  | .hbm, ⟨29, _⟩ => ⟨S16x8x1x2048, .f32⟩
  | .hbm, ⟨30, _⟩ => ⟨S16x8x2048x2048, .f32⟩
  | .hbm, ⟨31, _⟩ => ⟨S16x8x2048x2048, .f32⟩
  | .hbm, ⟨32, _⟩ => ⟨S_, .f32⟩
  | .hbm, ⟨33, _⟩ => ⟨S_, .f32⟩
  | .hbm, ⟨34, _⟩ => ⟨S16x8x2048x2048, .i1⟩
  | .hbm, ⟨35, _⟩ => ⟨S16x8x2048x2048, .f32⟩
  | .hbm, ⟨36, _⟩ => ⟨S16x8x2048x2048, .f32⟩
  | .hbm, ⟨37, _⟩ => ⟨S_, .f32⟩
  | .hbm, ⟨38, _⟩ => ⟨S16x8x2048, .f32⟩
  | .hbm, ⟨39, _⟩ => ⟨S_, .f32⟩
  | .hbm, ⟨40, _⟩ => ⟨S16x8x2048, .f32⟩
  | .hbm, ⟨41, _⟩ => ⟨S16x8x2048, .f32⟩
  | .hbm, ⟨42, _⟩ => ⟨S16x8x2048x1, .f32⟩
  | .hbm, ⟨43, _⟩ => ⟨S16x8x2048x2048, .f32⟩
  | .hbm, ⟨44, _⟩ => ⟨S16x8x2048x2048, .f32⟩
  | .hbm, ⟨45, _⟩ => ⟨S16x8x2048x2048, .f32⟩
  | .hbm, ⟨46, _⟩ => ⟨S_, .f32⟩
  | .hbm, ⟨47, _⟩ => ⟨S16x8x2048, .f32⟩
  | .hbm, ⟨48, _⟩ => ⟨S16x8x2048x1, .f32⟩
  | .hbm, ⟨49, _⟩ => ⟨S16x8x2048x2048, .f32⟩
  | .hbm, ⟨50, _⟩ => ⟨S16x8x2048x2048, .f32⟩
  | .hbm, ⟨51, _⟩ => ⟨S16x8x2048x64, .f32⟩
  | .hbm, ⟨52, _⟩ => ⟨S16x2048x8x64, .f32⟩
  | .hbm, ⟨53, _⟩ => ⟨S16x2048x512, .f32⟩
  | .hbm, ⟨54, _⟩ => ⟨S16x2048x512, .bf16⟩
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.PostRow.lean ====
/- The mathematics of the block after attention, for one token: the gated merge of the two attention branches with the
   residual, the squared-ReLU MLP, the gated per-layer embedding and the final normalisation, as functions of the
   token's rows over the extended reals. The kernel's blocks (PostKernel.lean) and the reference's arrays (PostRef.lean)
   are both read as this function. -/
module

public import Idealize.ShloMosaic.Lib.Pointwise

@[expose] public section

noncomputable section

namespace Cert.PostRow

open Idealize.ShloMosaic

/-- The divisor of the mean over a row: 1024. -/
def width : EReal := Ideal.ofBits .f32 0x44800000#32

/-- The constant added under the root of a normalisation. -/
def eps : EReal := Ideal.ofBits .f32 0x358637BD#32

/-- A row times a matrix. -/
def rowMul {n k : Nat} (x : Fin n → EReal) (w : Fin n → Fin k → EReal) (j : Fin k) : EReal := ∑ i, x i * w i j

/-- The row divided by its root mean square, scaled by `g`. -/
def rms (x g : Fin 1024 → EReal) (j : Fin 1024) : EReal :=
  x j * Ideal.rsqrt (Ideal.div (∑ k, x k * x k) width + eps) * g j

/-- The squared ReLU. -/
def relu2 (a : EReal) : EReal := max a 0 * max a 0

/-- The block's weights. -/
@[ext] structure Weights where
  bg : Fin 2 → Fin 1024 → EReal
  wbf : Fin 512 → Fin 1024 → EReal
  wbs : Fin 512 → Fin 1024 → EReal
  wout : Fin 1024 → Fin 1024 → EReal
  gmlp : Fin 1024 → EReal
  wup : Fin 1024 → Fin 4096 → EReal
  wdown : Fin 4096 → Fin 1024 → EReal
  gple : Fin 1024 → EReal
  wpg : Fin 1024 → Fin 1024 → EReal
  wple : Fin 256 → Fin 1024 → EReal
  gfin : Fin 1024 → EReal

/-- One token's rows: the residual stream, the two attention outputs, the gate logits and the per-layer embedding. -/
@[ext] structure Token where
  x : Fin 1024 → EReal
  fox : Fin 512 → EReal
  sb : Fin 512 → EReal
  gl : Fin 2048 → EReal
  p : Fin 256 → EReal

variable (w : Weights) (t : Token)

/-- The two branches, each projected and gated, added. -/
def merged (j : Fin 1024) : EReal :=
  Ideal.logistic (t.gl ⟨j, by omega⟩ + w.bg 0 j) * rowMul t.fox w.wbf j
    + Ideal.logistic (t.gl ⟨1024 + j, by omega⟩ + w.bg 1 j) * rowMul t.sb w.wbs j

/-- The residual stream after the attention branches. -/
def mixed (j : Fin 1024) : EReal := t.x j + rowMul (merged w t) w.wout j

/-- The MLP's hiddenRow row. -/
def hiddenRow (k : Fin 4096) : EReal := relu2 (rowMul (rms (mixed w t) w.gmlp) w.wup k)

/-- The residual stream after the MLP. -/
def mlp (j : Fin 1024) : EReal := mixed w t j + rowMul (hiddenRow w t) w.wdown j

/-- The residual stream after the per-layer embedding. -/
def embedded (j : Fin 1024) : EReal :=
  mlp w t j + Ideal.logistic (rowMul (rms (mlp w t) w.gple) w.wpg j) * rowMul t.p w.wple j

/-- The block's result for the token. -/
def out (j : Fin 1024) : EReal := rms (embedded w t) w.gfin j

/-- A sum over 4096 positions, taken in eight runs of 512. -/
theorem sum_runs (f : Fin 4096 → EReal) :
    ∑ i, f i = ∑ s : Fin 8, ∑ k : Fin 512, f ⟨512 * s + k, by omega⟩ := by
  rw [← Fintype.sum_prod_type', ← (finProdFinEquiv (m := 8) (n := 512)).sum_comp]
  refine Finset.sum_congr rfl fun x _ => congrArg f (Fin.ext ?_)
  simp [finProdFinEquiv, add_comm]

end Cert.PostRow
-- ==== Proof.PostKernel.lean ====
/- One block of the kernel's output, read at an index, is the token's function of PostRow.lean at the block's row. -/
module

public import proofs.«01_k».proof.Proof.PostRow
public import proofs.«01_k».proof.Proof.Gen.PostIdeal.Value

@[expose] public section

set_option maxRecDepth 16384

noncomputable section

namespace Cert.PostKernel

open Cert.PostIdeal Cert.PostIdeal.Gen Cert.PostRow
open Idealize.ShloMosaic Idealize.ShloMosaic.TcCoe Idealize.SL.Sem
open Idealize.ShloMosaic.Pipeline (Dat)

/-- The row `r` of the five token windows. -/
def tok (x0 : Vec Ideal S512x1024 .f32) (x1 x2 : Vec Ideal S512x512 .bf16) (x3 : Vec Ideal S512x2048 .bf16)
    (x4 : Vec Ideal S512x256 .f32) (r : Fin 512) : Token where
  x k := x0 (ix2 r k)
  fox k := x1 (ix2 r k)
  sb k := x2 (ix2 r k)
  gl k := x3 (ix2 r k)
  p k := x4 (ix2 r k)

/-- The weight windows. -/
def wts (x5 : Vec Ideal S2x1024 .f32) (x6 x7 : Vec Ideal S512x1024 .bf16) (x8 : Vec Ideal S1024x1024 .bf16)
    (x9 : Vec Ideal S1x1024 .f32) (x10 : Vec Ideal S1024x4096 .bf16) (x11 : Vec Ideal S4096x1024 .bf16)
    (x12 : Vec Ideal S1x1024 .f32) (x13 : Vec Ideal S1024x1024 .bf16) (x14 : Vec Ideal S256x1024 .bf16)
    (x15 : Vec Ideal S1x1024 .f32) : Weights where
  bg s j := x5 (ix2 s j)
  wbf k j := x6 (ix2 k j)
  wbs k j := x7 (ix2 k j)
  wout k j := x8 (ix2 k j)
  gmlp j := x9 (ix2 0 j)
  wup k j := x10 (ix2 k j)
  wdown k j := x11 (ix2 k j)
  gple j := x12 (ix2 0 j)
  wpg k j := x13 (ix2 k j)
  wple k j := x14 (ix2 k j)
  gfin j := x15 (ix2 0 j)

section Blocks

variable (x0 : Vec Ideal S512x1024 .f32) (x1 x2 : Vec Ideal S512x512 .bf16) (x3 : Vec Ideal S512x2048 .bf16)
  (x4 : Vec Ideal S512x256 .f32) (x5 : Vec Ideal S2x1024 .f32) (x6 x7 : Vec Ideal S512x1024 .bf16)
  (x8 : Vec Ideal S1024x1024 .bf16)
  (x9 : Vec Ideal S1x1024 .f32) (x10 : Vec Ideal S1024x4096 .bf16) (x11 : Vec Ideal S4096x1024 .bf16)
  (x12 : Vec Ideal S1x1024 .f32) (x13 : Vec Ideal S1024x1024 .bf16) (x14 : Vec Ideal S256x1024 .bf16)
  (x15 : Vec Ideal S1x1024 .f32) (r : Fin 512)

theorem pay12_apply (j : Fin 1024) :
    k0_pay12 x0 x1 x2 x3 x4 x5 x6 x7 x8 x9 x10 x11 x12 x13 x14 x15 (ix2 r j) = mixed (wts x5 x6 x7 x8 x9 x10 x11 x12 x13 x14 x15) (tok x0 x1 x2 x3 x4 r) j := by
  pointwise [k0_pay12, k0_pay2, mixed, merged, rowMul, wts, tok]

theorem pay3_apply (x : FVec Ideal S512x1024 .f32) (g : Vec Ideal S1x1024 .f32) (j : Fin 1024) :
    k0_pay3 x g (ix2 r j) = rms (fun k => x (ix2 r k)) (fun k => g (ix2 0 k)) j := by
  pointwise [k0_pay3, rms, width, eps]

/-- The hidden row of an input row `h`: the products with the up projection, squared where positive. -/
def hid (h : Fin 1024 → EReal) (u : Vec Ideal S1024x4096 .bf16) (k : Fin 4096) : EReal :=
  relu2 (∑ i, h i * u (ix2 i k))

/-- The contribution of the `s`-th run of 512 hidden columns to column `j`. -/
def run (h : Fin 1024 → EReal) (u : Vec Ideal S1024x4096 .bf16) (d : Vec Ideal S4096x1024 .bf16) (j : Fin 1024)
    (s : Fin 8) : EReal :=
  ∑ k : Fin 512, hid h u ⟨512 * s + k, by omega⟩ * d (ix2 ⟨512 * s + k, by omega⟩ j)

theorem pay13_apply (j : Fin 1024) :
    k0_pay13 x0 x1 x2 x3 x4 x5 x6 x7 x8 x9 x10 x11 x12 x13 x14 x15 (ix2 r j)
      = rms (mixed (wts x5 x6 x7 x8 x9 x10 x11 x12 x13 x14 x15) (tok x0 x1 x2 x3 x4 r)) (fun k => x9 (ix2 0 k)) j := by
  unfold k0_pay13
  rw [pay3_apply]
  simp only [pay12_apply]
  pointwise

theorem pay4_apply (v : FVec Ideal S512x1024 .f32) (g : Vec Ideal S1x1024 .f32) (j : Fin 1024) :
    k0_pay4 v g (View.ld x10 r0_8) (View.ld x11 r0_9) (View.ld x10 r0_10) (View.ld x11 r0_11) (ix2 r j)
      = run (fun k => k0_pay3 v g (ix2 r k)) x10 x11 j 0 + run (fun k => k0_pay3 v g (ix2 r k)) x10 x11 j 1 := by
  pointwise [k0_pay4, run, hid, relu2]

theorem pay5_apply (h : FVec Ideal S512x1024 .bf16) (a : FVec Ideal S512x1024 .f32) (j : Fin 1024) :
    k0_pay5 h a (View.ld x10 r0_12) (View.ld x11 r0_13) (View.ld x10 r0_14) (View.ld x11 r0_15)
        (View.ld x10 r0_16) (View.ld x11 r0_17) (ix2 r j)
      = a (ix2 r j) + run (fun k => h (ix2 r k)) x10 x11 j 2 + run (fun k => h (ix2 r k)) x10 x11 j 3
          + run (fun k => h (ix2 r k)) x10 x11 j 4 := by
  pointwise [k0_pay5, run, hid, relu2]

theorem pay8_apply (v : FVec Ideal S512x1024 .f32) (h : FVec Ideal S512x1024 .bf16) (a : FVec Ideal S512x1024 .f32)
    (j : Fin 1024) :
    k0_pay8 v h a (k0_pay6 h (View.ld x10 r0_18)) k0_pay7 (View.ld x11 r0_19) (View.ld x10 r0_20) (View.ld x11 r0_21)
        (View.ld x10 r0_22) (View.ld x11 r0_23) (ix2 r j)
      = v (ix2 r j) + (a (ix2 r j) + run (fun k => h (ix2 r k)) x10 x11 j 5 + run (fun k => h (ix2 r k)) x10 x11 j 6
          + run (fun k => h (ix2 r k)) x10 x11 j 7) := by
  pointwise [k0_pay8, k0_pay6, k0_pay7, run, hid, relu2]

/-- The rows of the residual stream after the MLP. -/
def afterMlp : FVec Ideal S512x1024 .f32 :=
  k0_pay8 (k0_pay12 x0 x1 x2 x3 x4 x5 x6 x7 x8 x9 x10 x11 x12 x13 x14 x15)
    (k0_pay13 x0 x1 x2 x3 x4 x5 x6 x7 x8 x9 x10 x11 x12 x13 x14 x15)
    (k0_pay14 x0 x1 x2 x3 x4 x5 x6 x7 x8 x9 x10 x11 x12 x13 x14 x15)
    (k0_pay15 x0 x1 x2 x3 x4 x5 x6 x7 x8 x9 x10 x11 x12 x13 x14 x15)
    (k0_pay16 x0 x1 x2 x3 x4 x5 x6 x7 x8 x9 x10 x11 x12 x13 x14 x15)
    (View.ld x11 r0_19) (View.ld x10 r0_20) (View.ld x11 r0_21) (View.ld x10 r0_22) (View.ld x11 r0_23)

theorem afterMlp_apply (j : Fin 1024) :
    afterMlp x0 x1 x2 x3 x4 x5 x6 x7 x8 x9 x10 x11 x12 x13 x14 x15 (ix2 r j)
      = mlp (wts x5 x6 x7 x8 x9 x10 x11 x12 x13 x14 x15) (tok x0 x1 x2 x3 x4 r) j := by
  have e3 : k0_pay3 (k0_pay12 x0 x1 x2 x3 x4 x5 x6 x7 x8 x9 x10 x11 x12 x13 x14 x15) (View.ld x9 r0_7)
      = k0_pay13 x0 x1 x2 x3 x4 x5 x6 x7 x8 x9 x10 x11 x12 x13 x14 x15 := rfl
  unfold afterMlp k0_pay15 k0_pay16 k0_pay14
  rw [pay8_apply, pay5_apply, pay4_apply, e3]
  simp only [pay12_apply, pay13_apply]
  unfold mlp rowMul
  rw [sum_runs, Fin.sum_univ_eight]
  rfl

theorem pay1_apply (v : FVec Ideal S512x1024 .f32) (g : FVec Ideal S1x1024 .f32) (q e : FVec Ideal S512x1 .f32)
    (wg : Vec Ideal S1024x1024 .bf16) (p : Vec Ideal S512x256 .f32) (wp : Vec Ideal S256x1024 .bf16)
    (gf : Vec Ideal S1x1024 .f32) (j : Fin 1024) :
    k0_pay1 v g q e wg p wp gf (ix2 r j)
      = rms (fun j => v (ix2 r j) + Ideal.logistic (∑ k : Fin 1024,
            v (ix2 r k) * Ideal.rsqrt (q (ix2 r 0) + e (ix2 r 0)) * g (ix2 0 k) * wg (ix2 k j))
          * ∑ k : Fin 256, p (ix2 r k) * wp (ix2 k j)) (fun j => gf (ix2 0 j)) j := by
  pointwise [k0_pay1, rms, width, eps]

/-- The block the kernel writes for the sixteen windows, at row `r` and column `j`. -/
theorem out_apply (j : Fin 1024) :
    out0_16 x0 x1 x2 x3 x4 x5 x6 x7 x8 x9 x10 x11 x12 x13 x14 x15 (ix2 r j)
      = out (wts x5 x6 x7 x8 x9 x10 x11 x12 x13 x14 x15) (tok x0 x1 x2 x3 x4 r) j := by
  have hz : (![0, 0] : Fin 2 → Nat) = fun _ => 0 := funext fun a => by fin_cases a <;> rfl
  unfold out0_16
  rw [View.canon_unit_zero hz, pay1_apply]
  have e8 : ∀ k, k0_pay8 (k0_pay12 x0 x1 x2 x3 x4 x5 x6 x7 x8 x9 x10 x11 x12 x13 x14 x15)
    (k0_pay13 x0 x1 x2 x3 x4 x5 x6 x7 x8 x9 x10 x11 x12 x13 x14 x15)
    (k0_pay14 x0 x1 x2 x3 x4 x5 x6 x7 x8 x9 x10 x11 x12 x13 x14 x15)
    (k0_pay15 x0 x1 x2 x3 x4 x5 x6 x7 x8 x9 x10 x11 x12 x13 x14 x15)
    (k0_pay16 x0 x1 x2 x3 x4 x5 x6 x7 x8 x9 x10 x11 x12 x13 x14 x15)
    (View.ld x11 r0_19) (View.ld x10 r0_20) (View.ld x11 r0_21) (View.ld x10 r0_22) (View.ld x11 r0_23) (ix2 r k)
      = mlp (wts x5 x6 x7 x8 x9 x10 x11 x12 x13 x14 x15) (tok x0 x1 x2 x3 x4 r) k :=
    fun k => afterMlp_apply x0 x1 x2 x3 x4 x5 x6 x7 x8 x9 x10 x11 x12 x13 x14 x15 r k
  have e10 : (k0_pay10 (k0_pay12 x0 x1 x2 x3 x4 x5 x6 x7 x8 x9 x10 x11 x12 x13 x14 x15)
    (k0_pay13 x0 x1 x2 x3 x4 x5 x6 x7 x8 x9 x10 x11 x12 x13 x14 x15)
    (k0_pay14 x0 x1 x2 x3 x4 x5 x6 x7 x8 x9 x10 x11 x12 x13 x14 x15)
    (k0_pay15 x0 x1 x2 x3 x4 x5 x6 x7 x8 x9 x10 x11 x12 x13 x14 x15)
    (k0_pay16 x0 x1 x2 x3 x4 x5 x6 x7 x8 x9 x10 x11 x12 x13 x14 x15)
    (View.ld x11 r0_19) (View.ld x10 r0_20) (View.ld x11 r0_21) (View.ld x10 r0_22) (View.ld x11 r0_23) (ix2 r 0))
      = Ideal.div (∑ k, mlp (wts x5 x6 x7 x8 x9 x10 x11 x12 x13 x14 x15) (tok x0 x1 x2 x3 x4 r) k
          * mlp (wts x5 x6 x7 x8 x9 x10 x11 x12 x13 x14 x15) (tok x0 x1 x2 x3 x4 r) k) width := by
    simp only [← e8]
    pointwise [k0_pay10, width]
  simp only [e8, e10]
  unfold out embedded rowMul
  refine congrFun (congrArg₂ rms (funext fun i => ?_) (funext fun i => ?_)) j
  · pointwise [rms, k0_pay9, k0_pay11, wts, tok, eps]
  · pointwise [wts]

end Blocks

end Cert.PostKernel
-- ==== Proof.PostBlocks.lean ====
/- The kernel's windows: each block, at an index, as an element of the launched arguments. -/
module

public import proofs.«01_k».proof.Proof.PostKernel
public import Idealize.ShloMosaic.Lib.Pipeline.ValueKit
public import Idealize.ShloMosaic.Lib.StableHlo.ReadAt

@[expose] public section

set_option maxRecDepth 16384

noncomputable section

namespace Cert.PostBlocks

open Cert.PostIdeal Cert.PostIdeal.Gen Cert.PostRow Cert.PostKernel
open Idealize.ShloMosaic Idealize.ShloMosaic.TcCoe Idealize.SL.Sem
open Idealize.ShloMosaic.Pipeline (Dat)

/-- Token `(b, s)` of the argument arrays. -/
def argTok (a0 : FVec Ideal S16x2048x1024 .f32) (a1 a2 : FVec Ideal S16x2048x512 .f32)
    (a3 : FVec Ideal S16x2048x2048 .f32) (a4 : FVec Ideal S1x16x2048x256 .f32) (b : Fin 16) (s : Fin 2048) : Token where
  x k := a0 (ix3 b s k)
  fox k := a1 (ix3 b s k)
  sb k := a2 (ix3 b s k)
  gl k := a3 (ix3 b s k)
  p k := a4 (ix4 0 b s k)

/-- The weights of the argument arrays. -/
def argWts (a5 : FVec Ideal S1x2x1024 .f32) (a6 a7 : FVec Ideal S1x512x1024 .f32) (a8 : FVec Ideal S1x1024x1024 .f32)
    (a9 : FVec Ideal S1x1024 .f32) (a10 : FVec Ideal S1x1024x4096 .f32) (a11 : FVec Ideal S1x4096x1024 .f32)
    (a12 : FVec Ideal S1x1024 .f32) (a13 : FVec Ideal S1x1024x1024 .f32) (a14 : FVec Ideal S1x256x1024 .f32)
    (a15 : FVec Ideal S1024 .f32) : Weights where
  bg s j := a5 (ix3 0 s j)
  wbf k j := a6 (ix3 0 k j)
  wbs k j := a7 (ix3 0 k j)
  wout k j := a8 (ix3 0 k j)
  gmlp j := a9 (ix2 0 j)
  wup k j := a10 (ix3 0 k j)
  wdown k j := a11 (ix3 0 k j)
  gple j := a12 (ix2 0 j)
  wpg k j := a13 (ix3 0 k j)
  wple k j := a14 (ix3 0 k j)
  gfin j := a15 (ix1 j)

variable (m : (ℓ : Loc nD τ sig) → Buf (Elt Ideal) ℓ)

/-- Every window's block index at every grid point. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![t.val, 0] :=
  (by decide +kernel : ∀ t : Fin grid0.N, _)

/-- Row `n` of the result, as the function of the launched arguments. -/
def G (c : Dev nD) : FVec Ideal S32768x1024 .f32 := fun i =>
  out
    (argWts (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11))
      (m ((c : Thread nD τ).loc main_arg12)) (m ((c : Thread nD τ).loc main_arg13))
      (m ((c : Thread nD τ).loc main_arg14)) (m ((c : Thread nD τ).loc main_arg15)))
    (argTok (m ((c : Thread nD τ).loc main_arg0)) (m ((c : Thread nD τ).loc main_arg1))
      (m ((c : Thread nD τ).loc main_arg2)) (m ((c : Thread nD τ).loc main_arg3)) (m ((c : Thread nD τ).loc main_arg4))
      ⟨(i 0 : Fin 32768).val / 2048, by exact Nat.div_lt_of_lt_mul (i 0 : Fin 32768).isLt⟩
      ⟨(i 0 : Fin 32768).val % 2048, by omega⟩) (i 1)

theorem point_lt (t : Fin cfg0.N) (r : Fin 512) : t.val * 512 + r.val < 32768 := by
  have h : cfg0.N = 64 := N_0
  have := t.isLt
  omega

/-! ## The windows' arrays as the region finds them, and their blocks, at an index -/

theorem entry_5 (c : Dev nD) (s : Fin 2) (j : Fin 1024) :
    V m c main_v0 (ix2 s j) = m ((c : Thread nD τ).loc main_arg5) (ix3 0 s j) := by
  unfold V
  after_reads_at

theorem blk_5 (c : Dev nD) (t : Fin cfg0.N) (s : Fin 2) (j : Fin 1024) :
    iblk m c 5 t (ix2 s j) = m ((c : Thread nD τ).loc main_arg5) (ix3 0 s j) := by
  refine Eq.trans ?_ (entry_5 m c s j)
  blk_ext [iblk, idx t]

theorem entry_6 (c : Dev nD) (k : Fin 512) (j : Fin 1024) :
    V m c main_v2 (ix2 k j) = m ((c : Thread nD τ).loc main_arg6) (ix3 0 k j) := by
  unfold V
  after_reads_at

theorem blk_6 (c : Dev nD) (t : Fin cfg0.N) (k : Fin 512) (j : Fin 1024) :
    iblk m c 6 t (ix2 k j) = m ((c : Thread nD τ).loc main_arg6) (ix3 0 k j) := by
  refine Eq.trans ?_ (entry_6 m c k j)
  blk_ext [iblk, idx t]

theorem entry_7 (c : Dev nD) (k : Fin 512) (j : Fin 1024) :
    V m c main_v4 (ix2 k j) = m ((c : Thread nD τ).loc main_arg7) (ix3 0 k j) := by
  unfold V
  after_reads_at

theorem blk_7 (c : Dev nD) (t : Fin cfg0.N) (k : Fin 512) (j : Fin 1024) :
    iblk m c 7 t (ix2 k j) = m ((c : Thread nD τ).loc main_arg7) (ix3 0 k j) := by
  refine Eq.trans ?_ (entry_7 m c k j)
  blk_ext [iblk, idx t]

theorem entry_8 (c : Dev nD) (k j : Fin 1024) :
    V m c main_v6 (ix2 k j) = m ((c : Thread nD τ).loc main_arg8) (ix3 0 k j) := by
  unfold V
  after_reads_at

theorem blk_8 (c : Dev nD) (t : Fin cfg0.N) (k j : Fin 1024) :
    iblk m c 8 t (ix2 k j) = m ((c : Thread nD τ).loc main_arg8) (ix3 0 k j) := by
  refine Eq.trans ?_ (entry_8 m c k j)
  blk_ext [iblk, idx t]

theorem entry_9 (c : Dev nD) (j : Fin 1024) :
    V m c main_v8 (ix2 0 j) = m ((c : Thread nD τ).loc main_arg9) (ix2 0 j) := by
  unfold V
  after_reads_at

theorem blk_9 (c : Dev nD) (t : Fin cfg0.N) (j : Fin 1024) :
    iblk m c 9 t (ix2 0 j) = m ((c : Thread nD τ).loc main_arg9) (ix2 0 j) := by
  refine Eq.trans ?_ (entry_9 m c j)
  blk_ext [iblk, idx t]

theorem entry_10 (c : Dev nD) (k : Fin 1024) (j : Fin 4096) :
    V m c main_v10 (ix2 k j) = m ((c : Thread nD τ).loc main_arg10) (ix3 0 k j) := by
  unfold V
  after_reads_at

theorem blk_10 (c : Dev nD) (t : Fin cfg0.N) (k : Fin 1024) (j : Fin 4096) :
    iblk m c 10 t (ix2 k j) = m ((c : Thread nD τ).loc main_arg10) (ix3 0 k j) := by
  refine Eq.trans ?_ (entry_10 m c k j)
  blk_ext [iblk, idx t]

theorem entry_11 (c : Dev nD) (k : Fin 4096) (j : Fin 1024) :
    V m c main_v12 (ix2 k j) = m ((c : Thread nD τ).loc main_arg11) (ix3 0 k j) := by
  unfold V
  after_reads_at

theorem blk_11 (c : Dev nD) (t : Fin cfg0.N) (k : Fin 4096) (j : Fin 1024) :
    iblk m c 11 t (ix2 k j) = m ((c : Thread nD τ).loc main_arg11) (ix3 0 k j) := by
  refine Eq.trans ?_ (entry_11 m c k j)
  blk_ext [iblk, idx t]

theorem entry_12 (c : Dev nD) (j : Fin 1024) :
    V m c main_v14 (ix2 0 j) = m ((c : Thread nD τ).loc main_arg12) (ix2 0 j) := by
  unfold V
  after_reads_at

theorem blk_12 (c : Dev nD) (t : Fin cfg0.N) (j : Fin 1024) :
    iblk m c 12 t (ix2 0 j) = m ((c : Thread nD τ).loc main_arg12) (ix2 0 j) := by
  refine Eq.trans ?_ (entry_12 m c j)
  blk_ext [iblk, idx t]

theorem entry_13 (c : Dev nD) (k j : Fin 1024) :
    V m c main_v16 (ix2 k j) = m ((c : Thread nD τ).loc main_arg13) (ix3 0 k j) := by
  unfold V
  after_reads_at

theorem blk_13 (c : Dev nD) (t : Fin cfg0.N) (k j : Fin 1024) :
    iblk m c 13 t (ix2 k j) = m ((c : Thread nD τ).loc main_arg13) (ix3 0 k j) := by
  refine Eq.trans ?_ (entry_13 m c k j)
  blk_ext [iblk, idx t]

theorem entry_14 (c : Dev nD) (k : Fin 256) (j : Fin 1024) :
    V m c main_v18 (ix2 k j) = m ((c : Thread nD τ).loc main_arg14) (ix3 0 k j) := by
  unfold V
  after_reads_at

theorem blk_14 (c : Dev nD) (t : Fin cfg0.N) (k : Fin 256) (j : Fin 1024) :
    iblk m c 14 t (ix2 k j) = m ((c : Thread nD τ).loc main_arg14) (ix3 0 k j) := by
  refine Eq.trans ?_ (entry_14 m c k j)
  blk_ext [iblk, idx t]

theorem entry_15 (c : Dev nD) (j : Fin 1024) :
    V m c main_v19 (ix2 0 j) = m ((c : Thread nD τ).loc main_arg15) (ix1 j) := by
  unfold V
  after_reads_at

theorem blk_15 (c : Dev nD) (t : Fin cfg0.N) (j : Fin 1024) :
    iblk m c 15 t (ix2 0 j) = m ((c : Thread nD τ).loc main_arg15) (ix1 j) := by
  refine Eq.trans ?_ (entry_15 m c j)
  blk_ext [iblk, idx t]

theorem entry_0 (c : Dev nD) (n : Fin 32768) (k : Fin 1024) :
    V m c main_v20 (ix2 n k) = m ((c : Thread nD τ).loc main_arg0)
      (ix3 ⟨n.val / 2048, by omega⟩ ⟨n.val % 2048, by omega⟩ k) := by
  unfold V
  after_reads_at

theorem blk_0 (c : Dev nD) (t : Fin cfg0.N) (r : Fin 512) (k : Fin 1024) :
    iblk m c 0 t (ix2 r k) = m ((c : Thread nD τ).loc main_arg0)
      (ix3 ⟨(t.val * 512 + r.val) / 2048, by have := point_lt t r; omega⟩ ⟨(t.val * 512 + r.val) % 2048, by omega⟩ k) := by
  refine Eq.trans ?_ (entry_0 m c ⟨t.val * 512 + r.val, point_lt t r⟩ k)
  blk_ext [iblk, idx t]

theorem entry_1 (c : Dev nD) (n : Fin 32768) (k : Fin 512) :
    V m c main_v22 (ix2 n k) = m ((c : Thread nD τ).loc main_arg1)
      (ix3 ⟨n.val / 2048, by omega⟩ ⟨n.val % 2048, by omega⟩ k) := by
  unfold V
  after_reads_at

theorem blk_1 (c : Dev nD) (t : Fin cfg0.N) (r : Fin 512) (k : Fin 512) :
    iblk m c 1 t (ix2 r k) = m ((c : Thread nD τ).loc main_arg1)
      (ix3 ⟨(t.val * 512 + r.val) / 2048, by have := point_lt t r; omega⟩ ⟨(t.val * 512 + r.val) % 2048, by omega⟩ k) := by
  refine Eq.trans ?_ (entry_1 m c ⟨t.val * 512 + r.val, point_lt t r⟩ k)
  blk_ext [iblk, idx t]

theorem entry_2 (c : Dev nD) (n : Fin 32768) (k : Fin 512) :
    V m c main_v24 (ix2 n k) = m ((c : Thread nD τ).loc main_arg2)
      (ix3 ⟨n.val / 2048, by omega⟩ ⟨n.val % 2048, by omega⟩ k) := by
  unfold V
  after_reads_at

theorem blk_2 (c : Dev nD) (t : Fin cfg0.N) (r : Fin 512) (k : Fin 512) :
    iblk m c 2 t (ix2 r k) = m ((c : Thread nD τ).loc main_arg2)
      (ix3 ⟨(t.val * 512 + r.val) / 2048, by have := point_lt t r; omega⟩ ⟨(t.val * 512 + r.val) % 2048, by omega⟩ k) := by
  refine Eq.trans ?_ (entry_2 m c ⟨t.val * 512 + r.val, point_lt t r⟩ k)
  blk_ext [iblk, idx t]

theorem entry_3 (c : Dev nD) (n : Fin 32768) (k : Fin 2048) :
    V m c main_v26 (ix2 n k) = m ((c : Thread nD τ).loc main_arg3)
      (ix3 ⟨n.val / 2048, by omega⟩ ⟨n.val % 2048, by omega⟩ k) := by
  unfold V
  after_reads_at

theorem blk_3 (c : Dev nD) (t : Fin cfg0.N) (r : Fin 512) (k : Fin 2048) :
    iblk m c 3 t (ix2 r k) = m ((c : Thread nD τ).loc main_arg3)
      (ix3 ⟨(t.val * 512 + r.val) / 2048, by have := point_lt t r; omega⟩ ⟨(t.val * 512 + r.val) % 2048, by omega⟩ k) := by
  refine Eq.trans ?_ (entry_3 m c ⟨t.val * 512 + r.val, point_lt t r⟩ k)
  blk_ext [iblk, idx t]

theorem entry_4 (c : Dev nD) (n : Fin 32768) (k : Fin 256) :
    V m c main_v28 (ix2 n k) = m ((c : Thread nD τ).loc main_arg4)
      (ix4 0 ⟨n.val / 2048, by omega⟩ ⟨n.val % 2048, by omega⟩ k) := by
  unfold V
  after_reads_at

theorem blk_4 (c : Dev nD) (t : Fin cfg0.N) (r : Fin 512) (k : Fin 256) :
    iblk m c 4 t (ix2 r k) = m ((c : Thread nD τ).loc main_arg4)
      (ix4 0 ⟨(t.val * 512 + r.val) / 2048, by have := point_lt t r; omega⟩ ⟨(t.val * 512 + r.val) % 2048, by omega⟩ k) := by
  refine Eq.trans ?_ (entry_4 m c ⟨t.val * 512 + r.val, point_lt t r⟩ k)
  blk_ext [iblk, idx t]

end Cert.PostBlocks
-- ==== Proof.PostFinal.lean ====
/- The kernel's result array after the run, index by index: row `n` is the function of PostRow.lean at token `n` of the
   launched arguments. -/
module

public import proofs.«01_k».proof.Proof.PostBlocks

@[expose] public section

set_option maxRecDepth 16384

noncomputable section

namespace Cert.PostFinal

open Cert.PostIdeal Cert.PostIdeal.Gen Cert.PostRow Cert.PostKernel Cert.PostBlocks
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
theorem wts_eq (c : Dev nD) (t : Fin cfg0.N) :
    wts (iblk m c 5 t) (iblk m c 6 t) (iblk m c 7 t) (iblk m c 8 t) (iblk m c 9 t) (iblk m c 10 t) (iblk m c 11 t)
        (iblk m c 12 t) (iblk m c 13 t) (iblk m c 14 t) (iblk m c 15 t)
      = argWts (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14))
          (m ((c : Thread nD τ).loc main_arg15)) :=
  Weights.ext (funext fun s => funext fun j => blk_5 m c t s j) (funext fun k => funext fun j => blk_6 m c t k j)
    (funext fun k => funext fun j => blk_7 m c t k j) (funext fun k => funext fun j => blk_8 m c t k j)
    (funext fun j => blk_9 m c t j) (funext fun k => funext fun j => blk_10 m c t k j)
    (funext fun k => funext fun j => blk_11 m c t k j) (funext fun j => blk_12 m c t j)
    (funext fun k => funext fun j => blk_13 m c t k j) (funext fun k => funext fun j => blk_14 m c t k j)
    (funext fun j => blk_15 m c t j)

theorem tok_eq (c : Dev nD) (t : Fin cfg0.N) (r : Fin 512) :
    tok (iblk m c 0 t) (iblk m c 1 t) (iblk m c 2 t) (iblk m c 3 t) (iblk m c 4 t) r
      = argTok (m ((c : Thread nD τ).loc main_arg0)) (m ((c : Thread nD τ).loc main_arg1))
          (m ((c : Thread nD τ).loc main_arg2)) (m ((c : Thread nD τ).loc main_arg3))
          (m ((c : Thread nD τ).loc main_arg4))
          ⟨(t.val * 512 + r.val) / 2048, by have := point_lt t r; omega⟩
          ⟨(t.val * 512 + r.val) % 2048, by omega⟩ :=
  Token.ext (funext fun k => blk_0 m c t r k) (funext fun k => blk_1 m c t r k) (funext fun k => blk_2 m c t r k)
    (funext fun k => blk_3 m c t r k) (funext fun k => blk_4 m c t r k)

/-- The array index at which the result's block at point `t` has its element `(r, j)`. -/
theorem emb_eq (t : Fin cfg0.N) (r : Fin 512) (j : Fin 1024) :
    ((cfg0.win 16).blk t).view.emb (ix2 r j) = (ix2 ⟨t.val * 512 + r.val, point_lt t r⟩ j : S32768x1024.Idx) := by
  blk_ext [idx t]

/-- The result array after the run. -/
theorem final (c : Dev nD) : (dats m 0 c).arrAt 16 cfg0.N = G m c := by
  refine (dats m 0 c).arrAt_eq_of_covers 16 _ (by decide +kernel) fun t _ y => ?_
  blk_simp
  rw [after0_16]
  idx_vars y
  refine (out_apply _ _ _ _ _ _ _ _ _ _ _ _ _ _ _ _ _ _).trans ?_
  rw [wts_eq, tok_eq]
  exact (congrArg (G m c) (emb_eq t _ _)).symm

end Cert.PostFinal
-- ==== Proof.PostRef.lean ====
/- The reference's result array, index by index: row `n` is the function of PostRow.lean at token `n` of its arguments. -/
module

public import proofs.«01_k».proof.Proof.PostBlocks
public import proofs.«01_k».proof.Proof.Gen.PostRefIdeal.Run

@[expose] public section

set_option maxRecDepth 16384

noncomputable section

namespace Cert.PostRef

open Cert.PostRefIdeal Cert.PostRefIdeal.Gen Cert.PostRefIdeal.Value Cert.PostRow
open Idealize.ShloMosaic Idealize.ShloMosaic.TcCoe Idealize.SL.Sem

variable (V : Valuation τ sig (Elt Ideal))

/-- The reference's weights. -/
def refWts : Weights :=
  Cert.PostBlocks.argWts (V (Proc.devRef .tc main_arg5)) (V (Proc.devRef .tc main_arg6)) (V (Proc.devRef .tc main_arg7))
    (V (Proc.devRef .tc main_arg8)) (V (Proc.devRef .tc main_arg9)) (V (Proc.devRef .tc main_arg10))
    (V (Proc.devRef .tc main_arg11)) (V (Proc.devRef .tc main_arg12)) (V (Proc.devRef .tc main_arg13))
    (V (Proc.devRef .tc main_arg14)) (V (Proc.devRef .tc main_arg15))

/-- The reference's token `(b, s)`. -/
def refTok (b : Fin 16) (s : Fin 2048) : Token :=
  Cert.PostBlocks.argTok (V (Proc.devRef .tc main_arg0)) (V (Proc.devRef .tc main_arg1)) (V (Proc.devRef .tc main_arg2))
    (V (Proc.devRef .tc main_arg3)) (V (Proc.devRef .tc main_arg4)) b s

theorem v33_apply (b : Fin 16) (s : Fin 2048) (j : Fin 1024) :
    res_main_v33 V (ix3 b s j) = mixed (refWts V) (refTok V b s) j := by
  unfold res_main_v33 mixed merged rowMul refWts refTok Cert.PostBlocks.argWts Cert.PostBlocks.argTok Ideal.logistic
  clean_types
  pointwise

theorem v50_apply (b : Fin 16) (s : Fin 2048) (k : Fin 4096) :
    res_main_v50 V (ix3 b s k)
      = max (rowMul (rms (mixed (refWts V) (refTok V b s)) (refWts V).gmlp) (refWts V).wup k) 0 := by
  unfold rowMul rms
  simp only [← v33_apply]
  unfold res_main_v50 refWts Cert.PostBlocks.argWts width eps
  clean_types
  pointwise

theorem v54_apply (b : Fin 16) (s : Fin 2048) (j : Fin 1024) :
    res_main_v54 V (ix3 b s j) = mlp (refWts V) (refTok V b s) j := by
  have e : rowMul (hiddenRow (refWts V) (refTok V b s)) (refWts V).wdown j
      = ∑ k, relu2 (rowMul (rms (mixed (refWts V) (refTok V b s)) (refWts V).gmlp) (refWts V).wup k)
          * (refWts V).wdown k j := rfl
  unfold mlp
  rw [e]
  simp only [relu2, ← v33_apply, ← v50_apply]
  unfold res_main_v54 refWts Cert.PostBlocks.argWts
  clean_types
  pointwise

theorem v81_apply (b : Fin 16) (s : Fin 2048) (j : Fin 1024) :
    res_main_v81 V (ix3 b s j) = embedded (refWts V) (refTok V b s) j := by
  unfold embedded rowMul rms
  simp only [← v54_apply]
  unfold res_main_v81 refWts refTok Cert.PostBlocks.argWts Cert.PostBlocks.argTok width eps Ideal.logistic
  clean_types
  pointwise

end Cert.PostRef
-- ==== Proof.PostCert.lean ====
/- The kernel and the reference compute the same result: both result arrays are the function of PostRow.lean, row by row. -/
module

public import proofs.«01_k».proof.Defs
public import proofs.«01_k».proof.Proof.PostFinal
public import proofs.«01_k».proof.Proof.PostRef
public import Idealize.ShloMosaic.Lib.Claim

@[expose] public section

set_option maxRecDepth 16384

noncomputable section

namespace Cert.PostCert

open Idealize.ShloMosaic Idealize.ShloMosaic.TcCoe Idealize.SL.Sem
open Cert.PostRow

section Reference
open Cert.PostRefIdeal Cert.PostRefIdeal.Gen Cert.PostRefIdeal.Value Cert.PostRef

variable (V : Valuation τ sig (Elt Ideal))

/-- The reference's result at row `n`: the final norm of the embedded residual stream. -/
theorem ref_apply (n : Fin 32768) (j : Fin 1024) :
    val2 V (Proc.devRef .tc main_v95) (ix2 n j)
      = out (refWts V) (refTok V ⟨n.val / 2048, by omega⟩ ⟨n.val % 2048, by omega⟩) j := by
  rw [val2_main_v95]
  unfold out rms
  simp only [← v81_apply]
  unfold refWts Cert.PostBlocks.argWts width eps
  clean_types
  pointwise

end Reference

theorem algebraic : Cert.algebraic_PostIdeal_PostRefIdeal := by
  pair_intro
  · run_from Cert.PostIdeal.Value.run_blocks m g
  · run_from Cert.PostRefIdeal.Value.run m' g'
    rw [Cert.PostFinal.final]
    funext i
    idx_vars i
    obtain ⟨h0, h1, h2, h3, h4, h5, h6, h7, h8, h9, h10, h11, h12, h13, h14, h15⟩ := hagree c
    refine Eq.trans (Eq.trans ?_ (ref_apply (StableHlo.launchContents m' c) i0 i1)) ?_
    · rw [PostRefIdeal.Value.val2_main_v95]
      exact congrArg (fun a => shapeCast PostRefIdeal.S32768x1024 (mulf (F := Ideal) (φ := .f32) _
        (broadcastInDim PostRefIdeal.S16x2048x1024 ![0, 1, 2] PostRefIdeal.Gen.bcast_S1x1x1024_S16x2048x1024_0_1_2
          (broadcastInDim PostRefIdeal.S1x1x1024 ![2] PostRefIdeal.Gen.bcast_S1024_S1x1x1024_2 a))) _ (ix2 i0 i1)) h15.symm
    · unfold PostBlocks.G
      rw [← h0, ← h1, ← h2, ← h3, ← h4, ← h5, ← h6, ← h7, ← h8, ← h9, ← h10, ← h11, ← h12, ← h13, ← h14, ← h15]
      rfl

end Cert.PostCert
-- ==== Proof.PostFrames.lean ====
/- The frame of the reference: host operations only, and no semaphore to leave raised. -/
module

public import proofs.«01_k».proof.Defs
public import proofs.«01_k».proof.Proof.Gen.PostRefIdeal.Run
public import Idealize.ShloMosaic.Lib.Claim

@[expose] public section

set_option maxRecDepth 16384

noncomputable section

namespace Cert.PostFrames

open Idealize.ShloMosaic Idealize.SL.Sem

theorem refFrame : Cert.quiescent_PostRefIdeal := by
  intro m g _
  refine θ_run_mono (Cert.PostRefIdeal.Value.run m g) fun r h => ⟨fun c => (h c).2, funext fun x => ?_⟩
  obtain ⟨d, s⟩ := x
  exact (show SemLoc Cert.PostRefIdeal.sig → False by decide) s |>.elim

end Cert.PostFrames
-- ==== Proof.ProjRow.lean ====
/- One token of the call before the attention: its norm, its projections, and its forget gates summed along the sequence. -/
module

public import proofs.«01_k».proof.Proof.PostRow

@[expose] public section

noncomputable section

namespace Cert.ProjRow

open Idealize.ShloMosaic
open Cert.PostRow

/-- The logarithm of the sigmoid of `y`, as the negated softplus of `-y`. -/
def logForget (y : EReal) : EReal := 0 - (max (0 - y) 0 + Ideal.log (1 + Ideal.exp (0 - max y (-y))))

theorem exp_nonneg (x : EReal) : 0 ≤ Ideal.exp x := by
  induction x with
  | bot => exact le_refl _
  | top => exact le_top
  | coe x => exact EReal.coe_nonneg.mpr (Real.exp_pos x).le

/-- `log (sigmoid y)` is never positive infinity. -/
theorem logForget_ne_top (y : EReal) : logForget y ≠ ⊤ := by
  have hl : Ideal.log (1 + Ideal.exp (0 - max y (-y))) ≠ ⊥ := by
    have h := exp_nonneg (0 - max y (-y))
    generalize Ideal.exp (0 - max y (-y)) = e at h
    induction e with
    | bot => exact absurd h (by simp)
    | top => rw [EReal.add_top_of_ne_bot (by decide)]; exact show (⊤ : EReal) ≠ ⊥ by simp
    | coe e =>
      have h' := EReal.coe_nonneg.mp h
      have e1 : (1 : EReal) + (e : EReal) = ((1 + e : ℝ) : EReal) := by push_cast; rfl
      rw [e1]
      show (if 1 + e ≤ 0 then ⊥ else (Real.log (1 + e) : EReal)) ≠ ⊥
      rw [if_neg (by linarith)]
      exact EReal.coe_ne_bot _
  have hm : max (0 - y) 0 ≠ ⊥ := ((EReal.bot_lt_zero).trans_le (le_max_right _ _)).ne'
  unfold logForget
  rw [sub_eq_add_neg, zero_add]
  intro h
  rw [EReal.neg_eq_top_iff, EReal.add_eq_bot_iff] at h
  exact h.elim hm hl

/-- A number taken as three parts, each what the ones before leave over: the last two are zero, or all three are `⊥`. -/
theorem three_parts {a : EReal} (h : a ≠ ⊤) : a + (a - a) + ((a - a) - (a - a)) = a := by
  induction a with
  | bot => rfl
  | top => exact absurd rfl h
  | coe x => simp [← EReal.coe_sub]

/-- The sum over the rows up to `r` of a block of 128, taken with a triangle of ones and in three parts. -/
theorem triangle (r : Fin 128) (a : Fin 128 → EReal) (h : ∀ k, a k ≠ ⊤) (w : Fin 128 → EReal)
    (hw : ∀ k, w k = if k ≤ r then 1 else 0) :
    ∑ k, w k * a k + ∑ k, w k * (a k - a k) + ∑ k, w k * ((a k - a k) - (a k - a k))
      = ∑ k, if k ≤ r then a k else 0 := by
  rw [← Finset.sum_add_distrib, ← Finset.sum_add_distrib]
  refine Finset.sum_congr rfl fun k _ => ?_
  rw [hw]
  by_cases hk : k ≤ r
  · simp only [if_pos hk, one_mul, three_parts (h k)]
  · simp only [if_neg hk, zero_mul, add_zero]

/-- The rows before block `q` and those of the block up to `r` are the rows up to `128 q + r`. -/
theorem prefix_step (q : ℕ) (r : Fin 128) (a : ℕ → EReal) (z : EReal) :
    (z + ∑ i ∈ Finset.range (128 * q), a i) + ∑ k : Fin 128, (if k ≤ r then a (128 * q + k) else 0)
      = z + ∑ i ∈ Finset.range (128 * q + r + 1), a i := by
  have e : ∑ k : Fin 128, (if k ≤ r then a (128 * q + k) else 0)
      = ∑ i ∈ Finset.range (r + 1), a (128 * q + i) := by
    simp only [Fin.le_def]
    rw [Fin.sum_univ_eq_sum_range (fun i => if i ≤ (r : ℕ) then a (128 * q + i) else 0) 128, ← Finset.sum_filter]
    refine Finset.sum_congr (Finset.ext fun i => ?_) fun _ _ => rfl
    simp only [Finset.mem_filter, Finset.mem_range]
    omega
  rw [e, add_assoc, add_assoc, Finset.sum_range_add _ _ (r + 1)]

end Cert.ProjRow
-- ==== Proof.ProjPay.lean ====
/- The values the kernel of the call before the attention computes from its blocks, each read at an index. -/
module

public import proofs.«01_k».proof.Proof.ProjRow
public import proofs.«01_k».proof.Proof.Gen.ProjIdeal.Value

@[expose] public section

set_option maxRecDepth 16384

noncomputable section

namespace Cert.ProjPay

open Cert.ProjIdeal Cert.ProjIdeal.Gen Cert.PostRow Cert.ProjRow
open Idealize.ShloMosaic Idealize.ShloMosaic.TcCoe Idealize.SL.Sem
open Idealize.ShloMosaic.Pipeline (Dat)

section Blocks

variable (x0 : Vec Ideal S512x1024 .f32) (x1 : Vec Ideal S1x1024 .f32) (x3 : Vec Ideal S1024x128 .bf16)
  (x6 : Vec Ideal S1x128 .f32)

/-- The forget logit of row `n` of the block at lane `l`, without its bias. -/
def logit (r : Fin 512) (l : Fin 128) : EReal :=
  ∑ k, rms (fun k => x0 (ix2 r k)) (fun k => x1 (ix2 0 k)) k * x3 (ix2 k l)

theorem pay3_apply (r : Fin 512) (j : Fin 1024) :
    k0_pay3 x0 x1 (ix2 r j) = rms (fun k => x0 (ix2 r k)) (fun k => x1 (ix2 0 k)) j := by
  pointwise [k0_pay3, rms, width, eps]

theorem pay4_apply (l : Fin 128) : k0_pay4 (F := Ideal) (ix2 0 l) = 0 := by
  pointwise [k0_pay4]

theorem pay5_apply (r : Fin 512) (l : Fin 128) : k0_pay5 x0 x1 x3 (ix2 r l) = logit x0 x1 x3 r l := by
  unfold logit
  simp only [← pay3_apply]
  pointwise [k0_pay5]

theorem pay6_apply (r k : Fin 128) : k0_pay6 (F := Ideal) (ix2 r k) = if k ≤ r then 1 else 0 := by
  pointwise [k0_pay6]
  rw [WordCmp.cmpi_sle_ofNat (by omega) (by omega)]
  by_cases h : k ≤ r
  · rw [if_pos h, decide_eq_true (show k.val ≤ r.val from h)]
    show (((1 : ℤ) : ℝ) : EReal) = 1
    simp
  · rw [if_neg h, decide_eq_false (show ¬ k.val ≤ r.val from h)]
    show (((0 : ℤ) : ℝ) : EReal) = 0
    simp

theorem pay8_apply (v : FVec Ideal S128x128 .f32) (r l : Fin 128) :
    k0_pay8 v x6 (ix2 r l) = logForget (v (ix2 r l) + x6 (ix2 0 l)) := by
  pointwise [k0_pay8, logForget]
  rfl

theorem pay13_apply (v : FVec Ideal S512x128 .f32) (r l : Fin 128) :
    k0_pay13 v x6 (ix2 r l) = logForget (v (ix2 ⟨128 + r, by omega⟩ l) + x6 (ix2 0 l)) := by
  pointwise [k0_pay13, logForget]
  rfl

theorem pay19_apply (v : FVec Ideal S512x128 .f32) (r l : Fin 128) :
    k0_pay19 v x6 (ix2 r l) = logForget (v (ix2 ⟨256 + r, by omega⟩ l) + x6 (ix2 0 l)) := by
  pointwise [k0_pay19, logForget]
  rfl

theorem pay27_apply (v : FVec Ideal S512x128 .f32) (r l : Fin 128) :
    k0_pay27 (k0_pay25 v x6) (k0_pay26 v x6) (ix2 r l) = logForget (v (ix2 ⟨384 + r, by omega⟩ l) + x6 (ix2 0 l)) := by
  pointwise [k0_pay24, k0_pay25, k0_pay26, k0_pay27, logForget]
  rfl

/-- The sum of a block's column up to a row. -/
def upTo (a : FVec Ideal S128x128 .f32) (r l : Fin 128) : EReal := ∑ k : Fin 128, if k ≤ r then a (ix2 k l) else 0

theorem pay35_apply (v : FVec Ideal S128x128 .f32) (r l : Fin 128) :
    k0_pay35 k0_pay6 (k0_pay9 v x6) (k0_pay11 v x6) (k0_pay12 v x6) (ix2 r l)
      = upTo (k0_pay8 v x6) r l := by
  rw [upTo, ← triangle r (fun k => (k0_pay8 v x6) (ix2 k l)) (fun k => by rw [pay8_apply]; exact logForget_ne_top _)
    (fun k => k0_pay6 (F := Ideal) (ix2 r k)) (fun k => pay6_apply r k)]
  pointwise [k0_pay35, k0_pay9, k0_pay10, k0_pay11, k0_pay12]

theorem pay36_apply (v : FVec Ideal S512x128 .f32) (r l : Fin 128) :
    k0_pay36 k0_pay6 (k0_pay14 v x6) (k0_pay17 (k0_pay13 v x6) (k0_pay15 v x6)) (k0_pay18 (k0_pay13 v x6) (k0_pay15 v x6)) (ix2 r l)
      = upTo (k0_pay13 v x6) r l := by
  rw [upTo, ← triangle r (fun k => (k0_pay13 v x6) (ix2 k l)) (fun k => by rw [pay13_apply]; exact logForget_ne_top _)
    (fun k => k0_pay6 (F := Ideal) (ix2 r k)) (fun k => pay6_apply r k)]
  pointwise [k0_pay36, k0_pay14, k0_pay15, k0_pay16, k0_pay17, k0_pay18]

theorem pay38_apply (v : FVec Ideal S512x128 .f32) (r l : Fin 128) :
    k0_pay38 k0_pay6 (k0_pay22 v x6) (k0_pay23 v x6) (k0_pay37 k0_pay6 (k0_pay20 v x6)) (constant S128x128 .f32 0x00000000#32) (ix2 r l)
      = upTo (k0_pay19 v x6) r l := by
  rw [upTo, ← triangle r (fun k => (k0_pay19 v x6) (ix2 k l)) (fun k => by rw [pay19_apply]; exact logForget_ne_top _)
    (fun k => k0_pay6 (F := Ideal) (ix2 r k)) (fun k => pay6_apply r k)]
  pointwise [k0_pay37, k0_pay38, k0_pay20, k0_pay21, k0_pay22, k0_pay23]

theorem pay39_apply (v : FVec Ideal S512x128 .f32) (r l : Fin 128) :
    k0_pay39 k0_pay6 (k0_pay28 (k0_pay25 v x6) (k0_pay26 v x6)) (k0_pay30 (k0_pay25 v x6) (k0_pay26 v x6)) (k0_pay31 (k0_pay25 v x6) (k0_pay26 v x6)) (ix2 r l)
      = upTo (k0_pay27 (k0_pay25 v x6) (k0_pay26 v x6)) r l := by
  rw [upTo, ← triangle r (fun k => (k0_pay27 (k0_pay25 v x6) (k0_pay26 v x6)) (ix2 k l)) (fun k => by rw [pay27_apply]; exact logForget_ne_top _)
    (fun k => k0_pay6 (F := Ideal) (ix2 r k)) (fun k => pay6_apply r k)]
  pointwise [k0_pay39, k0_pay28, k0_pay29, k0_pay30, k0_pay31]

end Blocks

end Cert.ProjPay
-- ==== Proof.ProjKernel.lean ====
/- What the kernel of the call before the attention leaves of one block: the projections, and the forget gates summed from the start of the sequence. -/
module

public import proofs.«01_k».proof.Proof.ProjPay
public import Idealize.ShloMosaic.Lib.Pipeline.ValueKit

@[expose] public section

set_option maxRecDepth 16384

noncomputable section

namespace Cert.ProjKernel

open Cert.ProjIdeal Cert.ProjIdeal.Gen Cert.PostRow Cert.ProjRow Cert.ProjPay
open Idealize.ShloMosaic Idealize.ShloMosaic.TcCoe Idealize.SL.Sem
open Idealize.ShloMosaic.Pipeline (Dat)

section Blocks

variable (x0 : Vec Ideal S512x1024 .f32) (x1 : Vec Ideal S1x1024 .f32) (x3 : Vec Ideal S1024x128 .bf16)
  (x6 : Vec Ideal S1x128 .f32) (z : Vec Ideal S1x128 .f32)

/-- The log-forget gate of row `n` of the block at lane `l`; nothing past the block's rows. -/
def gate (l : Fin 128) (n : ℕ) : EReal :=
  if h : n < 512 then logForget (logit x0 x1 x3 ⟨n, h⟩ l + x6 (ix2 0 l)) else 0

/-- The sums of the gates within each run of 128 rows. -/
def in0 : FVec Ideal S128x128 .f32 :=
  k0_pay35 k0_pay6 (k0_pay9 (k0_pay7 x0 x1 x3) x6) (k0_pay11 (k0_pay7 x0 x1 x3) x6) (k0_pay12 (k0_pay7 x0 x1 x3) x6)

def in1 : FVec Ideal S128x128 .f32 :=
  k0_pay36 k0_pay6 (k0_pay14 (k0_pay5 x0 x1 x3) x6)
    (k0_pay17 (k0_pay13 (k0_pay5 x0 x1 x3) x6) (k0_pay15 (k0_pay5 x0 x1 x3) x6))
    (k0_pay18 (k0_pay13 (k0_pay5 x0 x1 x3) x6) (k0_pay15 (k0_pay5 x0 x1 x3) x6))

def in2 : FVec Ideal S128x128 .f32 :=
  k0_pay38 k0_pay6 (k0_pay22 (k0_pay5 x0 x1 x3) x6) (k0_pay23 (k0_pay5 x0 x1 x3) x6)
    (k0_pay37 k0_pay6 (k0_pay20 (k0_pay5 x0 x1 x3) x6)) (constant S128x128 FTy.f32 0#32)

def in3 : FVec Ideal S128x128 .f32 :=
  k0_pay39 k0_pay6 (k0_pay28 (k0_pay25 (k0_pay5 x0 x1 x3) x6) (k0_pay26 (k0_pay5 x0 x1 x3) x6))
    (k0_pay30 (k0_pay25 (k0_pay5 x0 x1 x3) x6) (k0_pay26 (k0_pay5 x0 x1 x3) x6))
    (k0_pay31 (k0_pay25 (k0_pay5 x0 x1 x3) x6) (k0_pay26 (k0_pay5 x0 x1 x3) x6))

variable (r l : Fin 128)

/-- A run's sum, from the gates of its rows. -/
theorem upTo_eq (q : ℕ) (a : FVec Ideal S128x128 .f32)
    (h : ∀ k : Fin 128, a (ix2 k l) = gate x0 x1 x3 x6 l (128 * q + k)) :
    upTo a r l = ∑ k : Fin 128, if k ≤ r then gate x0 x1 x3 x6 l (128 * q + k) else 0 := by
  unfold upTo
  simp only [h]

theorem gate_of (n : ℕ) (m : Fin 512) (h : n = m) :
    logForget (k0_pay5 x0 x1 x3 (ix2 m l) + x6 (ix2 0 l)) = gate x0 x1 x3 x6 l n := by
  subst h
  unfold gate
  rw [dif_pos m.isLt, pay5_apply]

theorem in0_apply : in0 x0 x1 x3 x6 (ix2 r l) = ∑ k : Fin 128, if k ≤ r then gate x0 x1 x3 x6 l (128 * 0 + k) else 0 := by
  rw [in0, pay35_apply]
  refine upTo_eq x0 x1 x3 x6 r l 0 _ fun k => ?_
  rw [pay8_apply, ← gate_of x0 x1 x3 x6 l _ ⟨k, by omega⟩ (by simp)]
  pointwise [k0_pay7]

theorem in1_apply : in1 x0 x1 x3 x6 (ix2 r l) = ∑ k : Fin 128, if k ≤ r then gate x0 x1 x3 x6 l (128 * 1 + k) else 0 := by
  rw [in1, pay36_apply]
  refine upTo_eq x0 x1 x3 x6 r l 1 _ fun k => ?_
  rw [pay13_apply, gate_of x0 x1 x3 x6 l _ _ rfl]

theorem in2_apply : in2 x0 x1 x3 x6 (ix2 r l) = ∑ k : Fin 128, if k ≤ r then gate x0 x1 x3 x6 l (128 * 2 + k) else 0 := by
  rw [in2, pay38_apply]
  refine upTo_eq x0 x1 x3 x6 r l 2 _ fun k => ?_
  rw [pay19_apply, gate_of x0 x1 x3 x6 l _ _ rfl]

theorem in3_apply : in3 x0 x1 x3 x6 (ix2 r l) = ∑ k : Fin 128, if k ≤ r then gate x0 x1 x3 x6 l (128 * 3 + k) else 0 := by
  rw [in3, pay39_apply]
  refine upTo_eq x0 x1 x3 x6 r l 3 _ fun k => ?_
  rw [pay27_apply, gate_of x0 x1 x3 x6 l _ _ rfl]

/-- The running sum of the gates up to the block's row `n`, from what the rows before the block left. -/
def running (l : Fin 128) (n : ℕ) : EReal := z (ix2 0 l) + ∑ i ∈ Finset.range n, gate x0 x1 x3 x6 l i

theorem run0_apply : k0_pay44 (in0 x0 x1 x3 x6) z (ix2 r l) = running x0 x1 x3 x6 z l (128 * 0 + r + 1) := by
  rw [running, ← prefix_step, ← in0_apply]
  pointwise [k0_pay44]
  simp

theorem run1_apply : k0_pay48 (in1 x0 x1 x3 x6) (k0_pay45 (in0 x0 x1 x3 x6) z) (ix2 r l)
    = running x0 x1 x3 x6 z l (128 * 1 + r + 1) := by
  rw [running, ← prefix_step, ← in1_apply]
  refine Eq.trans (b := k0_pay44 (in0 x0 x1 x3 x6) z (ix2 127 l) + in1 x0 x1 x3 x6 (ix2 r l)) ?_ ?_
  · pointwise [k0_pay48, k0_pay45]
  · rw [run0_apply]; rfl

theorem run2_apply : k0_pay51 (in1 x0 x1 x3 x6) (in2 x0 x1 x3 x6) (k0_pay45 (in0 x0 x1 x3 x6) z) (ix2 r l)
    = running x0 x1 x3 x6 z l (128 * 2 + r + 1) := by
  rw [running, ← prefix_step, ← in2_apply]
  refine Eq.trans (b := k0_pay48 (in1 x0 x1 x3 x6) (k0_pay45 (in0 x0 x1 x3 x6) z) (ix2 127 l) + in2 x0 x1 x3 x6 (ix2 r l)) ?_ ?_
  · pointwise [k0_pay51]
  · rw [run1_apply]; rfl

theorem run3_apply : k0_pay54 (in1 x0 x1 x3 x6) (in2 x0 x1 x3 x6) (in3 x0 x1 x3 x6) (k0_pay45 (in0 x0 x1 x3 x6) z) (ix2 r l)
    = running x0 x1 x3 x6 z l (128 * 3 + r + 1) := by
  rw [running, ← prefix_step, ← in3_apply]
  refine Eq.trans (b := k0_pay51 (in1 x0 x1 x3 x6) (in2 x0 x1 x3 x6) (k0_pay45 (in0 x0 x1 x3 x6) z) (ix2 127 l) + in3 x0 x1 x3 x6 (ix2 r l)) ?_ ?_
  · pointwise [k0_pay54]
  · rw [run2_apply]; rfl

/-- What the block hands on to the next: the running sum over all its rows. -/
theorem carry_apply (u : Fin 1) :
    k0_pay2 (k0_pay55 (in1 x0 x1 x3 x6) (in2 x0 x1 x3 x6) (in3 x0 x1 x3 x6) (k0_pay45 (in0 x0 x1 x3 x6) z)) (ix2 u l)
      = running x0 x1 x3 x6 z l 512 := by
  refine Eq.trans (b := k0_pay54 (in1 x0 x1 x3 x6) (in2 x0 x1 x3 x6) (in3 x0 x1 x3 x6) (k0_pay45 (in0 x0 x1 x3 x6) z) (ix2 127 l)) ?_ ?_
  · pointwise [k0_pay2, k0_pay55]
  · rw [run3_apply]; rfl

/-- The logarithm of `e` in base two, as the program spells it. -/
def log2e : EReal := Ideal.ofBits .f32 0x3FB8AA3B#32

theorem pay46_apply : k0_pay46 (in0 x0 x1 x3 x6) z (ix2 r l) = running x0 x1 x3 x6 z l (128 * 0 + r + 1) * log2e := by
  rw [← run0_apply]
  pointwise [k0_pay46, log2e]

theorem pay49_apply : k0_pay49 (in1 x0 x1 x3 x6) (k0_pay45 (in0 x0 x1 x3 x6) z) (ix2 r l) = running x0 x1 x3 x6 z l (128 * 1 + r + 1) * log2e := by
  rw [← run1_apply]
  pointwise [k0_pay49, log2e]

theorem pay52_apply : k0_pay52 (in1 x0 x1 x3 x6) (in2 x0 x1 x3 x6) (k0_pay45 (in0 x0 x1 x3 x6) z) (ix2 r l) = running x0 x1 x3 x6 z l (128 * 2 + r + 1) * log2e := by
  rw [← run2_apply]
  pointwise [k0_pay52, log2e]

theorem pay56_apply : k0_pay56 (in1 x0 x1 x3 x6) (in2 x0 x1 x3 x6) (in3 x0 x1 x3 x6) (k0_pay45 (in0 x0 x1 x3 x6) z) (ix2 r l) = running x0 x1 x3 x6 z l (128 * 3 + r + 1) * log2e := by
  rw [← run3_apply]
  pointwise [k0_pay56, log2e]

/-- The block of running sums in base two, by rows. -/
theorem ctok_canon (n : Fin 512) :
    View.canon (Val := Elt Ideal) (e := .f32)
      [⟨Rect.unit ![384, 0] ![128, 128] inb_S512x128_S128x128_384_0, k0_pay56 (in1 x0 x1 x3 x6) (in2 x0 x1 x3 x6) (in3 x0 x1 x3 x6) (k0_pay45 (in0 x0 x1 x3 x6) z)⟩,
        ⟨Rect.unit ![256, 0] ![128, 128] inb_S512x128_S128x128_256_0, k0_pay52 (in1 x0 x1 x3 x6) (in2 x0 x1 x3 x6) (k0_pay45 (in0 x0 x1 x3 x6) z)⟩,
        ⟨Rect.unit ![128, 0] ![128, 128] inb_S512x128_S128x128_128_0, k0_pay49 (in1 x0 x1 x3 x6) (k0_pay45 (in0 x0 x1 x3 x6) z)⟩,
        ⟨Rect.unit ![0, 0] ![128, 128] inb_S512x128_S128x128_0_0, k0_pay46 (in0 x0 x1 x3 x6) z⟩]
      (ix2 n l) = running x0 x1 x3 x6 z l (n + 1) * log2e := by
  canon_tiles w h
  all_goals
    idx_vars w
    have e1 : w1 = l := Fin.ext h1.symm
    subst e1
  · rw [pay56_apply]; exact congrArg (fun k => running x0 x1 x3 x6 z w1 k * log2e) (congrArg (· + 1) h0.symm)
  · rw [pay52_apply]; exact congrArg (fun k => running x0 x1 x3 x6 z w1 k * log2e) (congrArg (· + 1) h0.symm)
  · rw [pay49_apply]; exact congrArg (fun k => running x0 x1 x3 x6 z w1 k * log2e) (congrArg (· + 1) h0.symm)
  · rw [pay46_apply]
    refine congrArg (fun k => running x0 x1 x3 x6 z w1 k * log2e) (congrArg (· + 1) ?_)
    rw [Nat.mul_zero, Nat.zero_add]
    exact h0.symm

/-- The same block with the rows along the last axis, for the first eight lanes. -/
theorem ct_canon (u : Fin 1) (e : Fin 8) (n : Fin 512) :
    View.canon (Val := Elt Ideal) (e := .f32)
      [⟨Rect.unit ![0, 0, 384] ![1, 8, 128] inb_S1x8x512_S1x8x128_0_0_384, k0_pay1 (k0_pay57 (in1 x0 x1 x3 x6) (in2 x0 x1 x3 x6) (in3 x0 x1 x3 x6) (k0_pay45 (in0 x0 x1 x3 x6) z))⟩,
        ⟨Rect.unit ![0, 0, 256] ![1, 8, 128] inb_S1x8x512_S1x8x128_0_0_256, k0_pay53 (in1 x0 x1 x3 x6) (in2 x0 x1 x3 x6) (k0_pay45 (in0 x0 x1 x3 x6) z)⟩,
        ⟨Rect.unit ![0, 0, 128] ![1, 8, 128] inb_S1x8x512_S1x8x128_0_0_128, k0_pay50 (in1 x0 x1 x3 x6) (k0_pay45 (in0 x0 x1 x3 x6) z)⟩,
        ⟨Rect.unit ![0, 0, 0] ![1, 8, 128] inb_S1x8x512_S1x8x128_0_0_0, k0_pay47 (k0_pay46 (in0 x0 x1 x3 x6) z)⟩]
      (ix3 u e n) = running x0 x1 x3 x6 z ⟨e, by omega⟩ (n + 1) * log2e := by
  canon_tiles w h
  all_goals
    idx_vars w
    have e1 : w1 = e := Fin.ext h1.symm
    subst e1
  · refine Eq.trans (b := k0_pay56 (in1 x0 x1 x3 x6) (in2 x0 x1 x3 x6) (in3 x0 x1 x3 x6) (k0_pay45 (in0 x0 x1 x3 x6) z) (ix2 w2 ⟨w1, by omega⟩)) ?_ ?_
    · pointwise [k0_pay1, k0_pay57]
    · rw [pay56_apply]; exact congrArg (fun k => running x0 x1 x3 x6 z ⟨w1, _⟩ k * log2e) (congrArg (· + 1) h2.symm)
  · refine Eq.trans (b := k0_pay52 (in1 x0 x1 x3 x6) (in2 x0 x1 x3 x6) (k0_pay45 (in0 x0 x1 x3 x6) z) (ix2 w2 ⟨w1, by omega⟩)) ?_ ?_
    · pointwise [k0_pay53]
    · rw [pay52_apply]; exact congrArg (fun k => running x0 x1 x3 x6 z ⟨w1, _⟩ k * log2e) (congrArg (· + 1) h2.symm)
  · refine Eq.trans (b := k0_pay49 (in1 x0 x1 x3 x6) (k0_pay45 (in0 x0 x1 x3 x6) z) (ix2 w2 ⟨w1, by omega⟩)) ?_ ?_
    · pointwise [k0_pay50]
    · rw [pay49_apply]; exact congrArg (fun k => running x0 x1 x3 x6 z ⟨w1, _⟩ k * log2e) (congrArg (· + 1) h2.symm)
  · refine Eq.trans (b := k0_pay46 (in0 x0 x1 x3 x6) z (ix2 w2 ⟨w1, by omega⟩)) ?_ ?_
    · pointwise [k0_pay47]
    · rw [pay46_apply]
      refine congrArg (fun k => running x0 x1 x3 x6 z ⟨w1, _⟩ k * log2e) (congrArg (· + 1) ?_)
      rw [Nat.mul_zero, Nat.zero_add]
      exact h2.symm

variable (x2 : Vec Ideal S1024x1536 .bf16) (x5 : Vec Ideal S1024x2048 .bf16)

/-- The normed row `n` of the block times column `j` of a weight. -/
def proj (w : Fin 1024 → EReal) (n : Fin 512) : EReal :=
  ∑ k, rms (fun k => x0 (ix2 n k)) (fun k => x1 (ix2 0 k)) k * w k

/-- A projection whose first 512 columns (the queries) are scaled. -/
def qkv (s : EReal) (n : Fin 512) (j : Fin 1536) : EReal :=
  if j.val < 512 then proj x0 x1 (fun k => x2 (ix2 k j)) n * s else proj x0 x1 (fun k => x2 (ix2 k j)) n

/-- The scale of the queries of the two halves, as the program spells them. -/
def scaleA : EReal := Ideal.ofBits .f32 0x3E38AA3B#32
def scaleB : EReal := Ideal.ofBits .f32 0x3E000000#32

theorem gl_apply (n : Fin 512) (j : Fin 2048) :
    k0_pay43 (k0_pay3 x0 x1) x5 (ix2 n j) = proj x0 x1 (fun k => x5 (ix2 k j)) n := by
  unfold proj
  simp only [← pay3_apply]
  pointwise [k0_pay43]

theorem qkvA_canon (n : Fin 512) (j : Fin 1536) :
    View.canon (Val := Elt Ideal) (e := .bf16)
      [⟨Rect.unit ![0, 512] ![512, 1024] inb_S512x1536_S512x1024_0_512, k0_pay34 (k0_pay3 x0 x1) x2⟩,
        ⟨Rect.unit ![0, 0] ![512, 512] inb_S512x1536_S512x512_0_0, k0_pay33 (k0_pay3 x0 x1) x2⟩]
      (ix2 n j) = qkv x0 x1 x2 scaleA n j := by
  unfold qkv proj
  simp only [← pay3_apply]
  canon_tiles w h using View.cover_of_tiledBy _ ![512, 512] (by sl_kernel_rfl) (ix2 n j)
  all_goals
    idx_vars w
    have e0 : w0 = n := Fin.ext h0.symm
    subst e0
  · have e1 : j = ⟨512 + w1, by clear h1; omega⟩ := Fin.ext h1
    subst e1
    rw [if_neg (by simp)]
    pointwise [k0_pay34, k0_pay32]
  · have e1 : j = ⟨w1, by clear h1; omega⟩ := Fin.ext h1
    subst e1
    rw [if_pos w1.isLt]
    pointwise [k0_pay33, k0_pay32, scaleA]

theorem qkvB_canon (n : Fin 512) (j : Fin 1536) :
    View.canon (Val := Elt Ideal) (e := .bf16)
      [⟨Rect.unit ![0, 512] ![512, 1024] inb_S512x1536_S512x1024_0_512, k0_pay42 (k0_pay3 x0 x1) x2⟩,
        ⟨Rect.unit ![0, 0] ![512, 512] inb_S512x1536_S512x512_0_0, k0_pay41 (k0_pay3 x0 x1) x2⟩]
      (ix2 n j) = qkv x0 x1 x2 scaleB n j := by
  unfold qkv proj
  simp only [← pay3_apply]
  canon_tiles w h using View.cover_of_tiledBy _ ![512, 512] (by sl_kernel_rfl) (ix2 n j)
  all_goals
    idx_vars w
    have e0 : w0 = n := Fin.ext h0.symm
    subst e0
  · have e1 : j = ⟨512 + w1, by clear h1; omega⟩ := Fin.ext h1
    subst e1
    rw [if_neg (by simp)]
    pointwise [k0_pay42, k0_pay40]
  · have e1 : j = ⟨w1, by clear h1; omega⟩ := Fin.ext h1
    subst e1
    rw [if_pos w1.isLt]
    pointwise [k0_pay41, k0_pay40, scaleB]

end Blocks

end Cert.ProjKernel
-- ==== Proof.ProjBlocks.lean ====
/- The windows of the call before the attention: each block, at an index, as an element of the launched arguments; and the
   call's results as functions of the arguments. -/
module

public import proofs.«01_k».proof.Proof.ProjKernel
public import Idealize.ShloMosaic.Lib.StableHlo.ReadAt

@[expose] public section

set_option maxRecDepth 16384

noncomputable section

namespace Cert.ProjBlocks

open Cert.ProjIdeal Cert.ProjIdeal.Gen Cert.PostRow Cert.ProjRow Cert.ProjPay Cert.ProjKernel
open Idealize.ShloMosaic Idealize.ShloMosaic.TcCoe Idealize.SL.Sem
open Idealize.ShloMosaic.Pipeline (Dat)

section Args

variable (a0 : FVec Ideal S16x2048x1024 .f32) (a1 : FVec Ideal S1x1024 .f32) (a2 : FVec Ideal S1x1024x5128 .f32)
  (a3 : FVec Ideal S1x8 .f32)

/-- The normed row of token `(b, s)` times column `j` of the input projection. -/
def column (b : Fin 16) (s : Fin 2048) (j : Fin 5128) : EReal :=
  ∑ k, rms (fun k => a0 (ix3 b s k)) (fun k => a1 (ix2 0 k)) k * a2 (ix3 0 k j)

/-- The forget logit of token `(b, s)` at lane `l`: head `l`'s for the eight heads, zero for the other lanes. -/
def forget (b : Fin 16) (s : Fin 2048) (l : Fin 128) : EReal :=
  if h : l.val < 8 then column a0 a1 a2 b s ⟨1536 + l, by omega⟩ + a3 (ix2 0 ⟨l, h⟩) else 0

/-- The log-forget gate of the sequence's token `n`; nothing past the sequence. -/
def argGate (b : Fin 16) (l : Fin 128) (n : ℕ) : EReal :=
  if h : n < 2048 then logForget (forget a0 a1 a2 a3 b ⟨n, h⟩ l) else 0

/-- The gates of the sequence's tokens up to `s`, summed, in base two. -/
def decay (b : Fin 16) (s : Fin 2048) (l : Fin 128) : EReal :=
  (∑ n ∈ Finset.range (s + 1), argGate a0 a1 a2 a3 b l n) * log2e

/-- Queries, keys and values of one half: 1536 columns from column `o`, the queries scaled. -/
def heads (o : ℕ) (ho : o + 1536 ≤ 5128) (σ : EReal) (b : Fin 16) (s : Fin 2048) (j : Fin 1536) : EReal :=
  if j.val < 512 then column a0 a1 a2 b s ⟨o + j, by omega⟩ * σ else column a0 a1 a2 b s ⟨o + j, by omega⟩

/-- The gate logits of the merge after the attention. -/
def gates (b : Fin 16) (s : Fin 2048) (j : Fin 2048) : EReal := column a0 a1 a2 b s ⟨3080 + j, by omega⟩

end Args

variable (m : (ℓ : Loc nD τ sig) → Buf (Elt Ideal) ℓ)

/-- Every window's block index at every grid point. -/
theorem idx : ∀ t : Fin cfg0.N,
    win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![t.val, 0] ∧ win0_8.index t = ![t.val, 0] ∧ win0_9.index t = ![t.val, 0]
    ∧ win0_10.index t = ![t.val, 0] ∧ win0_11.index t = ![t.val / 4, 0, t.val % 4] :=
  (by decide +kernel : ∀ t : Fin grid0.N, _)

theorem point_lt (t : Fin cfg0.N) (r : Fin 512) : t.val * 512 + r.val < 32768 := by
  have h : cfg0.N = 64 := N_0
  have := t.isLt
  omega

/-- The sequence and the token of the block's row `r` at point `t`. -/
abbrev seqOf (t : Fin cfg0.N) (r : Fin 512) : Fin 16 :=
  ⟨(t.val * 512 + r.val) / 2048, by have := point_lt t r; omega⟩
abbrev tokOf (t : Fin cfg0.N) (r : Fin 512) : Fin 2048 := ⟨(t.val * 512 + r.val) % 2048, by omega⟩

/-- The integer zero that pads the forget gates' weights, as a float. -/
theorem sitofp_nought (φ : FTy) : (FloatOps.sitofp φ 0#32 : Ideal φ) = 0 := by
  show (((0 : ℤ) : ℝ) : EReal) = 0
  simp

theorem entry_0 (c : Dev nD) (n : Fin 32768) (k : Fin 1024) :
    V m c main_v16 (ix2 n k) = m ((c : Thread nD τ).loc main_arg0)
      (ix3 ⟨n.val / 2048, by omega⟩ ⟨n.val % 2048, by omega⟩ k) := by
  unfold V
  after_reads_at

theorem blk_0 (c : Dev nD) (t : Fin cfg0.N) (r : Fin 512) (k : Fin 1024) :
    iblk m c 0 t (ix2 r k) = m ((c : Thread nD τ).loc main_arg0) (ix3 (seqOf t r) (tokOf t r) k) := by
  refine Eq.trans ?_ (entry_0 m c ⟨t.val * 512 + r.val, point_lt t r⟩ k)
  blk_ext [iblk, idx t]

theorem entry_1 (c : Dev nD) (k : Fin 1024) :
    V m c main_v18 (ix2 0 k) = m ((c : Thread nD τ).loc main_arg1) (ix2 0 k) := by
  unfold V
  after_reads_at

theorem blk_1 (c : Dev nD) (t : Fin cfg0.N) (k : Fin 1024) :
    iblk m c 1 t (ix2 0 k) = m ((c : Thread nD τ).loc main_arg1) (ix2 0 k) := by
  refine Eq.trans ?_ (entry_1 m c k)
  blk_ext [iblk, idx t]

theorem entry_2 (c : Dev nD) (k : Fin 1024) (j : Fin 1536) :
    V m c main_v2 (ix2 k j) = m ((c : Thread nD τ).loc main_arg2) (ix3 0 k ⟨0 + j, by omega⟩) := by
  unfold V
  after_reads_at

theorem blk_2 (c : Dev nD) (t : Fin cfg0.N) (k : Fin 1024) (j : Fin 1536) :
    iblk m c 2 t (ix2 k j) = m ((c : Thread nD τ).loc main_arg2) (ix3 0 k ⟨0 + j, by omega⟩) := by
  refine Eq.trans ?_ (entry_2 m c k j)
  blk_ext [iblk, idx t]

theorem entry_3 (c : Dev nD) (k : Fin 1024) (l : Fin 128) :
    V m c main_v12 (ix2 k l) = if h : l.val < 8 then m ((c : Thread nD τ).loc main_arg2) (ix3 0 k ⟨1536 + l, by omega⟩) else (0 : EReal) := by
  unfold V
  after_reads_at
  simp only [sitofp_nought]

theorem blk_3 (c : Dev nD) (t : Fin cfg0.N) (k : Fin 1024) (l : Fin 128) :
    iblk m c 3 t (ix2 k l) = if h : l.val < 8 then m ((c : Thread nD τ).loc main_arg2) (ix3 0 k ⟨1536 + l, by omega⟩) else (0 : EReal) := by
  refine Eq.trans ?_ (entry_3 m c k l)
  blk_ext [iblk, idx t]

theorem entry_4 (c : Dev nD) (k : Fin 1024) (j : Fin 1536) :
    V m c main_v8 (ix2 k j) = m ((c : Thread nD τ).loc main_arg2) (ix3 0 k ⟨1544 + j, by omega⟩) := by
  unfold V
  after_reads_at

theorem blk_4 (c : Dev nD) (t : Fin cfg0.N) (k : Fin 1024) (j : Fin 1536) :
    iblk m c 4 t (ix2 k j) = m ((c : Thread nD τ).loc main_arg2) (ix3 0 k ⟨1544 + j, by omega⟩) := by
  refine Eq.trans ?_ (entry_4 m c k j)
  blk_ext [iblk, idx t]

theorem entry_5 (c : Dev nD) (k : Fin 1024) (j : Fin 2048) :
    V m c main_v11 (ix2 k j) = m ((c : Thread nD τ).loc main_arg2) (ix3 0 k ⟨3080 + j, by omega⟩) := by
  unfold V
  after_reads_at

theorem blk_5 (c : Dev nD) (t : Fin cfg0.N) (k : Fin 1024) (j : Fin 2048) :
    iblk m c 5 t (ix2 k j) = m ((c : Thread nD τ).loc main_arg2) (ix3 0 k ⟨3080 + j, by omega⟩) := by
  refine Eq.trans ?_ (entry_5 m c k j)
  blk_ext [iblk, idx t]

theorem entry_6 (c : Dev nD) (l : Fin 128) :
    V m c main_v15 (ix2 0 l) = if h : l.val < 8 then m ((c : Thread nD τ).loc main_arg3) (ix2 0 ⟨l, h⟩) else (0 : EReal) := by
  unfold V
  after_reads_at
  simp only [sitofp_nought]

theorem blk_6 (c : Dev nD) (t : Fin cfg0.N) (l : Fin 128) :
    iblk m c 6 t (ix2 0 l) = if h : l.val < 8 then m ((c : Thread nD τ).loc main_arg3) (ix2 0 ⟨l, h⟩) else (0 : EReal) := by
  refine Eq.trans ?_ (entry_6 m c l)
  blk_ext [iblk, idx t]

end Cert.ProjBlocks
-- ==== Proof.ProjFinal.lean ====
/- The result arrays of the call before the attention after the run, index by index, as functions of the launched arguments. -/
module

public import proofs.«01_k».proof.Proof.ProjBlocks
public import Idealize.ShloMosaic.Lib.Pipeline.ReadBack

@[expose] public section

set_option maxRecDepth 16384

noncomputable section

namespace Cert.ProjFinal

open Cert.ProjIdeal Cert.ProjIdeal.Gen Cert.PostRow Cert.ProjRow Cert.ProjPay Cert.ProjKernel Cert.ProjBlocks
open Idealize.ShloMosaic Idealize.ShloMosaic.TcCoe Idealize.SL.Sem
open Idealize.ShloMosaic.Pipeline (Dat)

variable (m : (ℓ : Loc nD τ sig) → Buf (Elt Ideal) ℓ)

/-! ## The blocks' functions as functions of the arguments -/

theorem proj_eq (c : Dev nD) (t : Fin cfg0.N) (r : Fin 512) (w : Fin 1024 → EReal) (j : Fin 5128)
    (hw : ∀ k, w k = m ((c : Thread nD τ).loc main_arg2) (ix3 0 k j)) :
    proj (iblk m c 0 t) (iblk m c 1 t) w r
      = column (m ((c : Thread nD τ).loc main_arg0)) (m ((c : Thread nD τ).loc main_arg1))
          (m ((c : Thread nD τ).loc main_arg2)) (seqOf t r) (tokOf t r) j := by
  unfold proj column
  simp only [blk_0, blk_1, hw]

theorem logit_eq (c : Dev nD) (t : Fin cfg0.N) (r : Fin 512) (l : Fin 128) :
    logit (iblk m c 0 t) (iblk m c 1 t) (iblk m c 3 t) r l + iblk m c 6 t (ix2 0 l)
      = forget (m ((c : Thread nD τ).loc main_arg0)) (m ((c : Thread nD τ).loc main_arg1))
          (m ((c : Thread nD τ).loc main_arg2)) (m ((c : Thread nD τ).loc main_arg3)) (seqOf t r) (tokOf t r) l := by
  unfold logit forget column
  simp only [blk_0, blk_1, blk_3, blk_6]
  by_cases h : l.val < 8
  · simp only [dif_pos h]
  · simp only [dif_neg h, mul_zero, Finset.sum_const_zero, add_zero]

/-- The grid point's sequence. -/
abbrev sequence (t : Fin cfg0.N) : Fin 16 := ⟨t.val / 4, by have h : cfg0.N = 64 := N_0; have := t.isLt; omega⟩

theorem seqOf_eq (t : Fin cfg0.N) (r : Fin 512) : seqOf t r = sequence t := Fin.ext (by show _ / _ = _ / _; omega)

theorem tokOf_val (t : Fin cfg0.N) (r : Fin 512) : (tokOf t r).val = 512 * (t.val % 4) + r := by show _ % _ = _; omega

/-- The gates of the sequence's first `n` tokens, summed. -/
def sumTo (c : Dev nD) (b : Fin 16) (l : Fin 128) (n : ℕ) : EReal :=
  ∑ i ∈ Finset.range n, argGate (m ((c : Thread nD τ).loc main_arg0)) (m ((c : Thread nD τ).loc main_arg1))
    (m ((c : Thread nD τ).loc main_arg2)) (m ((c : Thread nD τ).loc main_arg3)) b l i

theorem gate_eq (c : Dev nD) (t : Fin cfg0.N) (l : Fin 128) (n : ℕ) (hn : n < 512) :
    gate (iblk m c 0 t) (iblk m c 1 t) (iblk m c 3 t) (iblk m c 6 t) l n
      = argGate (m ((c : Thread nD τ).loc main_arg0)) (m ((c : Thread nD τ).loc main_arg1))
          (m ((c : Thread nD τ).loc main_arg2)) (m ((c : Thread nD τ).loc main_arg3)) (sequence t) l (512 * (t.val % 4) + n) := by
  unfold gate argGate
  rw [dif_pos hn, dif_pos (by omega), logit_eq, seqOf_eq]
  exact congrArg (fun s => logForget (forget _ _ _ _ (sequence t) s l)) (Fin.ext (tokOf_val t ⟨n, hn⟩))

/-- The block's running sums are the sequence's, when what enters is the sum over the tokens before the block. -/
theorem running_eq (c : Dev nD) (t : Fin cfg0.N) (z : Vec Ideal S1x128 .f32) (l : Fin 128) (n : ℕ) (hn : n ≤ 512)
    (hz : z (ix2 0 l) = sumTo m c (sequence t) l (512 * (t.val % 4))) :
    running (iblk m c 0 t) (iblk m c 1 t) (iblk m c 3 t) (iblk m c 6 t) z l n
      = sumTo m c (sequence t) l (512 * (t.val % 4) + n) := by
  unfold running
  rw [hz]
  unfold sumTo
  rw [Finset.sum_range_add]
  refine congrArg _ (Finset.sum_congr rfl fun i hi => ?_)
  exact gate_eq m c t l i (by have := Finset.mem_range.mp hi; omega)

/-- What each point leaves for the next: the gates of its sequence, summed to the block's end. -/
theorem carried (c : Dev nD) (l : Fin 128) : ∀ (n : ℕ) (hn : n < cfg0.N),
    (outsAt0 m c n hn).2.2.2.2.2 (ix2 0 l) = sumTo m c (sequence ⟨n, hn⟩) l (512 * (n % 4) + 512)
  | n, hn => by
    by_cases h0 : n % 4 = 0
    · rw [outsAt0_A m c ⟨n, hn⟩ h0]
      frame_out
      refine (carry_apply _ _ _ _ _ l 0).trans (running_eq m c ⟨n, hn⟩ _ l 512 le_rfl ?_)
      rw [pay4_apply]
      show 0 = sumTo m c _ l (512 * (n % 4))
      rw [h0]
      rfl
    · rw [outsAt0_B m c ⟨n, hn⟩ h0]
      frame_out
      simp only [read_unread_whole]
      refine (carry_apply _ _ _ _ _ l 0).trans (running_eq m c ⟨n, hn⟩ _ l 512 le_rfl ?_)
      refine (carried c l (n - 1) (by omega)).trans ?_
      have e : sequence ⟨n - 1, by omega⟩ = sequence ⟨n, hn⟩ := Fin.ext (by show (n - 1) / 4 = n / 4; omega)
      rw [e]
      exact congrArg (sumTo m c _ l) (by show 512 * ((n - 1) % 4) + 512 = 512 * (n % 4); omega)

/-- What enters a point that starts no sequence: the gates of the tokens before the block, summed. -/
theorem entering (c : Dev nD) (l : Fin 128) (t : Fin cfg0.N) (h0 : ¬t.val % 4 = 0) :
    (outsAt0 m c (t.val - 1) (Nat.lt_of_le_of_lt (Nat.sub_le _ _) t.isLt)).2.2.2.2.2 (ix2 0 l)
      = sumTo m c (sequence t) l (512 * (t.val % 4)) := by
  refine (carried m c l (t.val - 1) _).trans ?_
  have e : sequence ⟨t.val - 1, Nat.lt_of_le_of_lt (Nat.sub_le _ _) t.isLt⟩ = sequence t :=
    Fin.ext (by show (t.val - 1) / 4 = t.val / 4; omega)
  rw [e]
  exact congrArg (sumTo m c _ l) (by omega)

theorem starting (c : Dev nD) (l : Fin 128) (t : Fin cfg0.N) (h0 : t.val % 4 = 0) :
    k0_pay4 (F := Ideal) (ix2 0 l) = sumTo m c (sequence t) l (512 * (t.val % 4)) := by
  rw [pay4_apply, h0]
  rfl

/-! ## The blocks each point leaves -/

theorem point_7 (c : Dev nD) (t : Fin cfg0.N) (r : Fin 512) (j : Fin 1536) :
    (outsAt0 m c t.val t.isLt).1 (ix2 r j)
      = heads (m ((c : Thread nD τ).loc main_arg0)) (m ((c : Thread nD τ).loc main_arg1))
          (m ((c : Thread nD τ).loc main_arg2)) 0 (by omega) scaleA (seqOf t r) (tokOf t r) j := by
  have e := proj_eq m c t r (fun k => iblk m c 2 t (ix2 k j)) ⟨0 + j, by omega⟩ (fun k => blk_2 m c t k j)
  unfold heads
  rw [← e]
  by_cases h0 : t.val % 4 = 0
  · rw [outsAt0_A m c t h0]
    frame_out
    exact qkvA_canon _ _ _ r j
  · rw [outsAt0_B m c t h0]
    frame_out
    exact qkvA_canon _ _ _ r j

theorem point_8 (c : Dev nD) (t : Fin cfg0.N) (r : Fin 512) (j : Fin 1536) :
    (outsAt0 m c t.val t.isLt).2.1 (ix2 r j)
      = heads (m ((c : Thread nD τ).loc main_arg0)) (m ((c : Thread nD τ).loc main_arg1))
          (m ((c : Thread nD τ).loc main_arg2)) 1544 (by omega) scaleB (seqOf t r) (tokOf t r) j := by
  have e := proj_eq m c t r (fun k => iblk m c 4 t (ix2 k j)) ⟨1544 + j, by omega⟩ (fun k => blk_4 m c t k j)
  unfold heads
  rw [← e]
  by_cases h0 : t.val % 4 = 0
  · rw [outsAt0_A m c t h0]
    frame_out
    exact qkvB_canon _ _ _ r j
  · rw [outsAt0_B m c t h0]
    frame_out
    exact qkvB_canon _ _ _ r j

theorem point_9 (c : Dev nD) (t : Fin cfg0.N) (r : Fin 512) (j : Fin 2048) :
    (outsAt0 m c t.val t.isLt).2.2.1 (ix2 r j)
      = gates (m ((c : Thread nD τ).loc main_arg0)) (m ((c : Thread nD τ).loc main_arg1))
          (m ((c : Thread nD τ).loc main_arg2)) (seqOf t r) (tokOf t r) j := by
  have e := proj_eq m c t r (fun k => iblk m c 5 t (ix2 k j)) ⟨3080 + j, by omega⟩ (fun k => blk_5 m c t k j)
  unfold gates
  rw [← e]
  by_cases h0 : t.val % 4 = 0
  · rw [outsAt0_A m c t h0]
    frame_out
    exact gl_apply _ _ _ r j
  · rw [outsAt0_B m c t h0]
    frame_out
    exact gl_apply _ _ _ r j

theorem decay_of (c : Dev nD) (t : Fin cfg0.N) (r : Fin 512) (l : Fin 128) :
    sumTo m c (sequence t) l (512 * (t.val % 4) + (r + 1)) * log2e
      = decay (m ((c : Thread nD τ).loc main_arg0)) (m ((c : Thread nD τ).loc main_arg1))
          (m ((c : Thread nD τ).loc main_arg2)) (m ((c : Thread nD τ).loc main_arg3)) (seqOf t r) (tokOf t r) l := by
  unfold decay sumTo
  rw [seqOf_eq, tokOf_val]
  rfl

theorem point_10 (c : Dev nD) (t : Fin cfg0.N) (r : Fin 512) (l : Fin 128) :
    (outsAt0 m c t.val t.isLt).2.2.2.1 (ix2 r l)
      = decay (m ((c : Thread nD τ).loc main_arg0)) (m ((c : Thread nD τ).loc main_arg1))
          (m ((c : Thread nD τ).loc main_arg2)) (m ((c : Thread nD τ).loc main_arg3)) (seqOf t r) (tokOf t r) l := by
  rw [← decay_of]
  by_cases h0 : t.val % 4 = 0
  · rw [outsAt0_A m c t h0]
    frame_out
    refine (ctok_canon _ _ _ _ _ l r).trans (congrArg (· * log2e) ?_)
    exact running_eq m c t _ l (r + 1) (by omega) (starting m c l t h0)
  · rw [outsAt0_B m c t h0]
    frame_out
    simp only [read_unread_whole]
    refine (ctok_canon _ _ _ _ _ l r).trans (congrArg (· * log2e) ?_)
    exact running_eq m c t _ l (r + 1) (by omega) (entering m c l t h0)

theorem point_11 (c : Dev nD) (t : Fin cfg0.N) (u : Fin 1) (e : Fin 8) (r : Fin 512) :
    (outsAt0 m c t.val t.isLt).2.2.2.2.1 (ix3 u e r)
      = decay (m ((c : Thread nD τ).loc main_arg0)) (m ((c : Thread nD τ).loc main_arg1))
          (m ((c : Thread nD τ).loc main_arg2)) (m ((c : Thread nD τ).loc main_arg3)) (seqOf t r) (tokOf t r)
          ⟨e, by omega⟩ := by
  rw [← decay_of]
  by_cases h0 : t.val % 4 = 0
  · rw [outsAt0_A m c t h0]
    frame_out
    refine (ct_canon _ _ _ _ _ u e r).trans (congrArg (· * log2e) ?_)
    exact running_eq m c t _ _ (r + 1) (by omega) (starting m c _ t h0)
  · rw [outsAt0_B m c t h0]
    frame_out
    simp only [read_unread_whole]
    refine (ct_canon _ _ _ _ _ u e r).trans (congrArg (· * log2e) ?_)
    exact running_eq m c t _ _ (r + 1) (by omega) (entering m c _ t h0)

/-! ## The result arrays -/

/-- The sequence and the token of row `n`. -/
abbrev seqAt (n : Fin 32768) : Fin 16 := ⟨n.val / 2048, by omega⟩
abbrev tokAt (n : Fin 32768) : Fin 2048 := ⟨n.val % 2048, by omega⟩

def headsA (c : Dev nD) : FVec Ideal S32768x1536 .bf16 := fun i =>
  heads (m ((c : Thread nD τ).loc main_arg0)) (m ((c : Thread nD τ).loc main_arg1))
    (m ((c : Thread nD τ).loc main_arg2)) 0 (by omega) scaleA (seqAt (i 0)) (tokAt (i 0)) (i 1)

def headsB (c : Dev nD) : FVec Ideal S32768x1536 .bf16 := fun i =>
  heads (m ((c : Thread nD τ).loc main_arg0)) (m ((c : Thread nD τ).loc main_arg1))
    (m ((c : Thread nD τ).loc main_arg2)) 1544 (by omega) scaleB (seqAt (i 0)) (tokAt (i 0)) (i 1)

def gateLogits (c : Dev nD) : FVec Ideal S32768x2048 .bf16 := fun i =>
  gates (m ((c : Thread nD τ).loc main_arg0)) (m ((c : Thread nD τ).loc main_arg1))
    (m ((c : Thread nD τ).loc main_arg2)) (seqAt (i 0)) (tokAt (i 0)) (i 1)

def decayRows (c : Dev nD) : FVec Ideal S32768x128 .f32 := fun i =>
  decay (m ((c : Thread nD τ).loc main_arg0)) (m ((c : Thread nD τ).loc main_arg1))
    (m ((c : Thread nD τ).loc main_arg2)) (m ((c : Thread nD τ).loc main_arg3)) (seqAt (i 0)) (tokAt (i 0)) (i 1)

def decayHeads (c : Dev nD) : FVec Ideal S16x8x2048 .f32 := fun i =>
  decay (m ((c : Thread nD τ).loc main_arg0)) (m ((c : Thread nD τ).loc main_arg1))
    (m ((c : Thread nD τ).loc main_arg2)) (m ((c : Thread nD τ).loc main_arg3)) (i 0) (i 2)
    ⟨(i 1).val, lt_of_lt_of_le (i 1).isLt (by decide)⟩

theorem emb_7 (t : Fin cfg0.N) (r : Fin 512) (j : Fin 1536) :
    ((cfg0.win 7).blk t).view.emb (ix2 r j) = (ix2 ⟨t.val * 512 + r.val, point_lt t r⟩ j : S32768x1536.Idx) := by
  blk_ext [idx t]

theorem emb_8 (t : Fin cfg0.N) (r : Fin 512) (j : Fin 1536) :
    ((cfg0.win 8).blk t).view.emb (ix2 r j) = (ix2 ⟨t.val * 512 + r.val, point_lt t r⟩ j : S32768x1536.Idx) := by
  blk_ext [idx t]

theorem emb_9 (t : Fin cfg0.N) (r : Fin 512) (j : Fin 2048) :
    ((cfg0.win 9).blk t).view.emb (ix2 r j) = (ix2 ⟨t.val * 512 + r.val, point_lt t r⟩ j : S32768x2048.Idx) := by
  blk_ext [idx t]

theorem emb_10 (t : Fin cfg0.N) (r : Fin 512) (l : Fin 128) :
    ((cfg0.win 10).blk t).view.emb (ix2 r l) = (ix2 ⟨t.val * 512 + r.val, point_lt t r⟩ l : S32768x128.Idx) := by
  blk_ext [idx t]

theorem emb_11 (t : Fin cfg0.N) (u : Fin 1) (e : Fin 8) (r : Fin 512) :
    ((cfg0.win 11).blk t).view.emb (ix3 u e r) = (ix3 (seqOf t r) e (tokOf t r) : S16x8x2048.Idx) := by
  have h1 : (seqOf t r).val = t.val / 4 := congrArg Fin.val (seqOf_eq t r)
  have h2 := tokOf_val t r
  blk_ext [idx t]

theorem final_7 (c : Dev nD) : (dats m 0 c).arrAt 7 cfg0.N = headsA m c := by
  refine (dats m 0 c).arrAt_eq_of_covers 7 _ (by decide +kernel) fun t _ y => ?_
  blk_simp
  rw [after0_7]
  idx_vars y
  exact (point_7 m c t _ _).trans (congrArg (headsA m c) (emb_7 t _ _)).symm

theorem final_8 (c : Dev nD) : (dats m 0 c).arrAt 8 cfg0.N = headsB m c := by
  refine (dats m 0 c).arrAt_eq_of_covers 8 _ (by decide +kernel) fun t _ y => ?_
  blk_simp
  rw [after0_8]
  idx_vars y
  exact (point_8 m c t _ _).trans (congrArg (headsB m c) (emb_8 t _ _)).symm

theorem final_9 (c : Dev nD) : (dats m 0 c).arrAt 9 cfg0.N = gateLogits m c := by
  refine (dats m 0 c).arrAt_eq_of_covers 9 _ (by decide +kernel) fun t _ y => ?_
  blk_simp
  rw [after0_9]
  idx_vars y
  exact (point_9 m c t _ _).trans (congrArg (gateLogits m c) (emb_9 t _ _)).symm

theorem final_10 (c : Dev nD) : (dats m 0 c).arrAt 10 cfg0.N = decayRows m c := by
  refine (dats m 0 c).arrAt_eq_of_covers 10 _ (by decide +kernel) fun t _ y => ?_
  blk_simp
  rw [after0_10]
  idx_vars y
  exact (point_10 m c t _ _).trans (congrArg (decayRows m c) (emb_10 t _ _)).symm

theorem final_11 (c : Dev nD) : (dats m 0 c).arrAt 11 cfg0.N = decayHeads m c := by
  refine (dats m 0 c).arrAt_eq_of_covers 11 _ (by decide +kernel) fun t _ y => ?_
  blk_simp
  rw [after0_11]
  idx_vars y
  exact (point_11 m c t _ _ _).trans (congrArg (decayHeads m c) (emb_11 t _ _ _)).symm

end Cert.ProjFinal
-- ==== Proof.ProjRef.lean ====
/- The reference of the call before the attention, read at an index: its running sum along the sequence, and its log-sigmoid. -/
module

public import proofs.«01_k».proof.Proof.ProjFinal
public import proofs.«01_k».proof.Proof.Gen.ProjRefIdeal.Run

@[expose] public section

set_option maxRecDepth 16384

noncomputable section

namespace Cert.ProjRef

open Cert.ProjRefIdeal Cert.ProjRefIdeal.Gen Cert.ProjRefIdeal.Value Cert.PostRow Cert.ProjRow
open Idealize.ShloMosaic Idealize.ShloMosaic.TcCoe Idealize.SL.Sem

/-- A fold that adds is a sum. -/
theorem foldl_add {ι : Type} (g : ι → EReal) (L : List ι) (v : EReal) :
    L.foldl (fun r n => r + g n) v = v + (L.map g).sum := by
  induction L generalizing v with
  | nil => simp
  | cons a L ih => rw [List.foldl_cons, ih, List.map_cons, List.sum_cons, add_assoc]

/-- The window of the running sum: the whole sequence's length, one sequence, one lane. -/
abbrev window : Shape := ⟨3, ![1, 2048, 1]⟩

/-- The window's positions are its rows. -/
def rowOf : window.Idx ≃ Fin 2048 where
  toFun w := w 1
  invFun k := (ix3 0 k 0 : (⟨3, ![1, 2048, 1]⟩ : Shape).Idx)
  left_inv w := by
    funext a
    match a with
    | ⟨0, _⟩ => exact Subsingleton.elim (α := Fin 1) _ _
    | ⟨1, _⟩ => rfl
    | ⟨2, _⟩ => exact Subsingleton.elim (α := Fin 1) _ _
  right_inv k := rfl

/-- Sums over a window that ends at row `s`, padded with zeros before the first row. -/
theorem window_sum (f : ℕ → EReal) (s : ℕ) (hs : s < 2048) :
    ∑ k : Fin 2048, (if 2047 ≤ s + k.val then f (s + k.val - 2047) else 0) = ∑ n ∈ Finset.range (s + 1), f n := by
  rw [Fin.sum_univ_eq_sum_range (fun k => if 2047 ≤ s + k then f (s + k - 2047) else 0) 2048,
    show 2048 = (2047 - s) + (s + 1) by omega, Finset.sum_range_add]
  rw [Finset.sum_eq_zero fun k hk => if_neg (by have := Finset.mem_range.mp hk; omega), zero_add]
  refine Finset.sum_congr rfl fun k _ => ?_
  rw [if_pos (by omega)]
  exact congrArg f (by omega)

theorem cumsum_apply (x : FVec Ideal S16x2048x128 .f32) (init : FVec Ideal S_ .f32) (hinit : init ix0 = 0)
    (h : S16x2048x128.ReduceWindows (![1, 2048, 1] : Fin 3 → Nat) ![1, 1, 1] ![0, 2047, 0] ![0, 0, 0] S16x2048x128)
    (hu : 0 < S_.numel) (b : Fin 16) (s : Fin 2048) (l : Fin 128) :
    Host.reduceWindowAdd (F := Ideal) (φ := .f32) ![1, 2048, 1] ![1, 1, 1] ![0, 2047, 0] ![0, 0, 0] x init h hu (ix3 b s l)
      = ∑ n ∈ Finset.range (s + 1), if hn : n < 2048 then x (ix3 b ⟨n, hn⟩ l) else 0 := by
  have hv : init (Shape.Idx.first hu) = 0 := (congrArg init (funext fun a => a.elim0)).trans hinit
  rw [Host.reduceWindowAdd, Ideal.hostReduceWindowAdd_def, hv]
  unfold Ideal.hostReduceWindowAdd Host.reduceWindow
  refine (foldl_add _ _ _).trans ?_
  rw [zero_add, ← window_sum (fun n => if hn : n < 2048 then x (ix3 b ⟨n, hn⟩ l) else 0) s s.isLt, ← List.ofFn_eq_map,
    List.sum_ofFn]
  refine Fintype.sum_equiv (window.rowMajor.symm.trans rowOf) _ _ fun n => ?_
  have w0 : (window.rowMajor.symm n 0).val = 0 := Nat.lt_one_iff.mp (window.rowMajor.symm n 0).isLt
  have w1 : (window.rowMajor.symm n 1).val < 2048 := (window.rowMajor.symm n 1).isLt
  have w2 : (window.rowMajor.symm n 2).val = 0 := Nat.lt_one_iff.mp (window.rowMajor.symm n 2).isLt
  have hb := b.isLt
  have hs := s.isLt
  have hl := l.isLt
  show _ = if 2047 ≤ s.val + (window.rowMajor.symm n 1).val then _ else _
  dsimp only
  split
  · next hin =>
    have h1 : 2047 ≤ s.val * 1 + (window.rowMajor.symm n 1).val := (hin 1).1
    rw [if_pos (by omega), dif_pos (by show s.val + (window.rowMajor.symm n 1).val - 2047 < 2048; omega)]
    refine congrArg x (funext fun a => Fin.ext ?_)
    match a with
    | ⟨0, _⟩ =>
      show b.val * 1 + (window.rowMajor.symm n 0).val - 0 = b.val
      omega
    | ⟨1, _⟩ =>
      show s.val * 1 + (window.rowMajor.symm n 1).val - 2047 = s.val + (window.rowMajor.symm n 1).val - 2047
      omega
    | ⟨2, _⟩ =>
      show l.val * 1 + (window.rowMajor.symm n 2).val - 0 = l.val
      omega
  · next hin =>
    rw [if_neg fun hle => hin fun a => by
      match a with
      | ⟨0, _⟩ =>
        show 0 ≤ b.val * 1 + (window.rowMajor.symm n 0).val ∧ b.val * 1 + (window.rowMajor.symm n 0).val - 0 < 16
        omega
      | ⟨1, _⟩ =>
        show 2047 ≤ s.val * 1 + (window.rowMajor.symm n 1).val
          ∧ s.val * 1 + (window.rowMajor.symm n 1).val - 2047 < 2048
        omega
      | ⟨2, _⟩ =>
        show 0 ≤ l.val * 1 + (window.rowMajor.symm n 2).val ∧ l.val * 1 + (window.rowMajor.symm n 2).val - 0 < 128
        omega]

/-! ## The reference's results -/

open Cert.ProjBlocks (column forget argGate decay heads gates)
open Cert.ProjFinal (seqAt tokAt)

variable (m : (ℓ : Loc nD τ sig) → Buf (Elt Ideal) ℓ)

/-- The reference's log-sigmoid, minus a softplus of the negated argument whose test for a non-number never holds. -/
theorem softplus_neg (y : Ideal .f32) :
    -(if -y ≠ -y then -y else max (-y) 0 + Ideal.log1p (Ideal.exp (-FloatOps.absf (-y)))) = logForget y := by
  have ha : (FloatOps.absf (-y) : Ideal .f32) = max y (-y) := by
    show max (-y) (- -y) = max y (-y)
    rw [neg_neg, max_comm]
  have hn : ∀ z : EReal, 0 - z = -z := fun z => by rw [sub_eq_add_neg, zero_add]
  rw [if_neg (fun h => h rfl), ha]
  unfold logForget
  rw [hn, hn, hn]
  rfl

theorem v47_apply (c : Dev nD) (n : Fin 32768) (l : Fin 128) :
    res_main_v47 m c (ix2 n l)
      = decay (m ((c.tc : Thread nD τ).loc main_arg0)) (m ((c.tc : Thread nD τ).loc main_arg1))
          (m ((c.tc : Thread nD τ).loc main_arg2)) (m ((c.tc : Thread nD τ).loc main_arg3)) (seqAt n) (tokAt n) l := by
  unfold decay res_main_v47 Cert.ProjKernel.log2e
  clean_types
  pointwise
  rw [cumsum_apply _ _ (by pointwise)]
  generalize Ideal.ofBits FTy.f32 1069066811#32 = w
  congr 1
  refine Finset.sum_congr rfl fun k hk => ?_
  unfold argGate
  split
  · next hn =>
    unfold forget column rms width eps seqAt
    pointwise
    by_cases hl : l.val < 8
    · have hc : n.val / 2048 < 16 ∧ k < 2048 ∧ l.val < 8 := ⟨by omega, hn, hl⟩
      simp only [dif_pos hc, dif_pos hl]
      exact softplus_neg _
    · have hc : ¬ (n.val / 2048 < 16 ∧ k < 2048 ∧ l.val < 8) := fun h => hl h.2.2
      simp only [dif_neg hc, dif_neg hl, Cert.ProjBlocks.sitofp_nought]
      exact softplus_neg 0
  · rfl

/-- The gates laid out by head are the gates laid out by token, transposed. -/
theorem v49_rows (c : Dev nD) (b : Fin 16) (e : Fin 8) (s : Fin 2048) :
    res_main_v49 m c (ix3 b e s) = res_main_v47 m c (ix2 ⟨b.val * 2048 + s.val, by omega⟩ ⟨e.val, by omega⟩) := by
  unfold res_main_v49 res_main_v47
  clean_types
  pointwise

theorem run_values (g : Dev nD → PrngReg) :
    θ_run defs (onTc (τ := τ) (main (F := Ideal))) ⟨m, fun _ => 0, g⟩ fun r => ∀ c : Dev nD,
      (∀ n j, r.2.mem ((c.tc : Thread nD τ).loc main_v44) (ix2 n j)
        = heads (m ((c.tc : Thread nD τ).loc main_arg0)) (m ((c.tc : Thread nD τ).loc main_arg1))
          (m ((c.tc : Thread nD τ).loc main_arg2)) 0 (by omega) Cert.ProjKernel.scaleA (seqAt n) (tokAt n) j)
      ∧ (∀ n j, r.2.mem ((c.tc : Thread nD τ).loc main_v45) (ix2 n j)
        = heads (m ((c.tc : Thread nD τ).loc main_arg0)) (m ((c.tc : Thread nD τ).loc main_arg1))
          (m ((c.tc : Thread nD τ).loc main_arg2)) 1544 (by omega) Cert.ProjKernel.scaleB (seqAt n) (tokAt n) j)
      ∧ (∀ n j, r.2.mem ((c.tc : Thread nD τ).loc main_v46) (ix2 n j)
        = gates (m ((c.tc : Thread nD τ).loc main_arg0)) (m ((c.tc : Thread nD τ).loc main_arg1))
          (m ((c.tc : Thread nD τ).loc main_arg2)) (seqAt n) (tokAt n) j)
      ∧ (∀ n l, r.2.mem ((c.tc : Thread nD τ).loc main_v47) (ix2 n l)
        = decay (m ((c.tc : Thread nD τ).loc main_arg0)) (m ((c.tc : Thread nD τ).loc main_arg1))
          (m ((c.tc : Thread nD τ).loc main_arg2)) (m ((c.tc : Thread nD τ).loc main_arg3)) (seqAt n) (tokAt n) l)
      ∧ (∀ b e s, r.2.mem ((c.tc : Thread nD τ).loc main_v49) (ix3 b e s)
        = decay (m ((c.tc : Thread nD τ).loc main_arg0)) (m ((c.tc : Thread nD τ).loc main_arg1))
          (m ((c.tc : Thread nD τ).loc main_arg2)) (m ((c.tc : Thread nD τ).loc main_arg3)) b s ⟨e.val, by omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (run m g) fun r h c => ?_
  obtain ⟨h0, h1, h2, h3, h4, h5⟩ := h c
  refine ⟨fun n j => ?_, fun n j => ?_, fun n j => ?_, fun n l => ?_, fun b e s => ?_, h5⟩
  · rw [h0]
    clear h0 h1 h2 h3 h4 h5 h
    unfold heads column rms width eps Cert.ProjKernel.scaleA seqAt tokAt
    clean_types
    pointwise
    by_cases h : j.val < 512
    · simp only [dif_pos h, if_pos h]
    · have e1 : 512 + (j.val - 512) = j.val := by omega
      have e2 : 1024 + (j.val - 512 - 512) = j.val ∨ j.val - 512 < 512 := by omega
      simp only [dif_neg h, if_neg h]
      split
      · simp only [e1]
      · next h' => simp only [e2.resolve_right h']
  · rw [h1]
    clear h0 h1 h2 h3 h4 h5 h
    unfold heads column rms width eps Cert.ProjKernel.scaleB seqAt tokAt
    clean_types
    pointwise
    by_cases h : j.val < 512
    · simp only [dif_pos h, if_pos h]
    · have e1 : 2056 + (j.val - 512) = 1544 + j.val := by omega
      have e2 : 2568 + (j.val - 512 - 512) = 1544 + j.val ∨ j.val - 512 < 512 := by omega
      simp only [dif_neg h, if_neg h]
      split
      · simp only [e1]
      · next h' => simp only [e2.resolve_right h']
  · rw [h2]
    clear h0 h1 h2 h3 h4 h5 h
    unfold gates column rms width eps seqAt tokAt
    clean_types
    pointwise
    by_cases h : j.val < 1024
    · simp only [dif_pos h]
    · have e : 4104 + (j.val - 1024) = 3080 + j.val := by omega
      simp only [dif_neg h, e]
  · rw [h3]
    exact v47_apply m c n l
  · rw [h4, v49_rows, v47_apply]
    have hs : seqAt ⟨b.val * 2048 + s.val, by omega⟩ = b := Fin.ext (by show (b.val * 2048 + s.val) / 2048 = b.val; omega)
    have ht : tokAt ⟨b.val * 2048 + s.val, by omega⟩ = s := Fin.ext (by show (b.val * 2048 + s.val) % 2048 = s.val; omega)
    rw [hs, ht]

end Cert.ProjRef
-- ==== Proof.ProjCert.lean ====
/- The call before the attention and its reference compute the same results: all five arrays are the functions of ProjBlocks.lean. -/
module

public import proofs.«01_k».proof.Defs
public import proofs.«01_k».proof.Proof.ProjFinal
public import proofs.«01_k».proof.Proof.ProjRef
public import Idealize.ShloMosaic.Lib.Claim

@[expose] public section

set_option maxRecDepth 16384

noncomputable section

namespace Cert.ProjCert

open Idealize.ShloMosaic Idealize.ShloMosaic.TcCoe Idealize.SL.Sem
open Cert.ProjFinal

theorem algebraic : Cert.algebraic_ProjIdeal_ProjRefIdeal := by
  pair_intro
  · run_from Cert.ProjIdeal.Value.run_blocks m g
  · refine θ_run_mono (Cert.ProjRef.run_values m' g') fun r h c => ?_
    obtain ⟨r0, r1, r2, r3, r4, h5⟩ := h c
    obtain ⟨h0, h1, h2, h3⟩ := hagree c
    refine ⟨?_, ?_, ?_, ?_, ?_, h5⟩
    · rw [final_7]
      funext i
      idx_vars i
      rw [r0, h0, h1, h2]
      rfl
    · rw [final_8]
      funext i
      idx_vars i
      rw [r1, h0, h1, h2]
      rfl
    · rw [final_9]
      funext i
      idx_vars i
      rw [r2, h0, h1, h2]
      rfl
    · rw [final_10]
      funext i
      idx_vars i
      rw [r3, h0, h1, h2, h3]
      rfl
    · rw [final_11]
      funext i
      idx_vars i
      rw [r4, h0, h1, h2, h3]
      rfl

end Cert.ProjCert
-- ==== Proof.ProjFrames.lean ====
/- The frame of the reference: host operations only, and no semaphore to leave raised. -/
module

public import proofs.«01_k».proof.Defs
public import proofs.«01_k».proof.Proof.Gen.ProjRefIdeal.Run
public import Idealize.ShloMosaic.Lib.Claim

@[expose] public section

set_option maxRecDepth 16384

noncomputable section

namespace Cert.ProjFrames

open Idealize.ShloMosaic Idealize.SL.Sem

theorem refFrame : Cert.quiescent_ProjRefIdeal := by
  intro m g _
  refine θ_run_mono (Cert.ProjRefIdeal.Value.run m g) fun r h => ⟨fun c => (h c).2.2.2.2.2, funext fun x => ?_⟩
  obtain ⟨d, s⟩ := x
  exact (show SemLoc Cert.ProjRefIdeal.sig → False by decide) s |>.elim

end Cert.ProjFrames
-- ==== Proof.StickRow.lean ====
/- One query's row of the stick-breaking attention: what each key's weight is, and how the blocks of keys add up to it. -/
module

public import proofs.«01_k».proof.Proof.ProjRow

@[expose] public section

noncomputable section

namespace Cert.StickRow

open Idealize.ShloMosaic
open Cert.PostRow Cert.ProjRow

/-- The softplus of `z`, as both programs spell it. -/
def sp (z : EReal) : EReal := max z 0 + Ideal.log (1 + Ideal.exp (0 - max z (-z)))

/-- The softplus at minus infinity, the mask, is nothing. -/
theorem sp_bot : sp ⊥ = 0 := by
  unfold sp
  have h : Ideal.exp (0 - max (⊥ : EReal) (-⊥)) = 0 := by
    rw [EReal.neg_bot, max_eq_right bot_le]
    rfl
  rw [h, add_zero, max_eq_right bot_le, zero_add]
  show (if (1 : ℝ) ≤ 0 then ⊥ else (Real.log 1 : EReal)) = 0
  rw [if_neg (by norm_num), Real.log_one, EReal.coe_zero]

theorem coe_max (x y : ℝ) : ((max x y : ℝ) : EReal) = max (x : EReal) y := EReal.coe_strictMono.monotone.map_max

/-- The softplus of a real number is real. -/
theorem sp_coe (x : ℝ) : sp (x : EReal) = ((max x 0 + Real.log (1 + Real.exp (0 - max x (-x))) : ℝ) : EReal) := by
  unfold sp
  have e1 : (0 : EReal) - max (x : EReal) (-(x : EReal)) = ((0 - max x (-x) : ℝ) : EReal) := by
    rw [← EReal.coe_neg, ← coe_max, EReal.coe_sub]; rfl
  rw [e1]
  have e2 : (1 : EReal) + Ideal.exp ((0 - max x (-x) : ℝ) : EReal) = ((1 + Real.exp (0 - max x (-x)) : ℝ) : EReal) := by
    show (1 : EReal) + ((Real.exp (0 - max x (-x)) : ℝ) : EReal) = _
    push_cast; rfl
  rw [e2]
  have e3 : Ideal.log ((1 + Real.exp (0 - max x (-x)) : ℝ) : EReal) = ((Real.log (1 + Real.exp (0 - max x (-x))) : ℝ) : EReal) := by
    show (if 1 + Real.exp (0 - max x (-x)) ≤ 0 then ⊥ else (Real.log (1 + Real.exp (0 - max x (-x))) : EReal)) = _
    rw [if_neg (by have := Real.exp_pos (0 - max x (-x)); linarith)]
  rw [e3, ← EReal.coe_zero, ← coe_max, EReal.coe_add]

/-- What a key's logit loses to the keys of its block from itself on: the softplus in two parts against a triangle of ones. -/
def fromSelf (tri : Fin 256 → Fin 256 → EReal) (z : Fin 256 → EReal) (s : Fin 256) : EReal :=
  ∑ u, sp (z u) * tri u s + ∑ u, (sp (z u) - sp (z u)) * tri u s

/-- A logit that is a real number or the mask. -/
def Tame (z : EReal) : Prop := z = ⊥ ∨ ∃ x : ℝ, z = x

theorem Tame.sub_self {z : EReal} (h : Tame z) : sp z - sp z = 0 := by
  rcases h with rfl | ⟨x, rfl⟩
  · rw [sp_bot]; simp
  · rw [sp_coe, ← EReal.coe_sub, _root_.sub_self]; rfl

theorem fromSelf_eq (tri : Fin 256 → Fin 256 → EReal) (ht : ∀ u s, tri u s = if s ≤ u then 1 else 0)
    (z : Fin 256 → EReal) (hz : ∀ u, Tame (z u)) (s : Fin 256) :
    fromSelf tri z s = ∑ u, if s ≤ u then sp (z u) else 0 := by
  unfold fromSelf
  rw [← Finset.sum_add_distrib]
  refine Finset.sum_congr rfl fun u _ => ?_
  rw [ht, (hz u).sub_self, zero_mul, add_zero]
  split_ifs <;> simp

end Cert.StickRow
-- ==== Proof.StickPay.lean ====
/- The values the stick-breaking kernel computes from a block of keys, each read at an index. -/
module

public import proofs.«01_k».proof.Proof.StickRow
public import proofs.«01_k».proof.Proof.Gen.StickIdeal.Value

@[expose] public section

set_option maxRecDepth 16384

noncomputable section

namespace Cert.StickPay

open Cert.StickIdeal Cert.StickIdeal.Gen Cert.PostRow Cert.ProjRow Cert.StickRow
open Idealize.ShloMosaic Idealize.ShloMosaic.TcCoe Idealize.SL.Sem
open Idealize.ShloMosaic.Pipeline (Dat)

/-! Words: lane numbers, heads, masks. -/

theorem lane_128 (x : Fin 256) (l : Fin 128) :
    IntOp.andi (IntOp.addi (IntOp.muli (BitVec.ofNat 32 x.val) 128#32) (BitVec.ofNat 32 l.val)) 127#32 = BitVec.ofNat 32 l.val := by
  show (BitVec.ofNat 32 x.val * 128#32 + BitVec.ofNat 32 l.val) &&& 127#32 = BitVec.ofNat 32 l.val
  apply BitVec.eq_of_toNat_eq
  rw [BitVec.toNat_and, show (127#32).toNat = 2 ^ 7 - 1 from rfl, Nat.and_two_pow_sub_one_eq_mod]
  simp only [BitVec.toNat_add, BitVec.toNat_mul, BitVec.toNat_ofNat]
  omega

theorem lane_256 (x l : Fin 256) :
    IntOp.andi (IntOp.addi (IntOp.muli (BitVec.ofNat 32 x.val) 256#32) (BitVec.ofNat 32 l.val)) 255#32 = BitVec.ofNat 32 l.val := by
  show (BitVec.ofNat 32 x.val * 256#32 + BitVec.ofNat 32 l.val) &&& 255#32 = BitVec.ofNat 32 l.val
  apply BitVec.eq_of_toNat_eq
  rw [BitVec.toNat_and, show (255#32).toNat = 2 ^ 8 - 1 from rfl, Nat.and_two_pow_sub_one_eq_mod]
  simp only [BitVec.toNat_add, BitVec.toNat_mul, BitVec.toNat_ofNat]
  omega

theorem sign_one : Scalar.subi (Scalar.extui (Scalar.cmpi CmpIPredicate.sgt 64#32 0#32))
    (Scalar.extui (Scalar.cmpi CmpIPredicate.slt 64#32 0#32)) = 1#32 := by decide

/-- The quotient by 64, as the program rounds it down. -/
theorem quotient (l : Fin 256) : Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32))) 1#32)
      (IntOp.cmpi CmpIPredicate.ne (IntOp.remsi ArithUnit.vector (BitVec.ofNat 32 l.val) 64#32) 0#32))
    (IntOp.subi (IntOp.divsi ArithUnit.vector (BitVec.ofNat 32 l.val) 64#32) 1#32)
    (IntOp.divsi ArithUnit.vector (BitVec.ofNat 32 l.val) 64#32) = BitVec.ofNat 32 (l.val / 64) := by
  revert l
  decide +kernel

theorem quotient_128 (l : Fin 128) : Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32))) 1#32)
      (IntOp.cmpi CmpIPredicate.ne (IntOp.remsi ArithUnit.vector (BitVec.ofNat 32 l.val) 64#32) 0#32))
    (IntOp.subi (IntOp.divsi ArithUnit.vector (BitVec.ofNat 32 l.val) 64#32) 1#32)
    (IntOp.divsi ArithUnit.vector (BitVec.ofNat 32 l.val) 64#32) = BitVec.ofNat 32 (l.val / 64) :=
  quotient ⟨l.val, by omega⟩

theorem select_eq (a b : ℕ) (ha : a < 2 ^ 31) (hb : b < 2 ^ 31) {α : Type} (p q : α) :
    Scalar.select (IntOp.cmpi CmpIPredicate.eq (BitVec.ofNat 32 a) (BitVec.ofNat 32 b)) p q = if a = b then p else q := by
  have e : (BitVec.ofNat 32 a = BitVec.ofNat 32 b) ↔ a = b := by
    constructor
    · intro h
      have := congrArg BitVec.toNat h
      simp only [BitVec.toNat_ofNat] at this
      omega
    · rintro rfl; rfl
  by_cases h : a = b
  · subst h
    rw [if_pos rfl]
    simp [IntOp.cmpi, Scalar.select]
  · rw [if_neg h]
    have h' : (BitVec.ofNat 32 a == BitVec.ofNat 32 b) = false := by simpa [e] using h
    simp only [IntOp.cmpi, Scalar.select, h']
    rfl

theorem select_lt (a b : ℕ) (ha : a < 2 ^ 31) (hb : b < 2 ^ 31) {α : Type} (p q : α) :
    Scalar.select (IntOp.cmpi CmpIPredicate.slt (BitVec.ofNat 32 a) (BitVec.ofNat 32 b)) p q = if a < b then p else q := by
  rw [WordCmp.cmpi_slt_ofNat ha hb]
  by_cases h : a < b <;> simp [h, Scalar.select]

/-- A value read from four stacked quarters is the value read at the row itself. -/
theorem quarter {α : Type} (R : Fin 1024) (f : Fin 1024 → ℕ → α) :
    (if h : R.val < 256 then f ⟨R.val, by omega⟩ R.val
      else if h : R.val - 256 < 256 then f ⟨256 + (R.val - 256), by omega⟩ (R.val - 256)
      else if h : R.val - 256 - 256 < 256 then f ⟨512 + (R.val - 256 - 256), by omega⟩ (R.val - 256 - 256)
      else f ⟨768 + (R.val - 256 - 256 - 256), by omega⟩ (R.val - 256 - 256 - 256)) = f R (R.val % 256) := by
  split_ifs with h1 h2 h3
  · rw [show R.val % 256 = R.val by omega]
  · rw [show R.val % 256 = R.val - 256 by omega]; exact congrArg (f · _) (Fin.ext (by show 256 + _ = _; omega))
  · rw [show R.val % 256 = R.val - 256 - 256 by omega]; exact congrArg (f · _) (Fin.ext (by show 512 + _ = _; omega))
  · rw [show R.val % 256 = R.val - 256 - 256 - 256 by omega]; exact congrArg (f · _) (Fin.ext (by show 768 + _ = _; omega))

theorem absf_eq (z : Ideal .f32) : FloatOps.absf z = max z (-z) := rfl

/-- The mask is minus infinity. -/
theorem mask_eq : (Named.named κ "mask" 0xF149F2CA#32 : Ideal .f32) = ⊥ := rfl

section Blocks

variable (Q : Vec Ideal S1024x256 .bf16) (K V : Vec Ideal S1x256x256 .bf16) (tri : FVec Ideal S256x256 .bf16)

theorem pay3_apply (R : Fin 1024) (u : Fin 256) :
    k0_pay3 K Q (ix2 R u) = ∑ c : Fin 256, Q (ix2 R c) * K (ix3 0 u c) := by
  pointwise [k0_pay3]

/-- The four heads' logits of the block, one after another. -/
def sums : FVec Ideal S1024x256 .f32 :=
  k0_pay14 tri (k0_pay3 K Q) (k0_pay6 K Q) (k0_pay7 K Q) (k0_pay10 K Q) (k0_pay11 K Q) (k0_pay12 K Q)
    (Scalar.ofBits .f32 0x00000000#32)

theorem sums_apply (R : Fin 1024) (s : Fin 256) : sums Q K tri (ix2 R s)
    = fromSelf (fun u s => tri (ix2 u s)) (fun u => k0_pay3 K Q (ix2 R u)) s := by
  pointwise [sums, fromSelf, sp, k0_pay14, k0_pay13, k0_pay12, k0_pay11, k0_pay10, k0_pay9, k0_pay8, k0_pay7, k0_pay6, k0_pay5, k0_pay4]
  simp only [absf_eq]
  refine congr (congrArg HAdd.hAdd ?_) ?_ <;> refine Finset.sum_congr rfl fun x _ => congrArg (· * tri (ix2 x s)) ?_
  · exact quarter R fun S _ => sp (k0_pay3 K Q (ix2 S x))
  · exact quarter R fun S _ => sp (k0_pay3 K Q (ix2 S x)) - sp (k0_pay3 K Q (ix2 S x))

/-- The row of the stacked heads at which head `h` of the group keeps query `r`. -/
abbrev row (h : Fin 4) (r : Fin 256) : Fin 1024 := ⟨256 * h.val + r.val, by omega⟩

/-- What a later block of keys leaves of the four sums carried from block to block. -/
def carries (c : FVec Ideal S256x1 .f32 × FVec Ideal S256x1 .f32 × FVec Ideal S256x1 .f32 × FVec Ideal S256x1 .f32) :
    FVec Ideal S256x1 .f32 × FVec Ideal S256x1 .f32 × FVec Ideal S256x1 .f32 × FVec Ideal S256x1 .f32 :=
  (k0_pay17 tri c.1 (k0_pay3 K Q) (k0_pay6 K Q) (k0_pay7 K Q) (k0_pay10 K Q) (k0_pay11 K Q) (k0_pay12 K Q) (Scalar.ofBits .f32 0x00000000#32),
    k0_pay20 tri c.2.1 (k0_pay3 K Q) (k0_pay6 K Q) (k0_pay7 K Q) (k0_pay10 K Q) (k0_pay11 K Q) (k0_pay12 K Q) (Scalar.ofBits .f32 0x00000000#32),
    k0_pay25 c.2.2.1 (k0_pay21 tri (k0_pay3 K Q) (k0_pay6 K Q) (k0_pay7 K Q) (k0_pay10 K Q) (k0_pay11 K Q) (k0_pay12 K Q) (Scalar.ofBits .f32 0x00000000#32)),
    k0_pay28 c.2.2.2 (sums Q K tri))

/-- The four weights of a later block of keys. -/
def weights (c : FVec Ideal S256x1 .f32 × FVec Ideal S256x1 .f32 × FVec Ideal S256x1 .f32 × FVec Ideal S256x1 .f32) :
    Fin 4 → FVec Ideal S256x256 .bf16
  | 0 => k0_pay16 tri c.1 (k0_pay3 K Q) (k0_pay4 K Q) (k0_pay6 K Q) (k0_pay7 K Q) (k0_pay10 K Q) (k0_pay11 K Q) (k0_pay12 K Q) (Scalar.ofBits .f32 0x00000000#32)
  | 1 => k0_pay19 tri c.2.1 (k0_pay3 K Q) (k0_pay6 K Q) (k0_pay7 K Q) (k0_pay8 K Q) (k0_pay10 K Q) (k0_pay11 K Q) (k0_pay12 K Q) (Scalar.ofBits .f32 0x00000000#32)
  | 2 => k0_pay24 (k0_pay22 tri (k0_pay3 K Q) (k0_pay6 K Q) (k0_pay7 K Q) (k0_pay10 K Q) (k0_pay11 K Q) (k0_pay12 K Q) (Scalar.ofBits .f32 0x00000000#32)) (k0_pay23 c.2.2.1)
  | 3 => k0_pay27 c.2.2.2 (k0_pay13 (k0_pay3 K Q)) (sums Q K tri)

/-- One of the four carried sums. -/
def carry (c : FVec Ideal S256x1 .f32 × FVec Ideal S256x1 .f32 × FVec Ideal S256x1 .f32 × FVec Ideal S256x1 .f32) :
    Fin 4 → FVec Ideal S256x1 .f32
  | 0 => c.1
  | 1 => c.2.1
  | 2 => c.2.2.1
  | 3 => c.2.2.2

variable (c : FVec Ideal S256x1 .f32 × FVec Ideal S256x1 .f32 × FVec Ideal S256x1 .f32 × FVec Ideal S256x1 .f32)

theorem row_0 (r : Fin 256) : row 0 r = ⟨r.val, by omega⟩ := Fin.ext (by simp)
theorem row_1 (r : Fin 256) : row 1 r = ⟨256 + r.val, by omega⟩ := rfl
theorem row_2 (r : Fin 256) : row 2 r = ⟨512 + r.val, by omega⟩ := rfl
theorem row_3 (r : Fin 256) : row 3 r = ⟨768 + r.val, by omega⟩ := rfl

theorem carries_apply (h : Fin 4) (r : Fin 256) : carry (carries Q K tri c) h (ix2 r 0)
    = carry c h (ix2 r 0) + fromSelf (fun u s => tri (ix2 u s)) (fun u => k0_pay3 K Q (ix2 (row h r) u)) 0 := by
  rw [← sums_apply]
  match h with
  | 0 => rw [row_0]; pointwise [carry, carries, k0_pay17, k0_pay15, sums]
  | 1 => rw [row_1]; pointwise [carry, carries, k0_pay20, k0_pay18, sums]
  | 2 => rw [row_2]; pointwise [carry, carries, k0_pay25, k0_pay21, sums]
  | 3 => rw [row_3]; pointwise [carry, carries, k0_pay28, k0_pay26, sums]

theorem weights_apply (h : Fin 4) (r s : Fin 256) : weights Q K tri c h (ix2 r s)
    = Ideal.exp (k0_pay3 K Q (ix2 (row h r) s)
        - fromSelf (fun u s => tri (ix2 u s)) (fun u => k0_pay3 K Q (ix2 (row h r) u)) s - carry c h (ix2 r 0)) := by
  rw [← sums_apply]
  match h with
  | 0 => rw [row_0]; pointwise [carry, weights, k0_pay16, k0_pay15, k0_pay4, sums]
  | 1 => rw [row_1]; pointwise [carry, weights, k0_pay19, k0_pay18, k0_pay8, sums]
  | 2 => rw [row_2]; pointwise [carry, weights, k0_pay24, k0_pay22, k0_pay21, k0_pay23, k0_pay12, sums]
  | 3 => rw [row_3]; pointwise [carry, weights, k0_pay27, k0_pay26, k0_pay13, sums]

/-! The first block, the one on the diagonal: its logits are masked. -/

/-- The masked logits of the block on the diagonal. -/
def masked (r s : Fin 256) (R : Fin 1024) : EReal := if s < r then k0_pay91 K Q (ix2 R s) else ⊥

abbrev rows : IVec S256x256 32 := iota .tc S256x256 32 [0] iota_S256x256_d0_w32
abbrev cols : IVec S256x256 32 := iota .tc S256x256 32 [1] iota_S256x256_d1_w32

def sums' : FVec Ideal S1024x256 .f32 :=
  k0_pay102 rows cols tri (k0_pay91 K Q) (k0_pay94 rows cols K Q) (k0_pay95 rows cols K Q) (k0_pay98 rows cols K Q) (k0_pay99 rows cols K Q)

theorem pay91_apply (R : Fin 1024) (u : Fin 256) :
    k0_pay91 K Q (ix2 R u) = ∑ c : Fin 256, Q (ix2 R c) * K (ix3 0 u c) := by
  pointwise [k0_pay91]

theorem sums'_apply (R : Fin 1024) (s : Fin 256) : sums' Q K tri (ix2 R s)
    = fromSelf (fun u s => tri (ix2 u s)) (fun u => masked Q K ⟨R.val % 256, by omega⟩ u R) s := by
  pointwise [sums', fromSelf, sp, masked, k0_pay92, k0_pay93, k0_pay94, k0_pay95, k0_pay96, k0_pay97, k0_pay98, k0_pay99, k0_pay100, k0_pay101, k0_pay102]
  simp (disch := omega) only [mask_eq, Fin.lt_def, select_lt, absf_eq]
  refine congr (congrArg HAdd.hAdd ?_) ?_ <;> refine Finset.sum_congr rfl fun x _ => congrArg (· * tri (ix2 x s)) ?_
  · exact quarter R fun S r => sp (if x.val < r then k0_pay91 K Q (ix2 S x) else ⊥)
  · exact quarter R fun S r => sp (if x.val < r then k0_pay91 K Q (ix2 S x) else ⊥) - sp (if x.val < r then k0_pay91 K Q (ix2 S x) else ⊥)

/-- One step of the sum over keys: what the group's halves add to what they hold. -/
theorem pay33_apply (w0 w1 : FVec Ideal S256x256 .bf16) (A : FVec Ideal S1x256x128 .f32) (r : Fin 256) (l : Fin 128) :
    k0_pay33 w0 w1 (k0_pay29 (k0_pay2 K)) k0_pay30 k0_pay31 (k0_pay32 (k0_pay2 K)) A (ix3 0 r l)
      = A (ix3 0 r l) + ∑ s, (if l.val < 64 then w0 else w1) (ix2 r s) * K (ix3 0 s ⟨l.val, by omega⟩) := by
  pointwise [k0_pay33, k0_pay29, k0_pay2, k0_pay30, k0_pay31, k0_pay32]
  simp only [lane_128, sign_one, quotient_128]
  rw [← Finset.sum_add_distrib]
  refine congrArg _ (Finset.sum_congr rfl fun s _ => ?_)
  rw [select_eq _ 0 (by omega) (by omega), select_eq _ 0 (by omega) (by omega)]
  by_cases h : l.val < 64
  · rw [if_pos (by omega), if_pos (by omega), if_pos h, add_zero]
  · rw [if_neg (by omega), if_neg (by omega), if_neg h, zero_add]

/-- The same for the upper half of the group's lanes. -/
theorem pay125_apply (w0 w1 : FVec Ideal S256x256 .bf16) (A : FVec Ideal S1x256x128 .f32) (r : Fin 256) (l : Fin 128) :
    k0_pay125 w0 w1 (k0_pay34 (k0_pay2 K)) k0_pay36 k0_pay37 k0_pay38 A (ix3 0 r l)
      = A (ix3 0 r l) + ∑ s, (if l.val < 64 then w0 else w1) (ix2 r s) * K (ix3 0 s ⟨128 + l.val, by omega⟩) := by
  pointwise [k0_pay125, k0_pay34, k0_pay2, k0_pay35, k0_pay36, k0_pay37, k0_pay38]
  simp only [lane_128, sign_one, quotient_128]
  rw [← Finset.sum_add_distrib]
  refine congrArg _ (Finset.sum_congr rfl fun s _ => ?_)
  rw [select_eq _ 0 (by omega) (by omega), select_eq _ 0 (by omega) (by omega)]
  by_cases h : l.val < 64
  · rw [if_pos (by omega), if_pos (by omega), if_pos h, add_zero]
  · rw [if_neg (by omega), if_neg (by omega), if_neg h, zero_add]

theorem pay119_apply (w0 w1 : FVec Ideal S256x256 .bf16) (A : FVec Ideal S1x256x128 .f32) (r : Fin 256) (l : Fin 128) :
    k0_pay119 w0 w1 (k0_pay115 (k0_pay90 K)) k0_pay117 k0_pay118 A (ix3 0 r l)
      = A (ix3 0 r l) + ∑ s, (if l.val < 64 then w0 else w1) (ix2 r s) * K (ix3 0 s ⟨l.val, by omega⟩) := by
  pointwise [k0_pay119, k0_pay115, k0_pay90, k0_pay116, k0_pay117, k0_pay118]
  simp only [lane_128, sign_one, quotient_128]
  rw [← Finset.sum_add_distrib]
  refine congrArg _ (Finset.sum_congr rfl fun s _ => ?_)
  rw [select_eq _ 0 (by omega) (by omega), select_eq _ 0 (by omega) (by omega)]
  by_cases h : l.val < 64
  · rw [if_pos (by omega), if_pos (by omega), if_pos h, add_zero]
  · rw [if_neg (by omega), if_neg (by omega), if_neg h, zero_add]

theorem pay124_apply (w0 w1 : FVec Ideal S256x256 .bf16) (A : FVec Ideal S1x256x128 .f32) (r : Fin 256) (l : Fin 128) :
    k0_pay124 w0 w1 (k0_pay120 (k0_pay90 K)) k0_pay121 64#32 k0_pay122 k0_pay123 1#32 A (ix3 0 r l)
      = A (ix3 0 r l) + ∑ s, (if l.val < 64 then w0 else w1) (ix2 r s) * K (ix3 0 s ⟨128 + l.val, by omega⟩) := by
  pointwise [k0_pay124, k0_pay120, k0_pay90, k0_pay121, k0_pay122, k0_pay123]
  simp only [lane_128, quotient_128]
  rw [← Finset.sum_add_distrib]
  refine congrArg _ (Finset.sum_congr rfl fun s _ => ?_)
  rw [select_eq _ 0 (by omega) (by omega), select_eq _ 0 (by omega) (by omega)]
  by_cases h : l.val < 64
  · rw [if_pos (by omega), if_pos (by omega), if_pos h, add_zero]
  · rw [if_neg (by omega), if_neg (by omega), if_neg h, zero_add]

/-- What the diagonal block leaves of the four carried sums. -/
def carries' : FVec Ideal S256x1 .f32 × FVec Ideal S256x1 .f32 × FVec Ideal S256x1 .f32 × FVec Ideal S256x1 .f32 :=
  (k0_pay105 rows cols tri k0_pay86 (k0_pay91 K Q) (k0_pay94 rows cols K Q) (k0_pay95 rows cols K Q) (k0_pay98 rows cols K Q) (k0_pay99 rows cols K Q),
    k0_pay108 k0_pay87 (k0_pay106 rows cols tri (k0_pay91 K Q) (k0_pay94 rows cols K Q) (k0_pay95 rows cols K Q) (k0_pay98 rows cols K Q) (k0_pay99 rows cols K Q)),
    k0_pay111 k0_pay88 (sums' Q K tri), k0_pay114 k0_pay89 (sums' Q K tri))

/-- The four weights of the diagonal block. -/
def weights' : Fin 4 → FVec Ideal S256x256 .bf16
  | 0 => k0_pay104 rows cols tri k0_pay86 (k0_pay91 K Q) (k0_pay92 rows cols K Q) (k0_pay94 rows cols K Q) (k0_pay95 rows cols K Q) (k0_pay98 rows cols K Q) (k0_pay99 rows cols K Q)
  | 1 => k0_pay107 k0_pay87 (k0_pay96 rows cols K Q) (k0_pay106 rows cols tri (k0_pay91 K Q) (k0_pay94 rows cols K Q) (k0_pay95 rows cols K Q) (k0_pay98 rows cols K Q) (k0_pay99 rows cols K Q))
  | 2 => k0_pay110 k0_pay88 (k0_pay100 rows cols (k0_pay91 K Q)) (sums' Q K tri)
  | 3 => k0_pay113 k0_pay89 (k0_pay101 rows cols (k0_pay91 K Q)) (sums' Q K tri)

theorem row_mod (h : Fin 4) (r : Fin 256) : (⟨(row h r).val % 256, by omega⟩ : Fin 256) = r := Fin.ext (by show (256 * h.val + r.val) % 256 = _; omega)

theorem carries'_sums (h : Fin 4) (r : Fin 256) : carry (carries' Q K tri) h (ix2 r 0) = sums' Q K tri (ix2 (row h r) 0) := by
  match h with
  | 0 => rw [row_0]; pointwise [carry, carries', k0_pay105, k0_pay103, k0_pay86]; rfl
  | 1 => rw [row_1]; pointwise [carry, carries', k0_pay108, k0_pay106, k0_pay87]; rfl
  | 2 => rw [row_2]; pointwise [carry, carries', k0_pay111, k0_pay109, k0_pay88]
  | 3 => rw [row_3]; pointwise [carry, carries', k0_pay114, k0_pay112, k0_pay89]

theorem carries'_apply (h : Fin 4) (r : Fin 256) : carry (carries' Q K tri) h (ix2 r 0)
    = fromSelf (fun u s => tri (ix2 u s)) (fun u => masked Q K r u (row h r)) 0 := by
  have e := sums'_apply Q K tri (row h r) 0
  rw [row_mod] at e
  exact (carries'_sums Q K tri h r).trans e

theorem weights'_sums (h : Fin 4) (r s : Fin 256) : weights' Q K tri h (ix2 r s)
    = Ideal.exp (masked Q K r s (row h r) - sums' Q K tri (ix2 (row h r) s) - 0) := by
  unfold masked
  match h with
  | 0 => rw [row_0]; pointwise [weights', k0_pay104, k0_pay103, k0_pay92, k0_pay86]; simp (disch := omega) only [mask_eq, Fin.lt_def, select_lt]; rfl
  | 1 => rw [row_1]; pointwise [weights', k0_pay107, k0_pay106, k0_pay96, k0_pay87]; simp (disch := omega) only [mask_eq, Fin.lt_def, select_lt]; rfl
  | 2 => rw [row_2]; pointwise [weights', k0_pay110, k0_pay109, k0_pay100, k0_pay88]; simp (disch := omega) only [mask_eq, Fin.lt_def, select_lt]
  | 3 => rw [row_3]; pointwise [weights', k0_pay113, k0_pay112, k0_pay101, k0_pay89]; simp (disch := omega) only [mask_eq, Fin.lt_def, select_lt]

theorem weights'_apply (h : Fin 4) (r s : Fin 256) : weights' Q K tri h (ix2 r s)
    = Ideal.exp (masked Q K r s (row h r)
        - fromSelf (fun u s => tri (ix2 u s)) (fun u => masked Q K r u (row h r)) s - 0) := by
  have e := sums'_apply Q K tri (row h r) s
  rw [row_mod] at e
  exact (weights'_sums Q K tri h r s).trans (congrArg (fun x => Ideal.exp (masked Q K r s (row h r) - x - 0)) e)

/-- The triangle of ones. -/
theorem tri_apply (u s : Fin 256) : k0_pay84 (F := Ideal) (ix2 u s) = if s ≤ u then 1 else 0 := by
  pointwise [k0_pay84]
  rw [WordCmp.cmpi_sge_ofNat (by omega) (by omega)]
  by_cases h : s ≤ u
  · rw [if_pos h, decide_eq_true (show s.val ≤ u.val from h)]
    show (((1 : ℤ) : ℝ) : EReal) = 1
    simp
  · rw [if_neg h, decide_eq_false (show ¬ s.val ≤ u.val from h)]
    show (((0 : ℤ) : ℝ) : EReal) = 0
    simp

/-- The scale of the queries, an eighth. -/
def scale : EReal := Ideal.ofBits .bf16 0x3E00#16

/-- A query's lanes at head `h` of the group, scaled; zero at the other heads' lanes. -/
def lanes (h : Fin 4) (r j : Fin 256) : EReal := if j.val / 64 = h.val then K (ix3 0 r j) * scale else 0

theorem pay80_apply (r j : Fin 256) : k0_pay80 (k0_pay79 K) (ix2 r j) = lanes K 0 r j := by
  pointwise [k0_pay80, k0_pay79, k0_pay76, k0_pay77, k0_pay78, lanes, scale]
  simp only [lane_256, sign_one, quotient]
  rw [select_eq _ 0 (by omega) (by omega)]

theorem pay81_apply (r j : Fin 256) : k0_pay81 k0_pay76 (k0_pay77 K) k0_pay78 (ix2 r j) = lanes K 1 r j := by
  pointwise [k0_pay81, k0_pay76, k0_pay77, k0_pay78, lanes, scale]
  simp only [lane_256, sign_one, quotient]
  rw [select_eq _ 1 (by omega) (by omega)]

theorem pay82_apply (r j : Fin 256) : k0_pay82 k0_pay76 (k0_pay77 K) k0_pay78 (ix2 r j) = lanes K 2 r j := by
  pointwise [k0_pay82, k0_pay76, k0_pay77, k0_pay78, lanes, scale]
  simp only [lane_256, sign_one, quotient]
  rw [select_eq _ 2 (by omega) (by omega)]

theorem pay83_apply (r j : Fin 256) : k0_pay83 k0_pay76 (k0_pay77 K) k0_pay78 (ix2 r j) = lanes K 3 r j := by
  pointwise [k0_pay83, k0_pay76, k0_pay77, k0_pay78, lanes, scale]
  simp only [lane_256, sign_one, quotient]
  rw [select_eq _ 3 (by omega) (by omega)]

/-- The output block, from the two halves of the group's lanes. -/
theorem pay1_apply (A B : FVec Ideal S1x256x128 .f32) (r j : Fin 256) :
    (k0_pay1 (k0_pay127 A) (k0_pay128 B) : FVec Ideal S1x256x256 .bf16) (ix3 0 r j)
      = if h : j.val < 128 then (A (ix3 0 r ⟨j.val, h⟩) : EReal) else B (ix3 0 r ⟨j.val - 128, by omega⟩) := by
  pointwise [k0_pay1, k0_pay127, k0_pay128]

theorem pay85_apply (p : Fin 2) (r : Fin 256) (l : Fin 128) : k0_pay85 (F := Ideal) (ix3 p r l) = 0 := by
  pointwise [k0_pay85]

end Blocks

end Cert.StickPay
-- ==== Proof.StickTrip.lean ====
/- What one trip of the stick-breaking kernel's loop yields and writes, in the values named before. -/
module

public import proofs.«01_k».proof.Proof.StickPay

@[expose] public section

set_option maxRecDepth 16384

noncomputable section

namespace Cert.StickTrip

open Cert.StickIdeal Cert.StickIdeal.Gen Cert.StickPay
open Idealize.ShloMosaic Idealize.ShloMosaic.TcCoe Idealize.SL.Sem

variable (𝒱 : Variants) (c : Dev nD) (bd : Option 𝒱.V) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x256 .bf16) (harg6 : arg6.IsWhole)
  (arg7 : Memref sig .tc .vmem S1024x256 .bf16) (harg7 : arg7.IsWhole) (arg8 : Memref sig .tc .vmem S2x256x128 .f32) (harg8 : arg8.IsWhole)
  (arg2 : BitVec 32) (v67 : FVec Ideal S256x256 .bf16) (v170 v178 : FVec Ideal S256x1 .f32) (v184 : FVec Ideal S256x256 .bf16)
  (v186 : FVec Ideal S256x1 .f32) (v192 : FVec Ideal S256x256 .bf16) (v194 : FVec Ideal S256x1 .f32) (v243 : FVec Ideal S256x128 .bf16)
  (v250 : IVec S256x128 32) (w : BitVec 32) (v252 v259 : IVec S256x128 32) (v264 : BitVec 32)
  (X4 : BufTy.Contents (Elt Ideal) arg4.view.ty) (X5 : BufTy.Contents (Elt Ideal) arg5.view.ty) (X7 : BufTy.Contents (Elt Ideal) arg7.view.ty)

/-- The stacked queries as a trip reads them. -/
abbrev queries : Vec Ideal S1024x256 .bf16 :=
  View.readAt (Elt Ideal) arg7.view (Rect.unit (s := S1024x256) ![0, 0] S1024x256.size inb_S1024x256_S1024x256_0_0).toLoadRect X7

/-- A trip's block of a key or value buffer. -/
abbrev block (arg4 : Memref sig .tc .vmem S1x2048x256 .bf16) (X4 : BufTy.Contents (Elt Ideal) arg4.view.ty) (k : Fin (k0_t1_loop i).trips) :
    Vec Ideal S1x256x256 .bf16 :=
  View.readAt (Elt Ideal) arg4.view (Rect.unit (s := S1x2048x256) (k0_off2 i k) S1x256x256.size (k0_off2_inb i k)).toLoadRect X4

/-- A plane of the totals. -/
abbrev plane0 (f : BufTy.Contents (Elt Ideal) arg8.view.ty) : Vec Ideal S1x256x128 .f32 :=
  View.readAt (Elt Ideal) arg8.view (Rect.unit (s := S2x256x128) ![0, 0, 0] S1x256x128.size inb_S2x256x128_S1x256x128_0_0_0).toLoadRect f

abbrev plane1 (f : BufTy.Contents (Elt Ideal) arg8.view.ty) : Vec Ideal S1x256x128 .f32 :=
  View.readAt (Elt Ideal) arg8.view (Rect.unit (s := S2x256x128) ![1, 0, 0] S1x256x128.size inb_S2x256x128_S1x256x128_1_0_0).toLoadRect f

theorem tripR_eq (k : Fin (k0_t1_loop i).trips) (acc : FVec Ideal S256x1 .f32 × FVec Ideal S256x1 .f32 × FVec Ideal S256x1 .f32 × FVec Ideal S256x1 .f32)
    (f : BufTy.Contents (Elt Ideal) arg8.view.ty) :
    tripR_k0_t1 (F := Ideal) 𝒱 c bd i arg3 harg3 arg4 harg4 arg5 harg5 arg6 harg6 arg7 harg7 arg8 harg8 arg2 v67 v170 v178 v184 v186 v192 v194 v243 v250 w v252 v259 v264 X4 X5 X7 k acc f
      = carries (queries arg7 X7) (block i arg4 X4 k) v67 acc := by
  unfold tripR_k0_t1 trip_k0_t1
  rfl

theorem tripL_eq (k : Fin (k0_t1_loop i).trips) (acc : FVec Ideal S256x1 .f32 × FVec Ideal S256x1 .f32 × FVec Ideal S256x1 .f32 × FVec Ideal S256x1 .f32)
    (f : BufTy.Contents (Elt Ideal) arg8.view.ty) :
    tripL_k0_t1 (F := Ideal) 𝒱 c bd i arg3 harg3 arg4 harg4 arg5 harg5 arg6 harg6 arg7 harg7 arg8 harg8 arg2 v67 v170 v178 v184 v186 v192 v194 v243 v250 w v252 v259 v264 X4 X5 X7 k acc f
      = [⟨Rect.unit (s := S2x256x128) ![1, 0, 0] S1x256x128.size inb_S2x256x128_S1x256x128_1_0_0,
            k0_pay125 (weights (queries arg7 X7) (block i arg4 X4 k) v67 acc 2) (weights (queries arg7 X7) (block i arg4 X4 k) v67 acc 3)
              (k0_pay34 (k0_pay2 (block i arg5 X5 k))) k0_pay36 k0_pay37 k0_pay38 (plane1 arg8 f)⟩,
          ⟨Rect.unit (s := S2x256x128) ![0, 0, 0] S1x256x128.size inb_S2x256x128_S1x256x128_0_0_0,
            k0_pay33 (weights (queries arg7 X7) (block i arg4 X4 k) v67 acc 0) (weights (queries arg7 X7) (block i arg4 X4 k) v67 acc 1)
              (k0_pay29 (k0_pay2 (block i arg5 X5 k))) k0_pay30 k0_pay31 (k0_pay32 (k0_pay2 (block i arg5 X5 k))) (plane0 arg8 f)⟩] := by
  unfold tripL_k0_t1 trip_k0_t1
  rfl

end Cert.StickTrip
-- ==== Proof.StickLoss.lean ====
/- Stick breaking as a sum from the newest key to the oldest: what a block of keys adds. -/
module

public import proofs.«01_k».proof.Proof.StickRow

@[expose] public section

set_option maxRecDepth 16384

noncomputable section

namespace Cert.StickLoss

open Cert.StickRow
open Idealize.ShloMosaic

/-- The softplus of a tame logit is a real number. -/
theorem Tame.sp_real {z : EReal} (h : Tame z) : ∃ x : ℝ, sp z = x := by
  rcases h with rfl | ⟨x, rfl⟩
  · exact ⟨0, by rw [sp_bot]; rfl⟩
  · exact ⟨_, sp_coe x⟩

/-- A sum of real numbers is a real number. -/
theorem sum_real {ι : Type} (S : Finset ι) (f : ι → EReal) (h : ∀ t, ∃ x : ℝ, f t = x) : ∃ x : ℝ, ∑ t ∈ S, f t = x := by
  classical
  induction S using Finset.induction_on with
  | empty => exact ⟨0, by simp⟩
  | insert t S ht ih =>
    obtain ⟨x, hx⟩ := h t
    obtain ⟨y, hy⟩ := ih
    exact ⟨x + y, by rw [Finset.sum_insert ht, hx, hy, EReal.coe_add]⟩

/-- What the keys from `t` on and before `n` take off. -/
def loss (z : ℕ → EReal) (n t : ℕ) : EReal := ∑ u ∈ Finset.Ico t n, sp (z u)

/-- A key's weight. -/
def wt (z : ℕ → EReal) (n t : ℕ) : EReal := Ideal.exp (z t - loss z n t)

/-- The values from `t` on, weighted. -/
def outv (z : ℕ → EReal) (v : ℕ → EReal) (n t : ℕ) : EReal := ∑ u ∈ Finset.Ico t n, wt z n u * v u

theorem ico_block (f : ℕ → EReal) {a n : ℕ} (h : a + 256 ≤ n) :
    ∑ u ∈ Finset.Ico a n, f u = ∑ u ∈ Finset.Ico (a + 256) n, f u + ∑ u : Fin 256, f (a + u.val) := by
  rw [← Finset.sum_Ico_consecutive f (show a ≤ a + 256 by omega) h, add_comm]
  congr 1
  rw [Finset.sum_Ico_eq_sum_range, show a + 256 - a = 256 by omega, Finset.sum_range]

theorem ico_within (f : ℕ → EReal) {a n : ℕ} (h : a + 256 ≤ n) (s : Fin 256) :
    ∑ u ∈ Finset.Ico (a + s.val) n, f u
      = ∑ u ∈ Finset.Ico (a + 256) n, f u + ∑ u : Fin 256, if s ≤ u then f (a + u.val) else 0 := by
  have hs := s.isLt
  rw [← Finset.sum_Ico_consecutive f (show a + s.val ≤ a + 256 by omega) h, add_comm]
  congr 1
  have e : ∑ u : Fin 256, (if s ≤ u then f (a + u.val) else 0)
      = ∑ u ∈ Finset.range 256, if s.val ≤ u then f (a + u) else 0 :=
    (Finset.sum_range (fun u => if s.val ≤ u then f (a + u) else 0)).symm
  rw [e, ← Finset.sum_filter]
  have e2 : (Finset.range 256).filter (fun u => s.val ≤ u) = Finset.Ico s.val 256 := by
    ext u; simp only [Finset.mem_filter, Finset.mem_range, Finset.mem_Ico]; omega
  rw [e2, Finset.sum_Ico_add f s.val 256 a, add_comm s.val a, add_comm 256 a]

variable (z : ℕ → EReal) (hz : ∀ t, Tame (z t)) (tri : Fin 256 → Fin 256 → EReal) (ht : ∀ u s, tri u s = if s ≤ u then 1 else 0)
include hz ht

theorem loss_block {a n : ℕ} (h : a + 256 ≤ n) :
    loss z n a = loss z n (a + 256) + fromSelf tri (fun u => z (a + u.val)) 0 := by
  rw [fromSelf_eq tri ht _ (fun u => hz _)]
  simp only [Fin.zero_le, if_true]
  exact ico_block _ h

theorem wt_block {a n : ℕ} (h : a + 256 ≤ n) (s : Fin 256) :
    wt z n (a + s.val) = Ideal.exp (z (a + s.val) - fromSelf tri (fun u => z (a + u.val)) s - loss z n (a + 256)) := by
  rw [fromSelf_eq tri ht _ (fun u => hz _)]
  unfold wt
  congr 1
  rw [loss, ico_within (fun u => sp (z u)) h s, loss]
  obtain ⟨x, hx⟩ := sum_real (Finset.Ico (a + 256) n) (fun u => sp (z u)) fun t => Tame.sp_real (hz t)
  obtain ⟨y, hy⟩ := sum_real Finset.univ (fun u : Fin 256 => if s ≤ u then sp (z (a + u.val)) else 0) fun t => by
    split_ifs
    · exact Tame.sp_real (hz _)
    · exact ⟨0, rfl⟩
  rw [hx, hy]
  rcases hz (a + s.val) with e | ⟨w, e⟩
  · rw [e, ← EReal.coe_add, EReal.bot_sub, EReal.bot_sub, EReal.bot_sub]
  · rw [e, ← EReal.coe_add, ← EReal.coe_sub, ← EReal.coe_sub, ← EReal.coe_sub]
    congr 1; ring

theorem outv_block (v : ℕ → EReal) {a n : ℕ} (h : a + 256 ≤ n) :
    outv z v n a = outv z v n (a + 256)
      + ∑ s : Fin 256, Ideal.exp (z (a + s.val) - fromSelf tri (fun u => z (a + u.val)) s - loss z n (a + 256)) * v (a + s.val) := by
  unfold outv
  rw [ico_block _ h]
  congr 1
  exact Finset.sum_congr rfl fun s _ => by rw [wt_block z hz tri ht h s]

end Cert.StickLoss
-- ==== Proof.StickLoop.lean ====
/- What the stick-breaking kernel's loop has taken off and added up after each trip. -/
module

public import proofs.«01_k».proof.Proof.StickTrip
public import proofs.«01_k».proof.Proof.StickLoss
public import Idealize.ShloMosaic.Lib.WritesUnit

@[expose] public section

set_option maxRecDepth 16384

noncomputable section

namespace Cert.StickLoop

open Cert.StickIdeal Cert.StickIdeal.Gen Cert.StickPay Cert.StickTrip Cert.StickRow Cert.StickLoss
open Idealize.ShloMosaic Idealize.ShloMosaic.TcCoe Idealize.SL.Sem

/-- The head of a lane of each plane of the totals. -/
abbrev headA (l : Fin 128) : Fin 4 := if l.val < 64 then 0 else 1
abbrev headB (l : Fin 128) : Fin 4 := if l.val < 64 then 2 else 3

theorem ite_fn {α β : Type} {p : Prop} [Decidable p] (f : Fin 4 → α → β) (a b : Fin 4) (x : α) :
    (if p then f a else f b) x = f (if p then a else b) x := by split_ifs <;> rfl

/-- Plane 0 read after a piece of plane 1 and one of plane 0. -/
theorem read_plane0 (arg8 : Memref sig .tc .vmem S2x256x128 .f32) (G : BufTy.Contents (Elt Ideal) arg8.view.ty)
    (w1 w0 : FVec Ideal S1x256x128 .f32) (L : List (View.Piece (Elt Ideal) S2x256x128 .f32)) (r : Fin 256) (l : Fin 128) :
    arg8.view.read (Elt Ideal) (arg8.view.writes (Elt Ideal) G
      (⟨Rect.unit (s := S2x256x128) ![1, 0, 0] S1x256x128.size inb_S2x256x128_S1x256x128_1_0_0, w1⟩
        :: ⟨Rect.unit (s := S2x256x128) ![0, 0, 0] S1x256x128.size inb_S2x256x128_S1x256x128_0_0_0, w0⟩ :: L)) (ix3 0 r l) = w0 (ix3 0 r l) := by
  rw [View.read_writes_cons_unit_of_not_mem arg8.view G _ _ _ _ rfl 0 (Or.inl (show 0 < 1 from Nat.one_pos))]
  exact View.read_writes_cons_unit_of_mem arg8.view G _ _ _ _ _ rfl fun a => by
    match a with
    | 0 => rfl
    | 1 => exact (Nat.zero_add _).symm
    | 2 => exact (Nat.zero_add _).symm

/-- Plane 1 read after a piece of plane 1. -/
theorem read_plane1 (arg8 : Memref sig .tc .vmem S2x256x128 .f32) (G : BufTy.Contents (Elt Ideal) arg8.view.ty)
    (w1 : FVec Ideal S1x256x128 .f32) (L : List (View.Piece (Elt Ideal) S2x256x128 .f32)) (r : Fin 256) (l : Fin 128) :
    arg8.view.read (Elt Ideal) (arg8.view.writes (Elt Ideal) G
      (⟨Rect.unit (s := S2x256x128) ![1, 0, 0] S1x256x128.size inb_S2x256x128_S1x256x128_1_0_0, w1⟩ :: L)) (ix3 1 r l) = w1 (ix3 0 r l) :=
  View.read_writes_cons_unit_of_mem arg8.view G _ _ _ _ _ rfl fun a => by
    match a with
    | 0 => rfl
    | 1 => exact (Nat.zero_add _).symm
    | 2 => exact (Nat.zero_add _).symm

theorem plane0_apply (arg8 : Memref sig .tc .vmem S2x256x128 .f32) (f : BufTy.Contents (Elt Ideal) arg8.view.ty) (r : Fin 256) (l : Fin 128) :
    plane0 arg8 f (ix3 0 r l) = arg8.view.read (Elt Ideal) f (ix3 0 r l) := by
  refine congrArg (arg8.view.read (Elt Ideal) f) (funext fun a => Fin.ext ?_)
  match a with
  | 0 => rfl
  | 1 => show 0 + 1 * r.val = r.val; omega
  | 2 => show 0 + 1 * l.val = l.val; omega

theorem plane1_apply (arg8 : Memref sig .tc .vmem S2x256x128 .f32) (f : BufTy.Contents (Elt Ideal) arg8.view.ty) (r : Fin 256) (l : Fin 128) :
    plane1 arg8 f (ix3 0 r l) = arg8.view.read (Elt Ideal) f (ix3 1 r l) := by
  refine congrArg (arg8.view.read (Elt Ideal) f) (funext fun a => Fin.ext ?_)
  match a with
  | 0 => rfl
  | 1 => show 0 + 1 * r.val = r.val; omega
  | 2 => show 0 + 1 * l.val = l.val; omega

variable (z : Fin 4 → Fin 256 → ℕ → EReal) (hz : ∀ h r t, Tame (z h r t)) (v : Fin 256 → ℕ → EReal) (n : ℕ)
  (tri : FVec Ideal S256x256 .bf16) (ht : ∀ u s : Fin 256, tri (ix2 u s) = if s ≤ u then 1 else 0)
include hz ht

/-- One block more: what each row has lost, and the two planes of totals. -/
theorem carry_step (Q : Vec Ideal S1024x256 .bf16) (K : Vec Ideal S1x256x256 .bf16)
    (acc : FVec Ideal S256x1 .f32 × FVec Ideal S256x1 .f32 × FVec Ideal S256x1 .f32 × FVec Ideal S256x1 .f32) (a : ℕ) (ha : a + 256 ≤ n)
    (hK : ∀ h r (u : Fin 256), k0_pay3 K Q (ix2 (row h r) u) = z h r (a + u.val))
    (hc : ∀ h r, carry acc h (ix2 r 0) = loss (z h r) n (a + 256)) (h : Fin 4) (r : Fin 256) :
    carry (carries Q K tri acc) h (ix2 r 0) = loss (z h r) n a := by
  rw [carries_apply, hc, loss_block (z h r) (hz h r) (fun u s => tri (ix2 u s)) ht ha]
  simp only [hK]

theorem weight_step (Q : Vec Ideal S1024x256 .bf16) (K : Vec Ideal S1x256x256 .bf16)
    (acc : FVec Ideal S256x1 .f32 × FVec Ideal S256x1 .f32 × FVec Ideal S256x1 .f32 × FVec Ideal S256x1 .f32) (a : ℕ) (ha : a + 256 ≤ n)
    (hK : ∀ h r (u : Fin 256), k0_pay3 K Q (ix2 (row h r) u) = z h r (a + u.val))
    (hc : ∀ h r, carry acc h (ix2 r 0) = loss (z h r) n (a + 256)) (h : Fin 4) (r s : Fin 256) :
    weights Q K tri acc h (ix2 r s)
      = Ideal.exp (z h r (a + s.val) - fromSelf (fun u s => tri (ix2 u s)) (fun u => z h r (a + u.val)) s - loss (z h r) n (a + 256)) := by
  rw [weights_apply, hc]
  simp only [hK]

theorem planeA_step (Q : Vec Ideal S1024x256 .bf16) (K V : Vec Ideal S1x256x256 .bf16) (A : FVec Ideal S1x256x128 .f32)
    (acc : FVec Ideal S256x1 .f32 × FVec Ideal S256x1 .f32 × FVec Ideal S256x1 .f32 × FVec Ideal S256x1 .f32) (a : ℕ) (ha : a + 256 ≤ n)
    (hK : ∀ h r (u : Fin 256), k0_pay3 K Q (ix2 (row h r) u) = z h r (a + u.val))
    (hV : ∀ (u j : Fin 256), V (ix3 0 u j) = v j (a + u.val))
    (hc : ∀ h r, carry acc h (ix2 r 0) = loss (z h r) n (a + 256))
    (r : Fin 256) (l : Fin 128) (hA : A (ix3 0 r l) = outv (z (headA l) r) (v ⟨l.val, by omega⟩) n (a + 256)) :
    k0_pay33 (weights Q K tri acc 0) (weights Q K tri acc 1) (k0_pay29 (k0_pay2 V)) k0_pay30 k0_pay31 (k0_pay32 (k0_pay2 V)) A (ix3 0 r l)
      = outv (z (headA l) r) (v ⟨l.val, by omega⟩) n a := by
  rw [pay33_apply, hA, outv_block (z (headA l) r) (hz _ r) (fun u s => tri (ix2 u s)) ht _ ha]
  congr 1
  refine Finset.sum_congr rfl fun s _ => ?_
  rw [hV, ite_fn (weights Q K tri acc), weight_step z hz n tri ht Q K acc a ha hK hc]

theorem planeB_step (Q : Vec Ideal S1024x256 .bf16) (K V : Vec Ideal S1x256x256 .bf16) (A : FVec Ideal S1x256x128 .f32)
    (acc : FVec Ideal S256x1 .f32 × FVec Ideal S256x1 .f32 × FVec Ideal S256x1 .f32 × FVec Ideal S256x1 .f32) (a : ℕ) (ha : a + 256 ≤ n)
    (hK : ∀ h r (u : Fin 256), k0_pay3 K Q (ix2 (row h r) u) = z h r (a + u.val))
    (hV : ∀ (u j : Fin 256), V (ix3 0 u j) = v j (a + u.val))
    (hc : ∀ h r, carry acc h (ix2 r 0) = loss (z h r) n (a + 256))
    (r : Fin 256) (l : Fin 128) (hA : A (ix3 0 r l) = outv (z (headB l) r) (v ⟨128 + l.val, by omega⟩) n (a + 256)) :
    k0_pay125 (weights Q K tri acc 2) (weights Q K tri acc 3) (k0_pay34 (k0_pay2 V)) k0_pay36 k0_pay37 k0_pay38 A (ix3 0 r l)
      = outv (z (headB l) r) (v ⟨128 + l.val, by omega⟩) n a := by
  rw [pay125_apply, hA, outv_block (z (headB l) r) (hz _ r) (fun u s => tri (ix2 u s)) ht _ ha]
  congr 1
  refine Finset.sum_congr rfl fun s _ => ?_
  rw [hV, ite_fn (weights Q K tri acc), weight_step z hz n tri ht Q K acc a ha hK hc]

variable (𝒱 : Variants) (c : Dev nD) (bd : Option 𝒱.V) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x256 .bf16) (harg6 : arg6.IsWhole)
  (arg7 : Memref sig .tc .vmem S1024x256 .bf16) (harg7 : arg7.IsWhole) (arg8 : Memref sig .tc .vmem S2x256x128 .f32) (harg8 : arg8.IsWhole)
  (arg2 : BitVec 32) (v170 v178 : FVec Ideal S256x1 .f32) (v184 : FVec Ideal S256x256 .bf16)
  (v186 : FVec Ideal S256x1 .f32) (v192 : FVec Ideal S256x256 .bf16) (v194 : FVec Ideal S256x1 .f32) (v243 : FVec Ideal S256x128 .bf16)
  (v250 : IVec S256x128 32) (w : BitVec 32) (v252 v259 : IVec S256x128 32) (v264 : BitVec 32)
  (X4 : BufTy.Contents (Elt Ideal) arg4.view.ty) (X5 : BufTy.Contents (Elt Ideal) arg5.view.ty) (X7 : BufTy.Contents (Elt Ideal) arg7.view.ty)
  (G : BufTy.Contents (Elt Ideal) arg8.view.ty) (init : FVec Ideal S256x1 .f32 × FVec Ideal S256x1 .f32 × FVec Ideal S256x1 .f32 × FVec Ideal S256x1 .f32)

/-- After `k` trips, with `qi` blocks of keys before the row's own: the rows have lost what the newest keys take off, and the
    planes hold their weighted values. -/
theorem state (qi : ℕ) (hn : n = 256 * qi + 256) (hT : (k0_t1_loop i).trips = qi)
    (hK : ∀ (k : Fin (k0_t1_loop i).trips) h r (u : Fin 256),
      k0_pay3 (block i arg4 X4 k) (queries arg7 X7) (ix2 (row h r) u) = z h r (256 * (qi - 1 - k.val) + u.val))
    (hV : ∀ (k : Fin (k0_t1_loop i).trips) (u j : Fin 256), block i arg5 X5 k (ix3 0 u j) = v j (256 * (qi - 1 - k.val) + u.val))
    (hc : ∀ h r, carry init h (ix2 r 0) = loss (z h r) n (256 * qi))
    (hA : ∀ r (l : Fin 128), arg8.view.read (Elt Ideal) G (ix3 0 r l) = outv (z (headA l) r) (v ⟨l.val, by omega⟩) n (256 * qi))
    (hB : ∀ r (l : Fin 128), arg8.view.read (Elt Ideal) G (ix3 1 r l) = outv (z (headB l) r) (v ⟨128 + l.val, by omega⟩) n (256 * qi))
    (k : ℕ) (hk : k ≤ qi) :
    (∀ h r, carry (st_k0_t1 (F := Ideal) 𝒱 c bd i arg3 harg3 arg4 harg4 arg5 harg5 arg6 harg6 arg7 harg7 arg8 harg8 arg2 tri v170 v178 v184 v186 v192 v194 v243 v250 w v252 v259 v264 X4 X5 X7 G init k).1 h (ix2 r 0)
        = loss (z h r) n (256 * (qi - k)))
    ∧ (∀ r (l : Fin 128), arg8.view.read (Elt Ideal) (arg8.view.writes (Elt Ideal) G (st_k0_t1 (F := Ideal) 𝒱 c bd i arg3 harg3 arg4 harg4 arg5 harg5 arg6 harg6 arg7 harg7 arg8 harg8 arg2 tri v170 v178 v184 v186 v192 v194 v243 v250 w v252 v259 v264 X4 X5 X7 G init k).2) (ix3 0 r l)
        = outv (z (headA l) r) (v ⟨l.val, by omega⟩) n (256 * (qi - k)))
    ∧ (∀ r (l : Fin 128), arg8.view.read (Elt Ideal) (arg8.view.writes (Elt Ideal) G (st_k0_t1 (F := Ideal) 𝒱 c bd i arg3 harg3 arg4 harg4 arg5 harg5 arg6 harg6 arg7 harg7 arg8 harg8 arg2 tri v170 v178 v184 v186 v192 v194 v243 v250 w v252 v259 v264 X4 X5 X7 G init k).2) (ix3 1 r l)
        = outv (z (headB l) r) (v ⟨128 + l.val, by omega⟩) n (256 * (qi - k))) := by
  induction k with
  | zero => exact ⟨hc, hA, hB⟩
  | succ k ih =>
    obtain ⟨i1, i2, i3⟩ := ih (by omega)
    have hkt : k < (k0_t1_loop i).trips := by omega
    have e := st_k0_t1_succ (F := Ideal) 𝒱 c bd i arg3 harg3 arg4 harg4 arg5 harg5 arg6 harg6 arg7 harg7 arg8 harg8 arg2 tri v170 v178 v184 v186 v192 v194 v243 v250 w v252 v259 v264 X4 X5 X7 G init ⟨k, hkt⟩
    rw [tripR_eq, tripL_eq] at e
    rw [e]
    have e1 : qi - (k + 1) = qi - 1 - k := by omega
    have e2 : 256 * (qi - k) = 256 * (qi - 1 - k) + 256 := by omega
    rw [e1]
    rw [e2] at i1 i2 i3
    have ha : 256 * (qi - 1 - k) + 256 ≤ n := by omega
    refine ⟨fun h r => ?_, fun r l => ?_, fun r l => ?_⟩
    · exact carry_step z hz n tri ht _ _ _ _ ha (hK ⟨k, hkt⟩) i1 h r
    · refine (read_plane0 arg8 G _ _ _ r l).trans ?_
      refine planeA_step z hz v n tri ht _ _ _ _ _ _ ha (hK ⟨k, hkt⟩) (hV ⟨k, hkt⟩) i1 r l ?_
      rw [plane0_apply]; exact i2 r l
    · refine (read_plane1 arg8 G _ _ r l).trans ?_
      refine planeB_step z hz v n tri ht _ _ _ _ _ _ ha (hK ⟨k, hkt⟩) (hV ⟨k, hkt⟩) i1 r l ?_
      rw [plane1_apply]; exact i3 r l

end Cert.StickLoop
-- ==== Proof.StickKernel.lean ====
/- The stick-breaking kernel's block: every row's weighted values. -/
module

public import proofs.«01_k».proof.Proof.StickLoop

@[expose] public section

set_option maxRecDepth 16384

noncomputable section

namespace Cert.StickKernel

open Cert.StickIdeal Cert.StickIdeal.Gen Cert.StickPay Cert.StickTrip Cert.StickRow Cert.StickLoss Cert.StickLoop
open Idealize.ShloMosaic Idealize.ShloMosaic.TcCoe Idealize.SL.Sem

/-! The offsets and the trip counts, as numbers. -/

theorem trips_1 (i : grid0.Coords) : (k0_t1_loop i).trips = (i 2).val := by
  have h : ∀ q : Fin 8, Scf.trips (0#32) (Scalar.addi 0#32 (Scalar.muli (Scalar.divsi (Scalar.subi (BitVec.ofNat 32 q.val) 0#32) 1#32) 1#32)) 1#32 = q.val := by
    decide +kernel
  exact h (i 2)

theorem trips_2 (i : grid0.Coords) : (k0_t2_loop i).trips = 0 := by
  have h : ∀ q : Fin 8, Scf.trips (Scalar.addi 0#32 (Scalar.muli (Scalar.divsi (Scalar.subi (BitVec.ofNat 32 q.val) 0#32) 1#32) 1#32))
      (Scalar.addi 0#32 (Scalar.subi (BitVec.ofNat 32 q.val) 0#32)) 1#32 = 0 := by
    decide +kernel
  exact h (i 2)

theorem off1_1 (i : grid0.Coords) : k0_off1 i 1 = 256 * (i 2).val := by
  have h : ∀ q : Fin 8, (Scalar.indexCast (Scalar.muli (BitVec.ofNat 32 q.val) 256#32) : Index).toNat = 256 * q.val := by decide +kernel
  exact h (i 2)

theorem off2_1 (i : grid0.Coords) (k : Fin (k0_t1_loop i).trips) : k0_off2 i k 1 = 256 * ((i 2).val - 1 - k.val) := by
  have h : ∀ q k : Fin 8, k < q → (Scalar.indexCast (Scalar.muli (Scalar.subi (Scalar.subi (BitVec.ofNat 32 q.val) 1#32) (Scf.iv 0#32 1#32 k.val)) 256#32) : Index).toNat
      = 256 * (q.val - 1 - k.val) := by decide +kernel
  have hk : k.val < (i 2).val := lt_of_lt_of_eq k.isLt (trips_1 i)
  have hq : (i 2).val < 8 := (i 2).isLt
  exact h (i 2) ⟨k.val, by omega⟩ hk

/-- A trip's block of an operand held whole. -/
theorem block_apply (i : grid0.Coords) (arg4 : Memref sig .tc .vmem S1x2048x256 .bf16) (harg4 : arg4.IsWhole) (x : Vec Ideal S1x2048x256 .bf16)
    (k : Fin (k0_t1_loop i).trips) (u j : Fin 256) (t : Fin 2048) (ht : t.val = 256 * ((i 2).val - 1 - k.val) + u.val) :
    block i arg4 (harg4.unread x) k (ix3 0 u j) = x (ix3 0 t j) := by
  rw [block, View.readAt_apply, harg4.read_unread]
  refine congrArg x (funext fun a => Fin.ext ?_)
  match a with
  | 0 => rfl
  | 1 => show k0_off2 i k 1 + 1 * u.val = t.val; rw [off2_1, ht]; omega
  | 2 => show 0 + 1 * j.val = j.val; omega

theorem own_apply (i : grid0.Coords) (arg4 : Memref sig .tc .vmem S1x2048x256 .bf16) (harg4 : arg4.IsWhole) (x : Vec Ideal S1x2048x256 .bf16)
    (u j : Fin 256) (t : Fin 2048) (ht : t.val = 256 * (i 2).val + u.val) :
    View.readAt (Elt Ideal) arg4.view (Rect.unit (s := S1x2048x256) (k0_off1 i) S1x256x256.size (k0_off1_inb i)).toLoadRect (harg4.unread x) (ix3 0 u j)
      = x (ix3 0 t j) := by
  rw [View.readAt_apply, harg4.read_unread]
  refine congrArg x (funext fun a => Fin.ext ?_)
  match a with
  | 0 => rfl
  | 1 => show k0_off1 i 1 + 1 * u.val = t.val; rw [off1_1, ht]; omega
  | 2 => show 0 + 1 * j.val = j.val; omega

/-- The stacked queries, read back: each head's rows hold its own lanes. -/
theorem queries_apply (arg7 : Memref sig .tc .vmem S1024x256 .bf16) (f : BufTy.Contents (Elt Ideal) arg7.view.ty) (x0 : Vec Ideal S1x256x256 .bf16)
    (h : Fin 4) (r j : Fin 256) :
    queries arg7 (arg7.view.writes (Elt Ideal) f
      [⟨Rect.unit (s := S1024x256) ![768, 0] S256x256.size inb_S1024x256_S256x256_768_0, k0_pay83 k0_pay76 (k0_pay77 x0) k0_pay78⟩,
       ⟨Rect.unit (s := S1024x256) ![512, 0] S256x256.size inb_S1024x256_S256x256_512_0, k0_pay82 k0_pay76 (k0_pay77 x0) k0_pay78⟩,
       ⟨Rect.unit (s := S1024x256) ![256, 0] S256x256.size inb_S1024x256_S256x256_256_0, k0_pay81 k0_pay76 (k0_pay77 x0) k0_pay78⟩,
       ⟨Rect.unit (s := S1024x256) ![0, 0] S256x256.size inb_S1024x256_S256x256_0_0, k0_pay80 (k0_pay79 x0)⟩]) (ix2 (row h r) j) = lanes x0 h r j := by
  have e : ∀ g, queries arg7 g (ix2 (row h r) j) = arg7.view.read (Elt Ideal) g (ix2 (row h r) j) := fun g => by
    refine congrArg (arg7.view.read (Elt Ideal) g) (funext fun a => Fin.ext ?_)
    match a with
    | 0 => show 0 + 1 * (row h r).val = (row h r).val; omega
    | 1 => show 0 + 1 * j.val = j.val; omega
  rw [e]
  have hr := r.isLt
  match h with
  | 3 =>
    refine (View.read_writes_cons_unit_of_mem arg7.view _ _ _ _ _ (ix2 r j) rfl fun a => ?_).trans (pay83_apply x0 r j)
    match a with
    | 0 => rfl
    | 1 => exact (Nat.zero_add _).symm
  | 2 =>
    rw [View.read_writes_cons_unit_of_not_mem arg7.view _ _ _ _ _ rfl 0 (Or.inl (show (row 2 r).val < 768 by show 256 * 2 + r.val < 768; omega))]
    refine (View.read_writes_cons_unit_of_mem arg7.view _ _ _ _ _ (ix2 r j) rfl fun a => ?_).trans (pay82_apply x0 r j)
    match a with
    | 0 => rfl
    | 1 => exact (Nat.zero_add _).symm
  | 1 =>
    rw [View.read_writes_cons_unit_of_not_mem arg7.view _ _ _ _ _ rfl 0 (Or.inl (show (row 1 r).val < 768 by show 256 * 1 + r.val < 768; omega)),
      View.read_writes_cons_unit_of_not_mem arg7.view _ _ _ _ _ rfl 0 (Or.inl (show (row 1 r).val < 512 by show 256 * 1 + r.val < 512; omega))]
    refine (View.read_writes_cons_unit_of_mem arg7.view _ _ _ _ _ (ix2 r j) rfl fun a => ?_).trans (pay81_apply x0 r j)
    match a with
    | 0 => rfl
    | 1 => exact (Nat.zero_add _).symm
  | 0 =>
    rw [View.read_writes_cons_unit_of_not_mem arg7.view _ _ _ _ _ rfl 0 (Or.inl (show (row 0 r).val < 768 by show 256 * 0 + r.val < 768; omega)),
      View.read_writes_cons_unit_of_not_mem arg7.view _ _ _ _ _ rfl 0 (Or.inl (show (row 0 r).val < 512 by show 256 * 0 + r.val < 512; omega)),
      View.read_writes_cons_unit_of_not_mem arg7.view _ _ _ _ _ rfl 0 (Or.inl (show (row 0 r).val < 256 by show 256 * 0 + r.val < 256; omega))]
    refine (View.read_writes_cons_unit_of_mem arg7.view _ _ _ _ _ (ix2 r j) rfl fun a => ?_).trans (pay80_apply x0 r j)
    match a with
    | 0 => show 256 * 0 + r.val = 0 + r.val; omega
    | 1 => exact (Nat.zero_add _).symm

/-! The first block. -/

section First
variable (z : Fin 4 → Fin 256 → ℕ → EReal) (hz : ∀ h r t, Tame (z h r t)) (v : Fin 256 → ℕ → EReal)
  (tri : FVec Ideal S256x256 .bf16) (ht : ∀ u s : Fin 256, tri (ix2 u s) = if s ≤ u then 1 else 0)
  (Q : Vec Ideal S1024x256 .bf16) (K V : Vec Ideal S1x256x256 .bf16) (a : ℕ)
  (hK : ∀ h r (u : Fin 256), masked Q K r u (row h r) = z h r (a + u.val))
  (hV : ∀ (u j : Fin 256), V (ix3 0 u j) = v j (a + u.val))
include hz ht hK

theorem first_carry (h : Fin 4) (r : Fin 256) : carry (carries' Q K tri) h (ix2 r 0) = loss (z h r) (a + 256) a := by
  rw [carries'_apply, loss_block (z h r) (hz h r) (fun u s => tri (ix2 u s)) ht le_rfl]
  simp only [hK]
  rw [show loss (z h r) (a + 256) (a + 256) = 0 by unfold loss; rw [Finset.Ico_self, Finset.sum_empty], zero_add]

theorem first_weight (h : Fin 4) (r s : Fin 256) : weights' Q K tri h (ix2 r s)
    = Ideal.exp (z h r (a + s.val) - fromSelf (fun u s => tri (ix2 u s)) (fun u => z h r (a + u.val)) s - loss (z h r) (a + 256) (a + 256)) := by
  rw [weights'_apply]
  simp only [hK]
  rw [show loss (z h r) (a + 256) (a + 256) = 0 by unfold loss; rw [Finset.Ico_self, Finset.sum_empty]]

include hV
theorem first_planeA (A : FVec Ideal S1x256x128 .f32) (r : Fin 256) (l : Fin 128) (hA : A (ix3 0 r l) = (0 : EReal)) :
    k0_pay119 (weights' Q K tri 0) (weights' Q K tri 1) (k0_pay115 (k0_pay90 V)) k0_pay117 k0_pay118 A (ix3 0 r l)
      = outv (z (headA l) r) (v ⟨l.val, by omega⟩) (a + 256) a := by
  rw [pay119_apply, hA, outv_block (z (headA l) r) (hz _ r) (fun u s => tri (ix2 u s)) ht _ le_rfl]
  rw [show outv (z (headA l) r) (v ⟨l.val, by omega⟩) (a + 256) (a + 256) = 0 by unfold outv; rw [Finset.Ico_self, Finset.sum_empty]]
  congr 1
  refine Finset.sum_congr rfl fun s _ => ?_
  rw [hV, ite_fn (weights' Q K tri), first_weight z hz tri ht Q K a hK]

theorem first_planeB (A : FVec Ideal S1x256x128 .f32) (r : Fin 256) (l : Fin 128) (hA : A (ix3 0 r l) = (0 : EReal)) :
    k0_pay124 (weights' Q K tri 2) (weights' Q K tri 3) (k0_pay120 (k0_pay90 V)) k0_pay121 64#32 k0_pay122 k0_pay123 1#32 A (ix3 0 r l)
      = outv (z (headB l) r) (v ⟨128 + l.val, by omega⟩) (a + 256) a := by
  rw [pay124_apply, hA, outv_block (z (headB l) r) (hz _ r) (fun u s => tri (ix2 u s)) ht _ le_rfl]
  rw [show outv (z (headB l) r) (v ⟨128 + l.val, by omega⟩) (a + 256) (a + 256) = 0 by unfold outv; rw [Finset.Ico_self, Finset.sum_empty]]
  congr 1
  refine Finset.sum_congr rfl fun s _ => ?_
  rw [hV, ite_fn (weights' Q K tri), first_weight z hz tri ht Q K a hK]

end First

end Cert.StickKernel
-- ==== Proof.StickOut.lean ====
/- What the stick-breaking kernel leaves in its output block. -/
module

public import proofs.«01_k».proof.Proof.StickKernel

@[expose] public section

set_option maxRecDepth 16384

noncomputable section

namespace Cert.StickOut

open Cert.StickIdeal Cert.StickIdeal.Gen Cert.StickPay Cert.StickTrip Cert.StickRow Cert.StickLoss Cert.StickLoop Cert.StickKernel
open Idealize.ShloMosaic Idealize.ShloMosaic.TcCoe Idealize.SL.Sem

/-- The logit of key `t` for a row of a head, the mask at the row's own token and after it. -/
def logit (x0 : Vec Ideal S1x256x256 .bf16) (x1 : Vec Ideal S1x2048x256 .bf16) (qi : ℕ) (h : Fin 4) (r : Fin 256) (t : ℕ) : EReal :=
  if t < 256 * qi + r.val then
    (if ht : t < 2048 then ∑ j : Fin 256, lanes x0 h r j * (x1 (ix3 0 ⟨t, ht⟩ j) : EReal) else 0)
  else ⊥

/-- A value lane by token. -/
def val (x2 : Vec Ideal S1x2048x256 .bf16) (j : Fin 256) (t : ℕ) : EReal := if ht : t < 2048 then x2 (ix3 0 ⟨t, ht⟩ j) else 0

theorem scale_real : ∃ x : ℝ, scale = (x : EReal) := by
  unfold scale
  exact ⟨_, rfl⟩

theorem logit_tame (x0 : Vec Ideal S1x256x256 .bf16) (x1 : Vec Ideal S1x2048x256 .bf16) (h0 : ∀ y, ∃ x : ℝ, x0 y = (x : EReal))
    (h1 : ∀ y, ∃ x : ℝ, x1 y = (x : EReal)) (qi : ℕ) (h : Fin 4) (r : Fin 256) (t : ℕ) : Tame (logit x0 x1 qi h r t) := by
  unfold logit
  by_cases hr : t < 256 * qi + r.val
  · rw [if_pos hr]
    by_cases ht : t < 2048
    · rw [dif_pos ht]
      refine Or.inr (sum_real _ _ fun j => ?_)
      obtain ⟨b, hb⟩ := h1 (ix3 0 ⟨t, ht⟩ j)
      obtain ⟨a, ha⟩ := h0 (ix3 0 r j)
      obtain ⟨s, hs⟩ := scale_real
      unfold lanes
      rw [hb, ha, hs]
      split_ifs
      · exact ⟨a * s * b, by push_cast; rfl⟩
      · exact ⟨0, by rw [zero_mul]; rfl⟩
    · rw [dif_neg ht]; exact Or.inr ⟨0, rfl⟩
  · rw [if_neg hr]; exact Or.inl rfl

variable (c : Dev nD) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x256 .bf16) (harg6 : arg6.IsWhole)
  (arg7 : Memref sig .tc .vmem S1024x256 .bf16) (harg7 : arg7.IsWhole) (arg8 : Memref sig .tc .vmem S2x256x128 .f32) (harg8 : arg8.IsWhole)
  (x0 : Vec Ideal S1x256x256 .bf16) (x1 x2 : Vec Ideal S1x2048x256 .bf16)

/-- The stacked queries and the row's own block of keys and values. -/
abbrev stack : Vec Ideal S1024x256 .bf16 :=
  queries arg7 (arg7.view.writes (Elt Ideal) arg7.view.junk
      [⟨Rect.unit (s := S1024x256) ![768, 0] S256x256.size inb_S1024x256_S256x256_768_0, k0_pay83 k0_pay76 (k0_pay77 (View.readAt (Elt Ideal) arg3.view (Rect.unit (s := S1x256x256) ![0, 0, 0] S1x256x256.size inb_S1x256x256_S1x256x256_0_0_0).toLoadRect (harg3.unread x0))) k0_pay78⟩,
       ⟨Rect.unit (s := S1024x256) ![512, 0] S256x256.size inb_S1024x256_S256x256_512_0, k0_pay82 k0_pay76 (k0_pay77 (View.readAt (Elt Ideal) arg3.view (Rect.unit (s := S1x256x256) ![0, 0, 0] S1x256x256.size inb_S1x256x256_S1x256x256_0_0_0).toLoadRect (harg3.unread x0))) k0_pay78⟩,
       ⟨Rect.unit (s := S1024x256) ![256, 0] S256x256.size inb_S1024x256_S256x256_256_0, k0_pay81 k0_pay76 (k0_pay77 (View.readAt (Elt Ideal) arg3.view (Rect.unit (s := S1x256x256) ![0, 0, 0] S1x256x256.size inb_S1x256x256_S1x256x256_0_0_0).toLoadRect (harg3.unread x0))) k0_pay78⟩,
       ⟨Rect.unit (s := S1024x256) ![0, 0] S256x256.size inb_S1024x256_S256x256_0_0, k0_pay80 (k0_pay79 (View.readAt (Elt Ideal) arg3.view (Rect.unit (s := S1x256x256) ![0, 0, 0] S1x256x256.size inb_S1x256x256_S1x256x256_0_0_0).toLoadRect (harg3.unread x0)))⟩])

abbrev own (arg4 : Memref sig .tc .vmem S1x2048x256 .bf16) (harg4 : arg4.IsWhole) (x1 : Vec Ideal S1x2048x256 .bf16) : Vec Ideal S1x256x256 .bf16 :=
  View.readAt (Elt Ideal) arg4.view (Rect.unit (s := S1x2048x256) (k0_off1 i) S1x256x256.size (k0_off1_inb i)).toLoadRect (harg4.unread x1)

theorem stack_apply (h : Fin 4) (r j : Fin 256) : stack arg3 harg3 arg7 x0 (ix2 (row h r) j) = lanes x0 h r j := by
  rw [stack, queries_apply]
  have e : View.readAt (Elt Ideal) arg3.view (Rect.unit (s := S1x256x256) ![0, 0, 0] S1x256x256.size inb_S1x256x256_S1x256x256_0_0_0).toLoadRect (harg3.unread x0) = x0 := by
    funext y
    rw [View.readAt_apply, harg3.read_unread]
    refine congrArg x0 (funext fun a => Fin.ext ?_)
    match a with
    | 0 => show 0 + 1 * (y 0).val = (y 0).val; omega
    | 1 => show 0 + 1 * (y 1).val = (y 1).val; omega
    | 2 => show 0 + 1 * (y 2).val = (y 2).val; omega
  rw [e]

/-- The planes after the first block, and after all the blocks. -/
abbrev planes1 : List (View.Piece (Elt Ideal) S2x256x128 .f32) :=
  [⟨Rect.unit (s := S2x256x128) ![1, 0, 0] S1x256x128.size inb_S2x256x128_S1x256x128_1_0_0,
      k0_pay124 (weights' (stack arg3 harg3 arg7 x0) (own i arg4 harg4 x1) k0_pay84 2) (weights' (stack arg3 harg3 arg7 x0) (own i arg4 harg4 x1) k0_pay84 3)
        (k0_pay120 (k0_pay90 (own i arg5 harg5 x2))) k0_pay121 64#32 k0_pay122 k0_pay123 1#32
        (plane1 arg8 (arg8.view.writes (Elt Ideal) arg8.view.junk
          [⟨Rect.unit (s := S2x256x128) ![0, 0, 0] S1x256x128.size inb_S2x256x128_S1x256x128_0_0_0,
            k0_pay119 (weights' (stack arg3 harg3 arg7 x0) (own i arg4 harg4 x1) k0_pay84 0) (weights' (stack arg3 harg3 arg7 x0) (own i arg4 harg4 x1) k0_pay84 1)
              (k0_pay115 (k0_pay90 (own i arg5 harg5 x2))) k0_pay117 k0_pay118
              (plane0 arg8 (arg8.view.writes (Elt Ideal) arg8.view.junk
                [⟨Rect.unit (s := S2x256x128) ![0, 0, 0] S2x256x128.size inb_S2x256x128_S2x256x128_0_0_0, k0_pay85 (F := Ideal)⟩]))⟩,
           ⟨Rect.unit (s := S2x256x128) ![0, 0, 0] S2x256x128.size inb_S2x256x128_S2x256x128_0_0_0, k0_pay85 (F := Ideal)⟩]))⟩,
    ⟨Rect.unit (s := S2x256x128) ![0, 0, 0] S1x256x128.size inb_S2x256x128_S1x256x128_0_0_0,
      k0_pay119 (weights' (stack arg3 harg3 arg7 x0) (own i arg4 harg4 x1) k0_pay84 0) (weights' (stack arg3 harg3 arg7 x0) (own i arg4 harg4 x1) k0_pay84 1)
        (k0_pay115 (k0_pay90 (own i arg5 harg5 x2))) k0_pay117 k0_pay118
        (plane0 arg8 (arg8.view.writes (Elt Ideal) arg8.view.junk
          [⟨Rect.unit (s := S2x256x128) ![0, 0, 0] S2x256x128.size inb_S2x256x128_S2x256x128_0_0_0, k0_pay85 (F := Ideal)⟩]))⟩,
    ⟨Rect.unit (s := S2x256x128) ![0, 0, 0] S2x256x128.size inb_S2x256x128_S2x256x128_0_0_0, k0_pay85 (F := Ideal)⟩]

/-- The loop's state after its last trip. -/
abbrev after : (FVec Ideal S256x1 .f32 × FVec Ideal S256x1 .f32 × FVec Ideal S256x1 .f32 × FVec Ideal S256x1 .f32) × List (View.Piece (Elt Ideal) S2x256x128 .f32) :=
  st_k0_t1 (F := Ideal) Variants.none c none i arg3 harg3 arg4 harg4 arg5 harg5 arg6 harg6 arg7 harg7 arg8 harg8 (BitVec.ofNat 32 (i 2).val) k0_pay84
    (carries' (stack arg3 harg3 arg7 x0) (own i arg4 harg4 x1) k0_pay84).1
    (carries' (stack arg3 harg3 arg7 x0) (own i arg4 harg4 x1) k0_pay84).2.1
    (weights' (stack arg3 harg3 arg7 x0) (own i arg4 harg4 x1) k0_pay84 2)
    (carries' (stack arg3 harg3 arg7 x0) (own i arg4 harg4 x1) k0_pay84).2.2.1
    (weights' (stack arg3 harg3 arg7 x0) (own i arg4 harg4 x1) k0_pay84 3)
    (carries' (stack arg3 harg3 arg7 x0) (own i arg4 harg4 x1) k0_pay84).2.2.2
    (k0_pay120 (k0_pay90 (own i arg5 harg5 x2))) k0_pay121 64#32 k0_pay122 k0_pay123 1#32
    (harg4.unread x1) (harg5.unread x2)
    (arg7.view.writes (Elt Ideal) arg7.view.junk
      [⟨Rect.unit (s := S1024x256) ![768, 0] S256x256.size inb_S1024x256_S256x256_768_0, k0_pay83 k0_pay76 (k0_pay77 (View.readAt (Elt Ideal) arg3.view (Rect.unit (s := S1x256x256) ![0, 0, 0] S1x256x256.size inb_S1x256x256_S1x256x256_0_0_0).toLoadRect (harg3.unread x0))) k0_pay78⟩,
       ⟨Rect.unit (s := S1024x256) ![512, 0] S256x256.size inb_S1024x256_S256x256_512_0, k0_pay82 k0_pay76 (k0_pay77 (View.readAt (Elt Ideal) arg3.view (Rect.unit (s := S1x256x256) ![0, 0, 0] S1x256x256.size inb_S1x256x256_S1x256x256_0_0_0).toLoadRect (harg3.unread x0))) k0_pay78⟩,
       ⟨Rect.unit (s := S1024x256) ![256, 0] S256x256.size inb_S1024x256_S256x256_256_0, k0_pay81 k0_pay76 (k0_pay77 (View.readAt (Elt Ideal) arg3.view (Rect.unit (s := S1x256x256) ![0, 0, 0] S1x256x256.size inb_S1x256x256_S1x256x256_0_0_0).toLoadRect (harg3.unread x0))) k0_pay78⟩,
       ⟨Rect.unit (s := S1024x256) ![0, 0] S256x256.size inb_S1024x256_S256x256_0_0, k0_pay80 (k0_pay79 (View.readAt (Elt Ideal) arg3.view (Rect.unit (s := S1x256x256) ![0, 0, 0] S1x256x256.size inb_S1x256x256_S1x256x256_0_0_0).toLoadRect (harg3.unread x0)))⟩])
    (arg8.view.writes (Elt Ideal) arg8.view.junk (planes1 i arg3 harg3 arg4 harg4 arg5 harg5 arg7 arg8 x0 x1 x2))
    (carries' (stack arg3 harg3 arg7 x0) (own i arg4 harg4 x1) k0_pay84) (k0_t1_loop i).trips

theorem t2_nil (v67 : FVec Ideal S256x256 .bf16) (v170 v178 : FVec Ideal S256x1 .f32) (v184 : FVec Ideal S256x256 .bf16)
    (v186 : FVec Ideal S256x1 .f32) (v192 : FVec Ideal S256x256 .bf16) (v194 : FVec Ideal S256x1 .f32) (v243 : FVec Ideal S256x128 .bf16)
    (v250 : IVec S256x128 32) (w : BitVec 32) (v252 v259 : IVec S256x128 32) (v264 v295 arg2 : BitVec 32)
    (X4 : BufTy.Contents (Elt Ideal) arg4.view.ty) (X5 : BufTy.Contents (Elt Ideal) arg5.view.ty) (X7 : BufTy.Contents (Elt Ideal) arg7.view.ty)
    (G : BufTy.Contents (Elt Ideal) arg8.view.ty) (init : FVec Ideal S256x1 .f32 × FVec Ideal S256x1 .f32 × FVec Ideal S256x1 .f32 × FVec Ideal S256x1 .f32) :
    (st_k0_t2 (F := Ideal) Variants.none c none i arg3 harg3 arg4 harg4 arg5 harg5 arg6 harg6 arg7 harg7 arg8 harg8 arg2 v67 v170 v178 v184 v186 v192 v194 v243 v250 w v252 v259 v264 v295 X4 X5 X7 G init
      (k0_t2_loop i).trips).2 = [] := by
  rw [trips_2]; rfl

/-- The kernel's output block from the two planes as the loops leave them. -/
theorem out_planes : ∃ L2 : List (View.Piece (Elt Ideal) S2x256x128 .f32), L2 = [] ∧
    out0_A_3 (F := Ideal) c i arg3 harg3 arg4 harg4 arg5 harg5 arg6 harg6 arg7 harg7 arg8 harg8 x0 x1 x2
      = k0_pay1
        (k0_pay127 (plane0 arg8 (arg8.view.writes (Elt Ideal) arg8.view.junk (L2 ++ ((after c i arg3 harg3 arg4 harg4 arg5 harg5 arg6 harg6 arg7 harg7 arg8 harg8 x0 x1 x2).2 ++ planes1 i arg3 harg3 arg4 harg4 arg5 harg5 arg7 arg8 x0 x1 x2)))))
        (k0_pay128 (plane1 arg8 (arg8.view.writes (Elt Ideal) arg8.view.junk (L2 ++ ((after c i arg3 harg3 arg4 harg4 arg5 harg5 arg6 harg6 arg7 harg7 arg8 harg8 x0 x1 x2).2 ++ planes1 i arg3 harg3 arg4 harg4 arg5 harg5 arg7 arg8 x0 x1 x2))))) := by
  refine ⟨?L, ?nil, ?eq⟩
  case eq =>
    unfold out0_A_3 kernelRun0_A
    dsimp only
    funext y
    refine (View.read_writes_cons_unit_of_mem VO0_3 _ _ _ _ y y rfl fun a => ?_).trans ?_
    · match a with
      | 0 => exact (Nat.zero_add _).symm
      | 1 => exact (Nat.zero_add _).symm
      | 2 => exact (Nat.zero_add _).symm
    · rfl
  case nil =>
    exact t2_nil ..

end Cert.StickOut
-- ==== Proof.StickValue.lean ====
/- The stick-breaking kernel's output block, in full: each row's values weighted from the newest key to the oldest. -/
module

public import proofs.«01_k».proof.Proof.StickOut

@[expose] public section

set_option maxRecDepth 16384

noncomputable section

namespace Cert.StickValue

open Cert.StickIdeal Cert.StickIdeal.Gen Cert.StickPay Cert.StickTrip Cert.StickRow Cert.StickLoss Cert.StickLoop Cert.StickKernel Cert.StickOut
open Idealize.ShloMosaic Idealize.ShloMosaic.TcCoe Idealize.SL.Sem

variable (c : Dev nD) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x256 .bf16) (harg6 : arg6.IsWhole)
  (arg7 : Memref sig .tc .vmem S1024x256 .bf16) (harg7 : arg7.IsWhole) (arg8 : Memref sig .tc .vmem S2x256x128 .f32) (harg8 : arg8.IsWhole)
  (x0 : Vec Ideal S1x256x256 .bf16) (x1 x2 : Vec Ideal S1x2048x256 .bf16)

theorem own_logit (h : Fin 4) (r u : Fin 256) :
    masked (stack arg3 harg3 arg7 x0) (own i arg4 harg4 x1) r u (row h r) = logit x0 x1 (i 2).val h r (256 * (i 2).val + u.val) := by
  have hq : (i 2).val < 8 := (i 2).isLt
  have hr := r.isLt
  have hu := u.isLt
  unfold masked logit
  by_cases hs : u < r
  · rw [if_pos hs, if_pos (by have : u.val < r.val := hs; omega), dif_pos (by omega), pay91_apply]
    refine Finset.sum_congr rfl fun j _ => ?_
    rw [stack_apply]
    exact congrArg (lanes x0 h r j * ·) (own_apply i arg4 harg4 x1 u j ⟨256 * (i 2).val + u.val, by omega⟩ rfl)
  · rw [if_neg hs, if_neg (by have : ¬ u.val < r.val := hs; omega)]

theorem block_logit (k : Fin (k0_t1_loop i).trips) (h : Fin 4) (r u : Fin 256) :
    k0_pay3 (block i arg4 (harg4.unread x1) k) (stack arg3 harg3 arg7 x0) (ix2 (row h r) u)
      = logit x0 x1 (i 2).val h r (256 * ((i 2).val - 1 - k.val) + u.val) := by
  have hq : (i 2).val < 8 := (i 2).isLt
  have hk : k.val < (i 2).val := lt_of_lt_of_eq k.isLt (trips_1 i)
  have hu := u.isLt
  unfold logit
  rw [if_pos (by omega), dif_pos (by omega), pay3_apply]
  refine Finset.sum_congr rfl fun j _ => ?_
  rw [stack_apply, block_apply i arg4 harg4 x1 k u j ⟨256 * ((i 2).val - 1 - k.val) + u.val, by omega⟩ rfl]

theorem own_val (u j : Fin 256) : own i arg5 harg5 x2 (ix3 0 u j) = val x2 j (256 * (i 2).val + u.val) := by
  have hq : (i 2).val < 8 := (i 2).isLt
  have hu := u.isLt
  unfold val
  rw [dif_pos (by omega)]
  exact own_apply i arg5 harg5 x2 u j ⟨256 * (i 2).val + u.val, by omega⟩ rfl

theorem block_val (k : Fin (k0_t1_loop i).trips) (u j : Fin 256) :
    block i arg5 (harg5.unread x2) k (ix3 0 u j) = val x2 j (256 * ((i 2).val - 1 - k.val) + u.val) := by
  have hq : (i 2).val < 8 := (i 2).isLt
  have hk : k.val < (i 2).val := lt_of_lt_of_eq k.isLt (trips_1 i)
  have hu := u.isLt
  unfold val
  rw [dif_pos (by omega), block_apply i arg5 harg5 x2 k u j ⟨256 * ((i 2).val - 1 - k.val) + u.val, by omega⟩ rfl]

variable (h0 : ∀ y, ∃ x : ℝ, x0 y = (x : EReal)) (h1 : ∀ y, ∃ x : ℝ, x1 y = (x : EReal))
include h0 h1

theorem start_A (r : Fin 256) (l : Fin 128) :
    arg8.view.read (Elt Ideal) (arg8.view.writes (Elt Ideal) arg8.view.junk (planes1 i arg3 harg3 arg4 harg4 arg5 harg5 arg7 arg8 x0 x1 x2)) (ix3 0 r l)
      = outv (logit x0 x1 (i 2).val (headA l) r) (val x2 ⟨l.val, by omega⟩) (256 * (i 2).val + 256) (256 * (i 2).val) := by
  refine (read_plane0 arg8 _ _ _ _ r l).trans ?_
  refine first_planeA (logit x0 x1 (i 2).val) (logit_tame x0 x1 h0 h1 _) (val x2) k0_pay84 tri_apply _ _ _ _
    (fun h r u => own_logit i arg3 harg3 arg4 harg4 arg7 x0 x1 h r u) (fun u j => own_val i arg5 harg5 x2 u j) _ r l ?_
  rw [plane0_apply]
  refine (View.read_writes_cons_unit_of_mem arg8.view _ _ _ _ (ix3 0 r l) (ix3 0 r l) rfl fun a => ?_).trans (pay85_apply 0 r l)
  match a with
  | 0 => rfl
  | 1 => exact (Nat.zero_add _).symm
  | 2 => exact (Nat.zero_add _).symm

theorem start_B (r : Fin 256) (l : Fin 128) :
    arg8.view.read (Elt Ideal) (arg8.view.writes (Elt Ideal) arg8.view.junk (planes1 i arg3 harg3 arg4 harg4 arg5 harg5 arg7 arg8 x0 x1 x2)) (ix3 1 r l)
      = outv (logit x0 x1 (i 2).val (headB l) r) (val x2 ⟨128 + l.val, by omega⟩) (256 * (i 2).val + 256) (256 * (i 2).val) := by
  refine (read_plane1 arg8 _ _ _ r l).trans ?_
  refine first_planeB (logit x0 x1 (i 2).val) (logit_tame x0 x1 h0 h1 _) (val x2) k0_pay84 tri_apply _ _ _ _
    (fun h r u => own_logit i arg3 harg3 arg4 harg4 arg7 x0 x1 h r u) (fun u j => own_val i arg5 harg5 x2 u j) _ r l ?_
  rw [plane1_apply]
  rw [View.read_writes_cons_unit_of_not_mem arg8.view _ _ _ _ (ix3 1 r l) rfl 0 (Or.inr (show 0 + 1 ≤ 1 from le_rfl))]
  refine (View.read_writes_cons_unit_of_mem arg8.view _ _ _ _ (ix3 1 r l) (ix3 1 r l) rfl fun a => ?_).trans (pay85_apply 1 r l)
  match a with
  | 0 => exact (Nat.zero_add _).symm
  | 1 => exact (Nat.zero_add _).symm
  | 2 => exact (Nat.zero_add _).symm

theorem last : (∀ r (l : Fin 128), arg8.view.read (Elt Ideal) (arg8.view.writes (Elt Ideal) arg8.view.junk
        ((after c i arg3 harg3 arg4 harg4 arg5 harg5 arg6 harg6 arg7 harg7 arg8 harg8 x0 x1 x2).2 ++ planes1 i arg3 harg3 arg4 harg4 arg5 harg5 arg7 arg8 x0 x1 x2)) (ix3 0 r l)
        = outv (logit x0 x1 (i 2).val (headA l) r) (val x2 ⟨l.val, by omega⟩) (256 * (i 2).val + 256) 0)
    ∧ (∀ r (l : Fin 128), arg8.view.read (Elt Ideal) (arg8.view.writes (Elt Ideal) arg8.view.junk
        ((after c i arg3 harg3 arg4 harg4 arg5 harg5 arg6 harg6 arg7 harg7 arg8 harg8 x0 x1 x2).2 ++ planes1 i arg3 harg3 arg4 harg4 arg5 harg5 arg7 arg8 x0 x1 x2)) (ix3 1 r l)
        = outv (logit x0 x1 (i 2).val (headB l) r) (val x2 ⟨128 + l.val, by omega⟩) (256 * (i 2).val + 256) 0) := by
  rw [View.writes_append]
  have s := (state (logit x0 x1 (i 2).val) (logit_tame x0 x1 h0 h1 _) (val x2) (256 * (i 2).val + 256) k0_pay84 tri_apply
    Variants.none c none i arg3 harg3 arg4 harg4 arg5 harg5 arg6 harg6 arg7 harg7 arg8 harg8 (BitVec.ofNat 32 (i 2).val)
    (carries' (stack arg3 harg3 arg7 x0) (own i arg4 harg4 x1) k0_pay84).1
    (carries' (stack arg3 harg3 arg7 x0) (own i arg4 harg4 x1) k0_pay84).2.1
    (weights' (stack arg3 harg3 arg7 x0) (own i arg4 harg4 x1) k0_pay84 2)
    (carries' (stack arg3 harg3 arg7 x0) (own i arg4 harg4 x1) k0_pay84).2.2.1
    (weights' (stack arg3 harg3 arg7 x0) (own i arg4 harg4 x1) k0_pay84 3)
    (carries' (stack arg3 harg3 arg7 x0) (own i arg4 harg4 x1) k0_pay84).2.2.2
    (k0_pay120 (k0_pay90 (own i arg5 harg5 x2))) k0_pay121 64#32 k0_pay122 k0_pay123 1#32 _ _ _ _ _ (i 2).val rfl (trips_1 i)
    (fun k h r u => block_logit i arg3 harg3 arg4 harg4 arg7 x0 x1 k h r u) (fun k u j => block_val i arg5 harg5 x2 k u j)
    (fun h r => first_carry (logit x0 x1 (i 2).val) (logit_tame x0 x1 h0 h1 _) k0_pay84 tri_apply _ _ _
      (fun h r u => own_logit i arg3 harg3 arg4 harg4 arg7 x0 x1 h r u) h r)
    (start_A i arg3 harg3 arg4 harg4 arg5 harg5 arg7 arg8 x0 x1 x2 h0 h1)
    (start_B i arg3 harg3 arg4 harg4 arg5 harg5 arg7 arg8 x0 x1 x2 h0 h1) (i 2).val le_rfl).2
  rw [Nat.sub_self, Nat.mul_zero] at s
  unfold after
  rw [trips_1]
  exact s

/-- The kernel's output block at a row and a lane. -/
theorem out_apply (r j : Fin 256) :
    (out0_A_3 (F := Ideal) c i arg3 harg3 arg4 harg4 arg5 harg5 arg6 harg6 arg7 harg7 arg8 harg8 x0 x1 x2 (ix3 0 r j) : EReal)
      = outv (logit x0 x1 (i 2).val ⟨j.val / 64, by omega⟩ r) (val x2 j) (256 * (i 2).val + 256) 0 := by
  obtain ⟨L2, rfl, e⟩ := out_planes c i arg3 harg3 arg4 harg4 arg5 harg5 arg6 harg6 arg7 harg7 arg8 harg8 x0 x1 x2
  obtain ⟨sA, sB⟩ := last c i arg3 harg3 arg4 harg4 arg5 harg5 arg6 harg6 arg7 harg7 arg8 harg8 x0 x1 x2 h0 h1
  have hj := j.isLt
  rw [e, pay1_apply, List.nil_append]
  by_cases h : j.val < 128
  · rw [dif_pos h, plane0_apply, sA]
    have e1 : headA ⟨j.val, h⟩ = (⟨j.val / 64, by omega⟩ : Fin 4) := by
      unfold headA
      split_ifs with q
      · exact Fin.ext (by show 0 = j.val / 64; have : j.val < 64 := q; omega)
      · exact Fin.ext (by show 1 = j.val / 64; have : ¬ j.val < 64 := q; omega)
    rw [e1]
  · rw [dif_neg h, plane1_apply, sB]
    have e1 : headB ⟨j.val - 128, by omega⟩ = (⟨j.val / 64, by omega⟩ : Fin 4) := by
      unfold headB
      split_ifs with q
      · exact Fin.ext (by show 2 = j.val / 64; have : j.val - 128 < 64 := q; omega)
      · exact Fin.ext (by show 3 = j.val / 64; have : ¬ j.val - 128 < 64 := q; omega)
    have e2 : (⟨128 + (j.val - 128), by omega⟩ : Fin 256) = j := Fin.ext (by show 128 + (j.val - 128) = j.val; omega)
    rw [e1, e2]

end Cert.StickValue
-- ==== Proof.StickRef.lean ====
/- The stick-breaking reference, read at an index: its logits, its log-sigmoids, its sum from a key to the newest, its weights. -/
module

public import proofs.«01_k».proof.Proof.StickLoss
public import proofs.«01_k».proof.Proof.ProjRef
public import proofs.«01_k».proof.Proof.Gen.StickRefIdeal.Run

@[expose] public section

set_option maxRecDepth 16384

noncomputable section

namespace Cert.StickRef

open Cert.StickRefIdeal Cert.StickRefIdeal.Gen Cert.StickRefIdeal.Value Cert.StickRow Cert.StickLoss Cert.ProjRow Cert.ProjRef
open Idealize.ShloMosaic Idealize.ShloMosaic.TcCoe Idealize.SL.Sem

/-! The reference's arrays by name. -/

section Arrays
variable (a : FVec Ideal S16x2048x1536 .bf16)

/-- Queries, keys and values by head. -/
def queriesT : FVec Ideal S16x8x2048x64 .f32 :=
  extf .f32 (transpose S16x8x2048x64 [0, 2, 1, 3] (shapeCast S16x2048x8x64 (extractStridedSlice S16x2048x512 ![0, 0, 0] a slices_S16x2048x1536_S16x2048x512_0_0_0) shapeCasts_S16x2048x512_S16x2048x8x64) transposes_S16x2048x8x64_S16x8x2048x64_0_2_1_3) bitsLt_bf16_f32
def keysT : FVec Ideal S16x8x2048x64 .f32 :=
  extf .f32 (transpose S16x8x2048x64 [0, 2, 1, 3] (shapeCast S16x2048x8x64 (extractStridedSlice S16x2048x512 ![0, 0, 512] a slices_S16x2048x1536_S16x2048x512_0_0_512) shapeCasts_S16x2048x512_S16x2048x8x64) transposes_S16x2048x8x64_S16x8x2048x64_0_2_1_3) bitsLt_bf16_f32
def valuesT : FVec Ideal S16x8x2048x64 .f32 :=
  extf .f32 (transpose S16x8x2048x64 [0, 2, 1, 3] (shapeCast S16x2048x8x64 (extractStridedSlice S16x2048x512 ![0, 0, 1024] a slices_S16x2048x1536_S16x2048x512_0_0_1024) shapeCasts_S16x2048x512_S16x2048x8x64) transposes_S16x2048x8x64_S16x8x2048x64_0_2_1_3) bitsLt_bf16_f32

/-- The logits. -/
def logitsT : FVec Ideal S16x8x2048x2048 .f32 :=
  mulf (Host.dotGeneral dot_S16x8x2048x64_S16x8x2048x64_S16x8x2048x2048_3_3_2_2_01_01 none (queriesT a) (keysT a)) (broadcastInDim S16x8x2048x2048 ![] bcast_S_S16x8x2048x2048 (constant S_ .f32 0x3E000000#32))

def zeroT : FVec Ideal S16x8x2048x2048 .f32 := broadcastInDim S16x8x2048x2048 ![] bcast_S_S16x8x2048x2048 (constant S_ .f32 0x00000000#32)

/-- The keys strictly before each query. -/
def strictT : IVec S16x8x2048x2048 1 :=
  broadcastInDim S16x8x2048x2048 ![2, 3] bcast_S2048x2048_S16x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The log-sigmoid of an array. -/
def logSigmoidT (x : FVec Ideal S16x8x2048x2048 .f32) : FVec Ideal S16x8x2048x2048 .f32 :=
  Host.negf (select (cmpf .une (subf (Host.negf x) zeroT) (subf (Host.negf x) zeroT)) (addf (Host.negf x) zeroT) (addf (maximumf (Host.negf x) zeroT) (Host.log1p (Host.exp (Host.negf (Host.absf (subf (Host.negf x) zeroT)))))))

/-- The logs of the parts of the stick left, where the key is before the query. -/
def leftT : FVec Ideal S16x8x2048x2048 .f32 := select strictT (logSigmoidT (Host.negf (logitsT a))) zeroT

/-- From a key to the newest, summed. -/
def sumT (x : FVec Ideal S16x8x2048x2048 .f32) : FVec Ideal S16x8x2048x2048 .f32 :=
  Host.reduceWindowAdd ![1, 1, 1, 2048] ![1, 1, 1, 1] ![0, 0, 0, 0] ![0, 0, 0, 2047] x (broadcastInDim S_ ![] bcast_S_S_ (constant S_ .f32 0x00000000#32)) reduceWindows_S16x8x2048x2048_S16x8x2048x2048_w1s1p0_0_w1s1p0_0_w1s1p0_0_w2048s1p0_2047 h_S_

def weightsT : FVec Ideal S16x8x2048x2048 .f32 :=
  select strictT (Host.exp (addf (logSigmoidT (logitsT a)) (subf (sumT (leftT a)) (leftT a)))) zeroT

def outT : FVec Ideal S16x2048x512 .bf16 :=
  truncf .bf16 (shapeCast S16x2048x512 (transpose S16x2048x8x64 [0, 2, 1, 3] (Host.dotGeneral dot_S16x8x2048x2048_S16x8x2048x64_S16x8x2048x64_3_2_2_3_01_01 none (weightsT a) (valuesT a)) transposes_S16x8x2048x64_S16x2048x8x64_0_2_1_3) shapeCasts_S16x2048x8x64_S16x2048x512) bitsLt_bf16_f32

end Arrays

theorem res_eq (m : (ℓ : Loc nD τ sig) → Buf (Elt Ideal) ℓ) (c : Dev nD) :
    res_out0 m c = outT (m ((c.tc : Thread nD τ).loc main_arg0)) := by
  unfold res_out0 res_main_v34
  rfl

theorem run_values (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v34) = outT (m ((c.tc : Thread nD τ).loc main_arg0))
      ∧ r.2.mem ((c.tc : Thread nD τ).loc main_arg0) = m ((c.tc : Thread nD τ).loc main_arg0) :=
  θ_run_mono (run m g) fun r h c => ⟨(h c).1.trans (res_eq m c), (h c).2⟩

/-! At an index. -/

theorem select_if (p : Prop) [Decidable p] (x y : EReal) : Scalar.select (if p then 1#1 else 0#1) x y = if p then x else y := by
  split_ifs <;> rfl

/-- The logits of a head, from the array. -/
def zval (a : FVec Ideal S16x2048x1536 .bf16) (b : Fin 16) (h : Fin 8) (s t : Fin 2048) : EReal :=
  (∑ d : Fin 64, a (ix3 b s ⟨h.val * 64 + d.val, by omega⟩) * a (ix3 b t ⟨512 + (h.val * 64 + d.val), by omega⟩)) * Ideal.ofBits .f32 0x3E000000#32

theorem logitsT_apply (a : FVec Ideal S16x2048x1536 .bf16) (b : Fin 16) (h : Fin 8) (s t : Fin 2048) :
    logitsT a (ix4 b h s t) = zval a b h s t := by
  unfold logitsT queriesT keysT zval
  pointwise

theorem strictT_apply (b : Fin 16) (h : Fin 8) (s t : Fin 2048) : strictT (ix4 b h s t) = if t < s then 1#1 else 0#1 := by
  unfold strictT
  pointwise
  rw [WordCmp.cmpi_slt_ofNat (by omega) (by omega)]
  by_cases h : t < s
  · rw [if_pos h, decide_eq_true (show t.val < s.val from h)]; rfl
  · rw [if_neg h, decide_eq_false (show ¬ t.val < s.val from h)]; rfl

theorem logSigmoidT_apply (x : FVec Ideal S16x8x2048x2048 .f32) (b : Fin 16) (h : Fin 8) (s t : Fin 2048) :
    logSigmoidT x (ix4 b h s t) = logForget (x (ix4 b h s t)) := by
  unfold logSigmoidT zeroT
  pointwise
  exact softplus_neg _

theorem leftT_apply (a : FVec Ideal S16x2048x1536 .bf16) (b : Fin 16) (h : Fin 8) (s t : Fin 2048) :
    leftT a (ix4 b h s t) = if t < s then logForget (-(zval a b h s t)) else 0 := by
  unfold leftT zeroT
  pointwise [strictT_apply, logSigmoidT_apply, logitsT_apply]
  exact select_if _ _ _

theorem weightsT_apply (a : FVec Ideal S16x2048x1536 .bf16) (b : Fin 16) (h : Fin 8) (s t : Fin 2048) :
    weightsT a (ix4 b h s t) = if t < s then Ideal.exp (logForget (zval a b h s t) + (sumT (leftT a) (ix4 b h s t) - leftT a (ix4 b h s t))) else 0 := by
  unfold weightsT zeroT
  pointwise [strictT_apply, logSigmoidT_apply, logitsT_apply]
  exact select_if _ _ _

theorem outT_apply (a : FVec Ideal S16x2048x1536 .bf16) (b : Fin 16) (s : Fin 2048) (j : Fin 512) :
    outT a (ix3 b s j) = ∑ t : Fin 2048, weightsT a (ix4 b ⟨j.val / 64, by omega⟩ s t) * a (ix3 b t ⟨1024 + j.val, by omega⟩) := by
  unfold outT valuesT
  pointwise

end Cert.StickRef
-- ==== Proof.StickSum.lean ====
/- The stick-breaking reference's sum from a key to the newest, and its weights in the kernel's form. -/
module

public import proofs.«01_k».proof.Proof.StickRef

@[expose] public section

set_option maxRecDepth 16384

noncomputable section

namespace Cert.StickSum

open Cert.StickRefIdeal Cert.StickRefIdeal.Gen Cert.StickRefIdeal.Value Cert.StickRow Cert.StickLoss Cert.ProjRow Cert.ProjRef Cert.StickRef
open Idealize.ShloMosaic Idealize.ShloMosaic.TcCoe Idealize.SL.Sem

/-- The window of the sum: one row, the whole sequence. -/
abbrev span : Shape := ⟨4, ![1, 1, 1, 2048]⟩

/-- The window's positions are its keys. -/
def keyOf : span.Idx ≃ Fin 2048 where
  toFun w := w 3
  invFun k := (ix4 0 0 0 k : (⟨4, ![1, 1, 1, 2048]⟩ : Shape).Idx)
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- Sums over a window that starts at key `t`, padded with zeros after the last key. -/
theorem span_sum (f : ℕ → EReal) (t : ℕ) (ht : t < 2048) :
    ∑ k : Fin 2048, (if t + k.val < 2048 then f (t + k.val) else 0) = ∑ u ∈ Finset.Ico t 2048, f u := by
  rw [Fin.sum_univ_eq_sum_range (fun k => if t + k < 2048 then f (t + k) else 0) 2048,
    Finset.sum_Ico_eq_sum_range, show Finset.range 2048 = Finset.range ((2048 - t) + t) by rw [Nat.sub_add_cancel (le_of_lt ht)], Finset.sum_range_add]
  rw [Finset.sum_eq_zero (s := Finset.range t) fun k hk => if_neg (by omega), add_zero]
  exact Finset.sum_congr rfl fun k hk => if_pos (by have := Finset.mem_range.mp hk; omega)

theorem sumT_apply (x : FVec Ideal S16x8x2048x2048 .f32) (b : Fin 16) (h : Fin 8) (s t : Fin 2048) :
    sumT x (ix4 b h s t) = ∑ u ∈ Finset.Ico t.val 2048, if hu : u < 2048 then x (ix4 b h s ⟨u, hu⟩) else 0 := by
  unfold sumT
  have hv : (broadcastInDim S_ ![] bcast_S_S_ (constant S_ .f32 0x00000000#32) : FVec Ideal S_ .f32) (Shape.Idx.first h_S_) = 0 := by
    rw [show Shape.Idx.first h_S_ = ix0 from funext fun a => a.elim0]
    pointwise
  rw [Host.reduceWindowAdd, Ideal.hostReduceWindowAdd_def, hv]
  unfold Ideal.hostReduceWindowAdd Host.reduceWindow
  refine (foldl_add _ _ _).trans ?_
  rw [zero_add, ← span_sum (fun u => if hu : u < 2048 then x (ix4 b h s ⟨u, hu⟩) else 0) t t.isLt, ← List.ofFn_eq_map,
    List.sum_ofFn]
  refine Fintype.sum_equiv (span.rowMajor.symm.trans keyOf) _ _ fun n => ?_
  have w0 : (span.rowMajor.symm n 0).val = 0 := Nat.lt_one_iff.mp (span.rowMajor.symm n 0).isLt
  have w1 : (span.rowMajor.symm n 1).val = 0 := Nat.lt_one_iff.mp (span.rowMajor.symm n 1).isLt
  have w2 : (span.rowMajor.symm n 2).val = 0 := Nat.lt_one_iff.mp (span.rowMajor.symm n 2).isLt
  have w3 : (span.rowMajor.symm n 3).val < 2048 := (span.rowMajor.symm n 3).isLt
  have hb := b.isLt
  have hh := h.isLt
  have hs := s.isLt
  have ht := t.isLt
  show _ = if t.val + (span.rowMajor.symm n 3).val < 2048 then _ else _
  dsimp only
  split
  · next hin =>
    have h1 : t.val * 1 + (span.rowMajor.symm n 3).val - 0 < 2048 := (hin 3).2
    rw [if_pos (by omega), dif_pos (by show t.val + (span.rowMajor.symm n 3).val < 2048; omega)]
    refine congrArg x (funext fun a => Fin.ext ?_)
    match a with
    | ⟨0, _⟩ => show b.val * 1 + (span.rowMajor.symm n 0).val - 0 = b.val; omega
    | ⟨1, _⟩ => show h.val * 1 + (span.rowMajor.symm n 1).val - 0 = h.val; omega
    | ⟨2, _⟩ => show s.val * 1 + (span.rowMajor.symm n 2).val - 0 = s.val; omega
    | ⟨3, _⟩ => show t.val * 1 + (span.rowMajor.symm n 3).val - 0 = t.val + (span.rowMajor.symm n 3).val; omega
  · next hin =>
    rw [if_neg fun hle => hin fun a => by
      match a with
      | ⟨0, _⟩ => show 0 ≤ b.val * 1 + (span.rowMajor.symm n 0).val ∧ b.val * 1 + (span.rowMajor.symm n 0).val - 0 < 16; omega
      | ⟨1, _⟩ => show 0 ≤ h.val * 1 + (span.rowMajor.symm n 1).val ∧ h.val * 1 + (span.rowMajor.symm n 1).val - 0 < 8; omega
      | ⟨2, _⟩ => show 0 ≤ s.val * 1 + (span.rowMajor.symm n 2).val ∧ s.val * 1 + (span.rowMajor.symm n 2).val - 0 < 2048; omega
      | ⟨3, _⟩ => show 0 ≤ t.val * 1 + (span.rowMajor.symm n 3).val ∧ t.val * 1 + (span.rowMajor.symm n 3).val - 0 < 2048; omega]

/-! The two forms of a weight, over real logits. -/

theorem zero_sub' (x : EReal) : 0 - x = -x := by rw [sub_eq_add_neg, zero_add]

/-- The log-sigmoid of a negated logit is minus its softplus. -/
theorem logForget_neg (x : ℝ) : logForget (-(x : EReal)) = -sp (x : EReal) := by
  unfold logForget sp
  rw [zero_sub', zero_sub', zero_sub', zero_sub', neg_neg, max_comm (-(x : EReal)) x]

/-- The log-sigmoid of a logit is the logit less its softplus. -/
theorem logForget_pos (x : ℝ) : logForget (x : EReal) = (x : EReal) - sp (x : EReal) := by
  have e : logForget (x : EReal) = -sp (-(x : EReal)) := by
    unfold logForget sp
    rw [zero_sub', zero_sub', zero_sub', zero_sub', neg_neg, max_comm (-(x : EReal)) x]
  rw [e, ← EReal.coe_neg, sp_coe, sp_coe, ← EReal.coe_neg, ← EReal.coe_sub, neg_neg, max_comm (-x) x]
  congr 1
  rcases le_total 0 x with hx | hx
  · rw [max_eq_right (by linarith : -x ≤ 0), max_eq_left hx]; ring
  · rw [max_eq_left (by linarith : 0 ≤ -x), max_eq_right hx]; ring

/-- The logits of a query up to its own token, the mask from there on. -/
def upTo (z : Fin 2048 → EReal) (s : ℕ) (t : ℕ) : EReal := if t < s then (if ht : t < 2048 then z ⟨t, ht⟩ else 0) else ⊥

theorem upTo_tame (z : Fin 2048 → EReal) (hz : ∀ t, ∃ x : ℝ, z t = x) (s t : ℕ) : Tame (upTo z s t) := by
  unfold upTo
  split_ifs with h1 h2
  · exact Or.inr (hz _)
  · exact Or.inr ⟨0, rfl⟩
  · exact Or.inl rfl

/-- A key before the query: the reference's weight is the kernel's. -/
theorem weight_eq (z : Fin 2048 → EReal) (hz : ∀ t, ∃ x : ℝ, z t = x) (s t : Fin 2048) (hts : t < s) :
    Ideal.exp (logForget (z t)
        + ((∑ u ∈ Finset.Ico t.val 2048, if hu : u < 2048 then (if (⟨u, hu⟩ : Fin 2048) < s then logForget (-(z ⟨u, hu⟩)) else 0) else 0)
          - (if t < s then logForget (-(z t)) else 0)))
      = wt (upTo z s.val) s.val t.val := by
  have hs := s.isLt
  have hlt : t.val < s.val := hts
  obtain ⟨x, hx⟩ := hz t
  obtain ⟨y, hy⟩ := sum_real (Finset.Ico (t.val + 1) s.val) (fun u => sp (upTo z s.val u)) fun u => Tame.sp_real (upTo_tame z hz _ u)
  obtain ⟨w, hw⟩ := Tame.sp_real (Or.inr ⟨x, rfl⟩ : Tame (x : EReal))
  have hup : upTo z s.val t.val = x := by unfold upTo; rw [if_pos hlt, dif_pos (by omega), ← hx]
  have hsum : (∑ u ∈ Finset.Ico t.val 2048, if hu : u < 2048 then (if (⟨u, hu⟩ : Fin 2048) < s then logForget (-(z ⟨u, hu⟩)) else 0) else 0)
      = ((-w + -y : ℝ) : EReal) := by
    rw [← Finset.sum_Ico_consecutive _ (show t.val ≤ s.val by omega) (show s.val ≤ 2048 by omega)]
    rw [Finset.sum_eq_zero (s := Finset.Ico s.val 2048) fun u hu => by
      have := Finset.mem_Ico.mp hu
      rw [dif_pos (by omega), if_neg (by show ¬ u < s.val; omega)], add_zero]
    have e : ∀ u ∈ Finset.Ico t.val s.val, (if hu : u < 2048 then (if (⟨u, hu⟩ : Fin 2048) < s then logForget (-(z ⟨u, hu⟩)) else 0) else 0)
        = -sp (upTo z s.val u) := fun u hu => by
      have hu' := Finset.mem_Ico.mp hu
      unfold upTo
      rw [dif_pos (show u < 2048 by omega), if_pos hu'.2, dif_pos (show u < 2048 by omega), if_pos (show (⟨u, by omega⟩ : Fin 2048) < s from hu'.2)]
      obtain ⟨q, hq⟩ := hz ⟨u, by omega⟩
      rw [hq, logForget_neg]
    rw [Finset.sum_congr rfl e, Finset.sum_eq_sum_Ico_succ_bot hlt, hup, hw]
    have e2 : ∑ u ∈ Finset.Ico (t.val + 1) s.val, -sp (upTo z s.val u) = ((-y : ℝ) : EReal) := by
      have key : ∀ S : Finset ℕ, ∑ u ∈ S, -sp (upTo z s.val u) = -∑ u ∈ S, sp (upTo z s.val u) := fun S => by
        classical
        induction S using Finset.induction_on with
        | empty => simp
        | insert a S ha ih =>
          obtain ⟨p, hp⟩ := Tame.sp_real (upTo_tame z hz s.val a)
          obtain ⟨q, hq⟩ := sum_real S (fun u => sp (upTo z s.val u)) fun u => Tame.sp_real (upTo_tame z hz _ u)
          rw [Finset.sum_insert ha, Finset.sum_insert ha, ih, hp, hq, ← EReal.coe_neg, ← EReal.coe_neg, ← EReal.coe_add, ← EReal.coe_add, ← EReal.coe_neg]
          congr 1; ring
      rw [key, hy, EReal.coe_neg]
    rw [e2, ← EReal.coe_neg, EReal.coe_add]
  have hloss : loss (upTo z s.val) s.val t.val = ((w + y : ℝ) : EReal) := by
    unfold loss
    rw [Finset.sum_eq_sum_Ico_succ_bot hlt, hup, hw, hy, EReal.coe_add]
  unfold wt
  rw [hsum, hloss, hup, if_pos hts, hx, logForget_neg, logForget_pos, hw, ← EReal.coe_neg, ← EReal.coe_sub, ← EReal.coe_sub, ← EReal.coe_sub, ← EReal.coe_add]
  congr 2; ring

/-- What the keys before the query and the query's own token on add up to, whatever the end. -/
theorem outv_end (z : Fin 2048 → EReal) (v : ℕ → EReal) (s n : ℕ) (h : s ≤ n) (hz : ∀ t, ∃ x : ℝ, z t = x) :
    outv (upTo z s) v n 0 = outv (upTo z s) v s 0 := by
  have hm : ∀ u, s ≤ u → upTo z s u = ⊥ := fun u hu => by unfold upTo; rw [if_neg (by omega)]
  have hl : ∀ t, t ≤ s → loss (upTo z s) n t = loss (upTo z s) s t := fun t ht => by
    unfold loss
    rw [← Finset.sum_Ico_consecutive _ ht h, Finset.sum_eq_zero (s := Finset.Ico s n) fun u hu => by
      rw [hm u (Finset.mem_Ico.mp hu).1, sp_bot], add_zero]
  unfold outv
  rw [← Finset.sum_Ico_consecutive _ (Nat.zero_le s) h, Finset.sum_eq_zero (s := Finset.Ico s n) fun u hu => by
    unfold wt
    rw [hm u (Finset.mem_Ico.mp hu).1, EReal.bot_sub]
    exact zero_mul _, add_zero]
  exact Finset.sum_congr rfl fun u hu => by
    unfold wt
    rw [hl u (le_of_lt (Finset.mem_Ico.mp hu).2)]

/-- The reference's output is the weighted sum of the values before the query. -/
theorem outT_eq (a : FVec Ideal S16x2048x1536 .bf16) (b : Fin 16) (s : Fin 2048) (j : Fin 512)
    (hz : ∀ t, ∃ x : ℝ, zval a b ⟨j.val / 64, by omega⟩ s t = x) :
    outT a (ix3 b s j) = outv (upTo (fun t => zval a b ⟨j.val / 64, by omega⟩ s t) s.val)
      (fun t => if ht : t < 2048 then a (ix3 b ⟨t, ht⟩ ⟨1024 + j.val, by omega⟩) else 0) s.val 0 := by
  rw [outT_apply]
  have e : ∀ t : Fin 2048, weightsT a (ix4 b ⟨j.val / 64, by omega⟩ s t) * a (ix3 b t ⟨1024 + j.val, by omega⟩)
      = if t.val < s.val then wt (upTo (fun t => zval a b ⟨j.val / 64, by omega⟩ s t) s.val) s.val t.val
          * (if ht : t.val < 2048 then a (ix3 b ⟨t.val, ht⟩ ⟨1024 + j.val, by omega⟩) else 0) else 0 := fun t => by
    rw [weightsT_apply]
    by_cases h : t < s
    · rw [if_pos h, if_pos (show t.val < s.val from h), dif_pos t.isLt, ← weight_eq _ hz s t h, sumT_apply]
      simp only [leftT_apply]
    · rw [if_neg h, if_neg (show ¬ t.val < s.val from h)]
      exact zero_mul _
  rw [Finset.sum_congr rfl fun t _ => e t]
  rw [Fin.sum_univ_eq_sum_range (fun t => if t < s.val then wt (upTo (fun t => zval a b ⟨j.val / 64, by omega⟩ s t) s.val) s.val t
          * (if ht : t < 2048 then a (ix3 b ⟨t, ht⟩ ⟨1024 + j.val, by omega⟩) else 0) else 0) 2048]
  unfold outv
  have hs := s.isLt
  rw [← Finset.sum_filter]
  refine Finset.sum_congr ?_ fun t _ => rfl
  ext t
  simp only [Finset.mem_filter, Finset.mem_range, Finset.mem_Ico]
  omega

end Cert.StickSum
-- ==== Proof.StickFinal.lean ====
/- The stick-breaking kernel's windows as elements of the launched argument, and its result array, index by index. -/
module

public import proofs.«01_k».proof.Proof.StickValue
public import proofs.«01_k».proof.Proof.StickSum
public import Idealize.ShloMosaic.Lib.StableHlo.ReadAt
public import Idealize.ShloMosaic.Lib.Pipeline.ReadBack

@[expose] public section

set_option maxRecDepth 16384

noncomputable section

namespace Cert.StickFinal

open Cert.StickIdeal Cert.StickIdeal.Gen Cert.StickPay Cert.StickRow Cert.StickLoss Cert.StickOut Cert.StickSum
open Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N,
    win0_0.index t = ![t.val / 16, t.val % 8, t.val / 8 % 2] ∧ win0_1.index t = ![t.val / 16, 0, 2 + t.val / 8 % 2]
    ∧ win0_2.index t = ![t.val / 16, 0, 4 + t.val / 8 % 2] ∧ win0_3.index t = ![t.val / 16, t.val % 8, t.val / 8 % 2] :=
  (by decide +kernel : ∀ t : Fin grid0.N, _)

theorem coord : ∀ t : Fin cfg0.N, (grid0.coords t 2).val = t.val % 8 :=
  (by decide +kernel : ∀ t : Fin grid0.N, _)

theorem n_lt (t : Fin cfg0.N) : t.val < 256 := by
  have h : cfg0.N = 256 := N_0
  have := t.isLt
  omega

/-- The sequence, the token of row `r` and the column of lane `j` at a grid point. -/
abbrev seqOf (t : Fin cfg0.N) : Fin 16 := ⟨t.val / 16, by have := n_lt t; omega⟩
abbrev tokOf (t : Fin cfg0.N) (r : Fin 256) : Fin 2048 := ⟨256 * (t.val % 8) + r.val, by omega⟩
abbrev colOf (t : Fin cfg0.N) (j : Fin 256) : Fin 512 := ⟨256 * (t.val / 8 % 2) + j.val, by omega⟩

theorem blk_0 (c : Dev nD) (t : Fin cfg0.N) (r j : Fin 256) :
    iblk m c 0 t (ix3 0 r j) = m ((c : Thread nD τ).loc main_arg0) (ix3 (seqOf t) (tokOf t r) ⟨(colOf t j).val, by omega⟩) := by
  have e : ((cfg0.win 0).blk t).view.emb (ix3 0 r j) = (ix3 (seqOf t) (tokOf t r) ⟨(colOf t j).val, by omega⟩ : S16x2048x1536.Idx) := by
    blk_ext [idx t]
  unfold iblk
  exact congrArg _ e

theorem blk_1 (c : Dev nD) (t : Fin cfg0.N) (k : Fin 2048) (j : Fin 256) :
    iblk m c 1 t (ix3 0 k j) = m ((c : Thread nD τ).loc main_arg0) (ix3 (seqOf t) k ⟨512 + (colOf t j).val, by omega⟩) := by
  have e : ((cfg0.win 1).blk t).view.emb (ix3 0 k j) = (ix3 (seqOf t) k ⟨512 + (colOf t j).val, by omega⟩ : S16x2048x1536.Idx) := by
    blk_ext [idx t]
  unfold iblk
  exact congrArg _ e

theorem blk_2 (c : Dev nD) (t : Fin cfg0.N) (k : Fin 2048) (j : Fin 256) :
    iblk m c 2 t (ix3 0 k j) = m ((c : Thread nD τ).loc main_arg0) (ix3 (seqOf t) k ⟨1024 + (colOf t j).val, by omega⟩) := by
  have e : ((cfg0.win 2).blk t).view.emb (ix3 0 k j) = (ix3 (seqOf t) k ⟨1024 + (colOf t j).val, by omega⟩ : S16x2048x1536.Idx) := by
    blk_ext [idx t]
  unfold iblk
  exact congrArg _ e

/-- Finite queries and keys. -/
abbrev Finite (a : FVec Ideal S16x2048x1536 .bf16) : Prop :=
  ∀ (b : Fin 16) (s : Fin 2048) (j : Fin 1024), ∃ x : ℝ, a (ix3 b s ⟨j.val, by omega⟩) = (x : EReal)

/-- The two words of the scale name one number. -/
theorem scale_eq : scale = Ideal.ofBits .f32 0x3E000000#32 := by
  have e1 : scale = ((1 / 8 : ℝ) : EReal) := by
    unfold scale
    simp [Ideal.ofBits, Ideal.ieee, -EReal.coe_mul]; norm_num
  have e2 : Ideal.ofBits .f32 0x3E000000#32 = ((1 / 8 : ℝ) : EReal) := by
    simp [Ideal.ofBits, Ideal.ieee, -EReal.coe_mul]; norm_num
  rw [e1, e2]

theorem zval_real (a : FVec Ideal S16x2048x1536 .bf16) (ha : Finite a) (b : Fin 16) (h : Fin 8) (s t : Fin 2048) :
    ∃ x : ℝ, Cert.StickRef.zval a b h s t = (x : EReal) := by
  unfold Cert.StickRef.zval
  obtain ⟨y, hy⟩ := sum_real Finset.univ (fun d : Fin 64 => (a (ix3 b s ⟨h.val * 64 + d.val, by omega⟩) : EReal) * a (ix3 b t ⟨512 + (h.val * 64 + d.val), by omega⟩))
    fun d => by
      obtain ⟨p, hp⟩ := ha b s ⟨h.val * 64 + d.val, by omega⟩
      obtain ⟨q, hq⟩ := ha b t ⟨512 + (h.val * 64 + d.val), by omega⟩
      exact ⟨p * q, by rw [EReal.coe_mul, ← hp, ← hq]⟩
  obtain ⟨σ, hσ⟩ := scale_real
  rw [← scale_eq, hσ]
  exact ⟨y * σ, by rw [EReal.coe_mul, ← hy]⟩

/-- Of 256 lanes, one head's 64 count. -/
theorem head_sum (f : Fin 256 → EReal) (h : Fin 4) :
    ∑ j : Fin 256, (if j.val / 64 = h.val then f j else 0) = ∑ d : Fin 64, f ⟨h.val * 64 + d.val, by omega⟩ := by
  rw [← Equiv.sum_comp (finProdFinEquiv (m := 4) (n := 64)), Fintype.sum_prod_type, Finset.sum_eq_single h]
  · refine Finset.sum_congr rfl fun d _ => ?_
    have e : (finProdFinEquiv (h, d) : Fin 256) = ⟨h.val * 64 + d.val, by omega⟩ := Fin.ext (by show d.val + 64 * h.val = h.val * 64 + d.val; omega)
    rw [e, if_pos (by show (h.val * 64 + d.val) / 64 = h.val; omega)]
  · intro g _ hg
    refine Finset.sum_eq_zero fun d _ => if_neg fun e => hg (Fin.ext ?_)
    have e' : (d.val + 64 * g.val) / 64 = h.val := e
    omega
  · exact fun hh => absurd (Finset.mem_univ _) hh

theorem lanes_sum (x0 : Vec Ideal S1x256x256 .bf16) (x1 : Vec Ideal S1x2048x256 .bf16) (h : Fin 4) (r : Fin 256) (k : Fin 2048) :
    ∑ j : Fin 256, lanes x0 h r j * (x1 (ix3 0 k j) : EReal)
      = ∑ d : Fin 64, (x0 (ix3 0 r ⟨h.val * 64 + d.val, by omega⟩) : EReal) * scale * (x1 (ix3 0 k ⟨h.val * 64 + d.val, by omega⟩) : EReal) := by
  rw [← head_sum (fun l => (x0 (ix3 0 r l) : EReal) * scale * (x1 (ix3 0 k l) : EReal)) h]
  unfold lanes
  simp only [ite_mul, zero_mul]

/-- A scale common to all terms. -/
theorem sum_scale {ι : Type} [Fintype ι] (f g : ι → EReal) (s : ℝ) (hf : ∀ i, ∃ x : ℝ, f i = x) (hg : ∀ i, ∃ x : ℝ, g i = x) :
    ∑ i, f i * s * g i = (∑ i, f i * g i) * s := by
  classical
  have key : ∀ S : Finset ι, ∑ i ∈ S, f i * s * g i = (∑ i ∈ S, f i * g i) * s := fun S => by
    induction S using Finset.induction_on with
    | empty => simp
    | insert a S ha ih =>
      obtain ⟨x, hx⟩ := hf a
      obtain ⟨y, hy⟩ := hg a
      obtain ⟨w, hw⟩ := sum_real S (fun i => f i * g i) fun i => by
        obtain ⟨x, hx⟩ := hf i
        obtain ⟨y, hy⟩ := hg i
        exact ⟨x * y, by rw [hx, hy, EReal.coe_mul]⟩
      rw [Finset.sum_insert ha, Finset.sum_insert ha, ih, hw, hx, hy, ← EReal.coe_mul, ← EReal.coe_mul, ← EReal.coe_mul,
        ← EReal.coe_mul, ← EReal.coe_add, ← EReal.coe_add, ← EReal.coe_mul]
      congr 1; ring
  exact key _

theorem logit_eq (c : Dev nD) (ha : Finite (m ((c : Thread nD τ).loc main_arg0))) (t : Fin cfg0.N) (r j : Fin 256) :
    logit (iblk m c 0 t) (iblk m c 1 t) (t.val % 8) ⟨j.val / 64, by omega⟩ r
      = upTo (fun k => Cert.StickRef.zval (m ((c : Thread nD τ).loc main_arg0)) (seqOf t) ⟨(colOf t j).val / 64, by omega⟩ (tokOf t r) k)
          (tokOf t r).val := by
  funext k
  unfold logit upTo
  by_cases h1 : k < 256 * (t.val % 8) + r.val
  · rw [if_pos h1, if_pos h1]
    by_cases h2 : k < 2048
    · rw [dif_pos h2, dif_pos h2]
      rw [lanes_sum]
      unfold Cert.StickRef.zval
      simp only [blk_0, blk_1]
      rw [← scale_eq]
      obtain ⟨σ, hσ⟩ := scale_real
      rw [hσ]
      refine (sum_scale
        (fun d : Fin 64 => m ((c : Thread nD τ).loc main_arg0) (ix3 (seqOf t) (tokOf t r) ⟨256 * (t.val / 8 % 2) + (j.val / 64 * 64 + d.val), by omega⟩))
        (fun d : Fin 64 => m ((c : Thread nD τ).loc main_arg0) (ix3 (seqOf t) ⟨k, h2⟩ ⟨512 + (256 * (t.val / 8 % 2) + (j.val / 64 * 64 + d.val)), by omega⟩)) σ
        (fun d => ha (seqOf t) (tokOf t r) ⟨256 * (t.val / 8 % 2) + (j.val / 64 * 64 + d.val), by omega⟩)
        (fun d => ha (seqOf t) ⟨k, h2⟩ ⟨512 + (256 * (t.val / 8 % 2) + (j.val / 64 * 64 + d.val)), by omega⟩)).trans ?_
      refine congrArg (· * (σ : EReal)) (Finset.sum_congr rfl fun d _ => ?_)
      have e : (256 * (t.val / 8 % 2) + j.val) / 64 * 64 + d.val = 256 * (t.val / 8 % 2) + (j.val / 64 * 64 + d.val) := by omega
      refine congrArg₂ (· * ·) (congrArg _ (congrArg _ (Fin.ext ?_))) (congrArg _ (congrArg _ (Fin.ext ?_)))
      · exact e.symm
      · exact congrArg (512 + ·) e.symm
    · rw [dif_neg h2, dif_neg h2]
  · rw [if_neg h1, if_neg h1]

/-- The call's result as a function of its argument. -/
def G (c : Dev nD) : FVec Ideal S16x2048x512 .bf16 := fun i =>
  outv (upTo (fun k => Cert.StickRef.zval (m ((c : Thread nD τ).loc main_arg0)) (i 0) ⟨(i 2).val / 64, by have : (i 2).val < 512 := (i 2).isLt; omega⟩ (i 1) k) (i 1).val)
    (fun k => if hk : k < 2048 then m ((c : Thread nD τ).loc main_arg0) (ix3 (i 0) ⟨k, hk⟩ ⟨1024 + (i 2).val, by have : (i 2).val < 512 := (i 2).isLt; omega⟩) else 0)
    (i 1).val 0

theorem point (c : Dev nD) (ha : Finite (m ((c : Thread nD τ).loc main_arg0))) (t : Fin cfg0.N) (r j : Fin 256) :
    outsAt0 m c t (ix3 0 r j) = G m c (ix3 (seqOf t) (tokOf t r) (colOf t j)) := by
  have h0 : ∀ y, ∃ x : ℝ, iblk m c 0 t y = (x : EReal) := fun y => by
    idx_vars y
    rw [Subsingleton.elim (α := Fin 1) y0 0, blk_0]
    exact ha _ _ ⟨(colOf t y2).val, by omega⟩
  have h1 : ∀ y, ∃ x : ℝ, iblk m c 1 t y = (x : EReal) := fun y => by
    idx_vars y
    rw [Subsingleton.elim (α := Fin 1) y0 0, blk_1]
    exact ha _ _ ⟨512 + (colOf t y2).val, by omega⟩
  unfold outsAt0
  refine (Cert.StickValue.out_apply c (grid0.coords t) _ _ _ _ _ _ _ _ _ _ _ _ _ _ (iblk m c 2 t) h0 h1 r j).trans ?_
  rw [coord t, logit_eq m c ha]
  have hv : val (iblk m c 2 t) j = (fun k => if hk : k < 2048 then m ((c : Thread nD τ).loc main_arg0) (ix3 (seqOf t) ⟨k, hk⟩ ⟨1024 + (colOf t j).val, by omega⟩) else 0 : ℕ → EReal) := by
    funext k
    unfold val
    by_cases hk : k < 2048
    · rw [dif_pos hk, dif_pos hk, blk_2]
    · rw [dif_neg hk, dif_neg hk]
  rw [hv, outv_end _ _ _ _ (by show 256 * (t.val % 8) + r.val ≤ _; omega) fun k => zval_real _ ha _ _ _ _]
  rfl

theorem emb_3 (t : Fin cfg0.N) (u : Fin 1) (r j : Fin 256) :
    ((cfg0.win 3).blk t).view.emb (ix3 u r j) = (ix3 (seqOf t) (tokOf t r) (colOf t j) : S16x2048x512.Idx) := by
  blk_ext [idx t]

theorem final (c : Dev nD) (ha : Finite (m ((c : Thread nD τ).loc main_arg0))) : (dats m 0 c).arrAt 3 cfg0.N = G m c := by
  refine (dats m 0 c).arrAt_eq_of_covers 3 _ (by decide +kernel) fun t _ y => ?_
  blk_simp
  rw [after0_3]
  idx_vars y
  rw [Subsingleton.elim (α := Fin 1) y0 0]
  exact (point m c ha t _ _).trans (congrArg (G m c) (emb_3 t _ _ _)).symm

end Cert.StickFinal
-- ==== Proof.StickCert.lean ====
/- The stick-breaking kernel and its reference compute the same result, over finite queries and keys. -/
module

public import proofs.«01_k».proof.Defs
public import proofs.«01_k».proof.Proof.StickFinal
public import Idealize.ShloMosaic.Lib.Claim

@[expose] public section

set_option maxRecDepth 16384

noncomputable section

namespace Cert.StickCert

open Idealize.ShloMosaic Idealize.ShloMosaic.TcCoe Idealize.SL.Sem

instance preFacts : Cert.Pre_finite3.Facts := ⟨by decide, by decide, by decide⟩

theorem inf_eq : Ideal.ofBits .f32 0x7F800000#32 = ⊤ := by simp [Ideal.ofBits, Ideal.ieee]

/-- What the precondition says of an array: its queries and keys are finite. -/
theorem finite_of (a : FVec Ideal Cert.StickIdeal.S16x2048x1536 .bf16)
    (h : Cert.Pre_finite3.fn (F := Ideal) a = fun _ => 1#1) : Cert.StickFinal.Finite a := by
  intro b s j
  have e := congrFun h (ix3 b s j)
  have e2 : (Cert.Pre_finite3.fn (F := Ideal) a) (ix3 b s j)
      = BitVec.ofBool (decide (max (a (ix3 b s ⟨j.val, by omega⟩) : EReal) (-(a (ix3 b s ⟨j.val, by omega⟩) : EReal)) < ⊤)) := by
    rw [← inf_eq]
    unfold Cert.Pre_finite3.fn
    pointwise
    rfl
  rw [e2] at e
  generalize (a (ix3 b s ⟨j.val, by omega⟩) : EReal) = x at e
  induction x using EReal.rec with
  | bot => exact absurd e (by simp)
  | top => exact absurd e (by simp)
  | coe x => exact ⟨x, rfl⟩

theorem algebraic : Cert.algebraic_StickIdeal_StickRefIdeal_pre_finite3 := by
  pair_intro
  · run_from Cert.StickIdeal.Value.run_blocks m g
  · refine θ_run_mono (Cert.StickRef.run_values m' g') fun r h c => ?_
    obtain ⟨r0, h5⟩ := h c
    refine ⟨?_, h5⟩
    have h0 := hagree c
    have ha := finite_of _ (hpre c)
    rw [Cert.StickFinal.final m c ha]
    rw [r0]
    funext i
    idx_vars i
    rw [h0]
    exact Cert.StickSum.outT_eq _ i0 i1 i2 fun t => Cert.StickFinal.zval_real _ ha _ _ _ _

end Cert.StickCert
-- ==== Proof.StickFrames.lean ====
/- The stick-breaking call's reference frame, and the one constant named. -/
module

public import proofs.«01_k».proof.Proof.StickCert

@[expose] public section

set_option maxRecDepth 16384

noncomputable section

namespace Cert.StickFrames

open Idealize.ShloMosaic Idealize.SL.Sem

theorem refFrame : Cert.quiescent_StickRefIdeal := by
  intro m g _
  refine θ_run_mono (Cert.StickRefIdeal.Value.run m g) fun r h => ⟨fun c => (h c).2, funext fun x => ?_⟩
  obtain ⟨d, s⟩ := x
  exact (show SemLoc Cert.StickRefIdeal.sig → False by decide) s |>.elim

theorem refFramePre : Cert.quiescent_StickRefIdeal_pre_finite3 := fun m g _ => refFrame m g trivial

theorem preserves : Cert.preserves_Stick_StickIdeal :=
  IdealRules.named_const.statement Cert.StickIdeal.κ "mask" .f32 0xF149F2CA#32 ⊥ rfl

end Cert.StickFrames
-- ==== Proof.FoxPay.lean ====
/- The values the forgetting-attention kernel computes from a block of keys, each read at an index. -/
module

public import proofs.«01_k».proof.Proof.StickPay
public import proofs.«01_k».proof.Proof.Gen.FoxIdeal.Value

@[expose] public section

set_option maxRecDepth 16384

noncomputable section

namespace Cert.FoxPay

open Cert.FoxIdeal Cert.FoxIdeal.Gen Cert.StickRow
open Cert.StickPay (row row_0 row_1 row_2 row_3 row_mod select_eq lane_128 lane_256 sign_one quotient quotient_128 scale carry)
open Idealize.ShloMosaic Idealize.ShloMosaic.TcCoe Idealize.SL.Sem

/-! Words: heads, halves, masks. -/

/-- The word of head `h` of group `g`. -/
theorem head_word (g : Fin 2) (h : Fin 4) :
    Scalar.addi (Scalar.muli 4#32 (BitVec.ofNat 32 g.val)) (BitVec.ofNat 32 h.val) = BitVec.ofNat 32 (4 * g.val + h.val) := by
  revert g h; decide +kernel

theorem half_word (l : Fin 256) :
    IntOp.cmpi CmpIPredicate.eq (IntOp.andi (BitVec.ofNat 32 l.val) 64#32) 0#32 = if l.val / 64 % 2 = 0 then 1#1 else 0#1 := by
  revert l; decide +kernel

theorem select_half (l : Fin 256) (p q : EReal) :
    Scalar.select (IntOp.cmpi CmpIPredicate.eq (IntOp.andi (BitVec.ofNat 32 l.val) 64#32) 0#32) p q = if l.val / 64 % 2 = 0 then p else q := by
  rw [half_word]; split_ifs <;> rfl

theorem select_le (a b : ℕ) (ha : a < 2 ^ 31) (hb : b < 2 ^ 31) {α : Type} (p q : α) :
    Scalar.select (IntOp.cmpi CmpIPredicate.sle (BitVec.ofNat 32 a) (BitVec.ofNat 32 b)) p q = if a ≤ b then p else q := by
  rw [WordCmp.cmpi_sle_ofNat ha hb]
  by_cases h : a ≤ b <;> simp [h, Scalar.select]

theorem mask_eq : (Named.named κ "mask" 0xF149F2CA#32 : Ideal .f32) = ⊥ := rfl

theorem pick_sum {n : ℕ} (f : Fin n → EReal) (a : Fin n) : ∑ x : Fin n, (if x.val = a.val then f x else 0) = f a := by
  rw [Finset.sum_eq_single a]
  · rw [if_pos rfl]
  · exact fun b _ hb => if_neg fun e => hb (Fin.ext e)
  · exact fun h => absurd (Finset.mem_univ _) h

theorem sum_512 (f : Fin 512 → EReal) :
    ∑ k : Fin 512, f k = ∑ s : Fin 256, f ⟨s.val, by omega⟩ + ∑ s : Fin 256, f ⟨256 + s.val, by omega⟩ :=
  Fin.sum_univ_add (a := 256) (b := 256) f

abbrev Four : Type := FVec Ideal S256x1 .f32 × FVec Ideal S256x1 .f32 × FVec Ideal S256x1 .f32 × FVec Ideal S256x1 .f32

abbrev tokens : IVec S256x128 32 := iota .tc S256x128 32 [1] iota_S256x128_d1_w32
abbrev heads : IVec S8x256 32 := iota .tc S8x256 32 [0] iota_S8x256_d0_w32
abbrev rows : IVec S256x256 32 := iota .tc S256x256 32 [0] iota_S256x256_d0_w32
abbrev cols : IVec S256x256 32 := iota .tc S256x256 32 [1] iota_S256x256_d1_w32

abbrev rows' : IVec S256x128 32 := iota .tc S256x128 32 [0] iota_S256x128_d0_w32
abbrev cols' : IVec S256x128 32 := iota .tc S256x128 32 [1] iota_S256x128_d1_w32

section Blocks

variable (g : Fin 2) (Q : Vec Ideal S1024x256 .bf16) (K V : Vec Ideal S1x256x256 .bf16) (T : Vec Ideal S1x8x256 .f32) (cq m : Four)

/-- The word of the group of heads. -/
abbrev grp : BitVec 32 := BitVec.ofNat 32 g.val

/-- The four heads' logits of a block, less the keys' gates. -/
def less : Fin 4 → FVec Ideal S256x256 .f32
  | 0 => k0_pay4 (grp g) heads K T Q
  | 1 => k0_pay9 (k0_pay3 K Q) (k0_pay8 (grp g) heads T)
  | 2 => k0_pay13 (grp g) heads (k0_pay2 T) (k0_pay3 K Q)
  | 3 => k0_pay17 (grp g) heads (k0_pay2 T) (k0_pay3 K Q)

/-- A logit less the key's gate. -/
def raw (h : Fin 4) (r s : Fin 256) : EReal :=
  (∑ c : Fin 256, Q (ix2 (row h r) c) * K (ix3 0 s c)) - T (ix3 0 ⟨4 * g.val + h.val, by omega⟩ s)

theorem less_apply (h : Fin 4) (r s : Fin 256) : less g Q K T h (ix2 r s) = raw g Q K T h r s := by
  unfold raw
  match h with
  | 0 =>
    rw [row_0]; pointwise [less, k0_pay4, k0_pay3, k0_pay2]
    rw [show (0#32 : BitVec 32) = BitVec.ofNat 32 (0 : Fin 4).val from rfl, head_word]
    simp (disch := omega) only [select_eq]
    exact congrArg _ (pick_sum (fun x : Fin 8 => (T (ix3 0 x s) : EReal)) ⟨4 * g.val + (0 : Fin 4).val, by omega⟩)
  | 1 =>
    rw [row_1]; pointwise [less, k0_pay9, k0_pay8, k0_pay3, k0_pay2]
    rw [show (1#32 : BitVec 32) = BitVec.ofNat 32 (1 : Fin 4).val from rfl, head_word]
    simp (disch := omega) only [select_eq]
    exact congrArg _ (pick_sum (fun x : Fin 8 => (T (ix3 0 x s) : EReal)) ⟨4 * g.val + (1 : Fin 4).val, by omega⟩)
  | 2 =>
    rw [row_2]; pointwise [less, k0_pay13, k0_pay3, k0_pay2]
    rw [show (2#32 : BitVec 32) = BitVec.ofNat 32 (2 : Fin 4).val from rfl, head_word]
    simp (disch := omega) only [select_eq]
    exact congrArg _ (pick_sum (fun x : Fin 8 => (T (ix3 0 x s) : EReal)) ⟨4 * g.val + (2 : Fin 4).val, by omega⟩)
  | 3 =>
    rw [row_3]; pointwise [less, k0_pay17, k0_pay3, k0_pay2]
    rw [show (3#32 : BitVec 32) = BitVec.ofNat 32 (3 : Fin 4).val from rfl, head_word]
    simp (disch := omega) only [select_eq]
    exact congrArg _ (pick_sum (fun x : Fin 8 => (T (ix3 0 x s) : EReal)) ⟨4 * g.val + (3 : Fin 4).val, by omega⟩)

/-- The four heads' largest logits, carried from block to block. -/
def tops : Four :=
  (k0_pay5 (grp g) heads cq.1 m.1 K T Q, k0_pay10 cq.2.1 m.2.1 (k0_pay3 K Q) (k0_pay8 (grp g) heads T),
    k0_pay14 (grp g) heads cq.2.2.1 m.2.2.1 (k0_pay2 T) (k0_pay3 K Q),
    k0_pay18 cq.2.2.2 m.2.2.2 (k0_pay17 (grp g) heads (k0_pay2 T) (k0_pay3 K Q)))

theorem tops_apply (h : Fin 4) (r : Fin 256) : carry (tops g Q K T cq m) h (ix2 r 0)
    = max (carry m h (ix2 r 0)) (Finset.fold max (Ideal.ofBits .f32 0xFF800000#32) (fun s : Fin 256 => (less g Q K T h (ix2 r s) : EReal)) Finset.univ + carry cq h (ix2 r 0)) := by
  match h with
  | 0 => pointwise [carry, tops, less, k0_pay5]
  | 1 => pointwise [carry, tops, less, k0_pay10]
  | 2 => pointwise [carry, tops, less, k0_pay14]
  | 3 => pointwise [carry, tops, less, k0_pay18]

/-- What the carried totals are scaled by. -/
def scales : Fin 4 → FVec Ideal S256x1 .f32
  | 0 => k0_pay6 (grp g) heads cq.1 m.1 K T Q
  | 1 => k0_pay11 cq.2.1 m.2.1 (k0_pay3 K Q) (k0_pay8 (grp g) heads T)
  | 2 => k0_pay15 (grp g) heads cq.2.2.1 m.2.2.1 (k0_pay2 T) (k0_pay3 K Q)
  | 3 => k0_pay19 cq.2.2.2 m.2.2.2 (k0_pay17 (grp g) heads (k0_pay2 T) (k0_pay3 K Q))

theorem scales_apply (h : Fin 4) (r : Fin 256) : scales g Q K T cq m h (ix2 r 0)
    = Ideal.exp (carry m h (ix2 r 0) - carry (tops g Q K T cq m) h (ix2 r 0)) := by
  match h with
  | 0 => pointwise [carry, tops, scales, k0_pay6]
  | 1 => pointwise [carry, tops, scales, k0_pay11]
  | 2 => pointwise [carry, tops, scales, k0_pay15]
  | 3 => pointwise [carry, tops, scales, k0_pay19]

/-- The four heads' weights of a block. -/
def weights : Fin 4 → FVec Ideal S256x256 .bf16
  | 0 => k0_pay7 (grp g) heads cq.1 m.1 K T Q
  | 1 => k0_pay12 cq.2.1 m.2.1 (k0_pay3 K Q) (k0_pay8 (grp g) heads T)
  | 2 => k0_pay16 (grp g) heads cq.2.2.1 m.2.2.1 (k0_pay2 T) (k0_pay3 K Q)
  | 3 => k0_pay20 cq.2.2.2 m.2.2.2 (k0_pay17 (grp g) heads (k0_pay2 T) (k0_pay3 K Q))

theorem weights_apply (h : Fin 4) (r s : Fin 256) : weights g Q K T cq m h (ix2 r s)
    = Ideal.exp (less g Q K T h (ix2 r s) - (carry (tops g Q K T cq m) h (ix2 r 0) - carry cq h (ix2 r 0))) := by
  match h with
  | 0 => pointwise [carry, tops, less, weights, k0_pay7]
  | 1 => pointwise [carry, tops, less, weights, k0_pay12]
  | 2 => pointwise [carry, tops, less, weights, k0_pay16]
  | 3 => pointwise [carry, tops, less, weights, k0_pay20]

theorem lane_n (x : Fin 256) (n : ℕ) (hn : n < 128) :
    IntOp.andi (IntOp.addi (IntOp.muli (BitVec.ofNat 32 x.val) 128#32) (BitVec.ofNat 32 n)) 127#32 = BitVec.ofNat 32 n :=
  lane_128 x ⟨n, hn⟩

theorem quotient_n (n : ℕ) (hn : n < 128) : Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32))) 1#32)
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32) = BitVec.ofNat 32 (n / 64) :=
  quotient_128 ⟨n, hn⟩

theorem select_zero (a : ℕ) (ha : a < 2 ^ 31) {α : Type} (p q : α) :
    Scalar.select (IntOp.cmpi CmpIPredicate.eq (BitVec.ofNat 32 a) 0#32) p q = if a = 0 then p else q :=
  select_eq a 0 ha (by omega) p q

/-- The halves' indicators as numbers. -/
theorem lower_one (n : ℕ) (hn : n < 128) :
    (FloatOps.sitofp .f32 (IntOp.subi 1#32 (BitVec.ofNat 32 (n / 64))) : Ideal .f32) = (if n / 64 = 0 then 1 else 0 : EReal) := by
  obtain h | h : n / 64 = 0 ∨ n / 64 = 1 := by omega
  · rw [h]; show (((1 : ℤ) : ℝ) : EReal) = _; simp
  · rw [h]; show (((0 : ℤ) : ℝ) : EReal) = _; simp

theorem upper_one (n : ℕ) (hn : n < 128) :
    (FloatOps.sitofp .f32 (BitVec.ofNat 32 (n / 64)) : Ideal .f32) = (if n / 64 = 0 then 0 else 1 : EReal) := by
  obtain h | h : n / 64 = 0 ∨ n / 64 = 1 := by omega
  · rw [h]; show (((0 : ℤ) : ℝ) : EReal) = _; simp
  · rw [h]; show (((1 : ℤ) : ℝ) : EReal) = _; simp

theorem pay25_apply (a0 a1 : FVec Ideal S256x1 .f32) (w0 w1 : FVec Ideal S256x256 .bf16) (A : FVec Ideal S1x256x256 .f32) (r l : Fin 256) :
    k0_pay25 k0_pay69 a0 w0 a1 w1 (k0_pay21 (k0_pay1 V)) k0_pay22 k0_pay23 (k0_pay24 (k0_pay1 V)) 0#32 A (ix3 0 r l)
      = (if l.val / 64 % 2 = 0 then a0 else a1) (ix2 r 0) * A (ix3 0 r l)
        + ∑ s, (if l.val / 64 % 2 = 0 then w0 else w1) (ix2 r s) * (if h : l.val < 128 then V (ix3 0 s ⟨l.val, by omega⟩) else 1) := by
  pointwise [k0_pay25, k0_pay24, k0_pay21, k0_pay22, k0_pay23, k0_pay1, k0_pay69]
  by_cases h : l.val < 128
  · simp only [dif_pos h]
    simp (disch := omega) only [lane_n, sign_one, quotient_n, select_half, select_zero]
    by_cases e : l.val / 64 = 0
    · have e' : l.val / 64 % 2 = 0 := by omega
      simp only [if_pos e, if_pos e', mul_zero, Finset.sum_const_zero, add_zero]
    · have e' : ¬ l.val / 64 % 2 = 0 := by omega
      simp only [if_neg e, if_neg e', mul_zero, Finset.sum_const_zero, zero_add]
  · simp only [dif_neg h]
    simp (disch := omega) only [lane_n, sign_one, quotient_n, select_half, select_zero, lower_one, upper_one]
    by_cases e : (l.val - 128) / 64 = 0
    · have e' : l.val / 64 % 2 = 0 := by omega
      simp only [if_pos e, if_pos e', mul_zero, mul_one, Finset.sum_const_zero, add_zero]
    · have e' : ¬ l.val / 64 % 2 = 0 := by omega
      simp only [if_neg e, if_neg e', mul_zero, mul_one, Finset.sum_const_zero, zero_add]

theorem pay30_apply (a0 a1 : FVec Ideal S256x1 .f32) (w0 w1 : FVec Ideal S256x256 .bf16) (A : FVec Ideal S1x256x256 .f32) (r l : Fin 256) :
    k0_pay81 (k0_pay30 k0_pay69 a0 w0 a1 w1 (k0_pay26 (k0_pay1 V)) k0_pay27 64#32 k0_pay28 k0_pay29 (Scalar.extui (Scalar.cmpi CmpIPredicate.sgt 64#32 0#32)) A) (ix3 0 r l)
      = (if l.val / 64 % 2 = 0 then a0 else a1) (ix2 r 0) * A (ix3 0 r l)
        + ∑ s, (if l.val / 64 % 2 = 0 then w0 else w1) (ix2 r s) * (if h : l.val < 128 then V (ix3 0 s ⟨128 + l.val, by omega⟩) else 1) := by
  pointwise [k0_pay81, k0_pay30, k0_pay26, k0_pay27, k0_pay28, k0_pay29, k0_pay1, k0_pay69]
  by_cases h : l.val < 128
  · simp only [dif_pos h]
    simp (disch := omega) only [lane_n, sign_one, quotient_n, select_half, select_zero]
    by_cases e : l.val / 64 = 0
    · have e' : l.val / 64 % 2 = 0 := by omega
      simp only [if_pos e, if_pos e', mul_zero, Finset.sum_const_zero, add_zero]
    · have e' : ¬ l.val / 64 % 2 = 0 := by omega
      simp only [if_neg e, if_neg e', mul_zero, Finset.sum_const_zero, zero_add]
  · simp only [dif_neg h]
    simp (disch := omega) only [lane_n, sign_one, quotient_n, select_half, select_zero, lower_one, upper_one]
    by_cases e : (l.val - 128) / 64 = 0
    · have e' : l.val / 64 % 2 = 0 := by omega
      simp only [if_pos e, if_pos e', mul_zero, mul_one, Finset.sum_const_zero, add_zero]
    · have e' : ¬ l.val / 64 % 2 = 0 := by omega
      simp only [if_neg e, if_neg e', mul_zero, mul_one, Finset.sum_const_zero, zero_add]

theorem pay107_apply (a0 a1 : FVec Ideal S256x1 .f32) (w0 w1 : FVec Ideal S256x256 .bf16) (A : FVec Ideal S1x256x256 .f32) (r l : Fin 256) :
    k0_pay107 k0_pay69 a0 w0 a1 w1 (k0_pay103 (k0_pay83 V)) k0_pay104 64#32 k0_pay105 k0_pay106 (Scalar.extui (Scalar.cmpi CmpIPredicate.sgt 64#32 0#32)) (Scalar.extui (Scalar.cmpi CmpIPredicate.slt 64#32 0#32)) A (ix3 0 r l)
      = (if l.val / 64 % 2 = 0 then a0 else a1) (ix2 r 0) * A (ix3 0 r l)
        + ∑ s, (if l.val / 64 % 2 = 0 then w0 else w1) (ix2 r s) * (if h : l.val < 128 then V (ix3 0 s ⟨l.val, by omega⟩) else 1) := by
  pointwise [k0_pay107, k0_pay103, k0_pay104, k0_pay105, k0_pay106, k0_pay83, k0_pay69]
  by_cases h : l.val < 128
  · simp only [dif_pos h]
    simp (disch := omega) only [lane_n, sign_one, quotient_n, select_half, select_zero]
    by_cases e : l.val / 64 = 0
    · have e' : l.val / 64 % 2 = 0 := by omega
      simp only [if_pos e, if_pos e', mul_zero, Finset.sum_const_zero, add_zero]
    · have e' : ¬ l.val / 64 % 2 = 0 := by omega
      simp only [if_neg e, if_neg e', mul_zero, Finset.sum_const_zero, zero_add]
  · simp only [dif_neg h]
    simp (disch := omega) only [lane_n, sign_one, quotient_n, select_half, select_zero, lower_one, upper_one]
    by_cases e : (l.val - 128) / 64 = 0
    · have e' : l.val / 64 % 2 = 0 := by omega
      simp only [if_pos e, if_pos e', mul_zero, mul_one, Finset.sum_const_zero, add_zero]
    · have e' : ¬ l.val / 64 % 2 = 0 := by omega
      simp only [if_neg e, if_neg e', mul_zero, mul_one, Finset.sum_const_zero, zero_add]

theorem pay112_apply (a0 a1 : FVec Ideal S256x1 .f32) (w0 w1 : FVec Ideal S256x256 .bf16) (A : FVec Ideal S1x256x256 .f32) (r l : Fin 256) :
    k0_pay112 k0_pay69 a1 (k0_pay110 w0 w1 (k0_pay108 (k0_pay83 V)) rows' cols' k0_pay109) (k0_pay111 a0) A (ix3 0 r l)
      = (if l.val / 64 % 2 = 0 then a0 else a1) (ix2 r 0) * A (ix3 0 r l)
        + ∑ s, (if l.val / 64 % 2 = 0 then w0 else w1) (ix2 r s) * (if h : l.val < 128 then V (ix3 0 s ⟨128 + l.val, by omega⟩) else 1) := by
  pointwise [k0_pay112, k0_pay110, k0_pay108, k0_pay109, k0_pay111, k0_pay83, k0_pay69]
  by_cases h : l.val < 128
  · simp only [dif_pos h]
    simp (disch := omega) only [lane_n, sign_one, quotient_n, select_half, select_zero]
    by_cases e : l.val / 64 = 0
    · have e' : l.val / 64 % 2 = 0 := by omega
      simp only [if_pos e, if_pos e', mul_zero, Finset.sum_const_zero, add_zero]
    · have e' : ¬ l.val / 64 % 2 = 0 := by omega
      simp only [if_neg e, if_neg e', mul_zero, Finset.sum_const_zero, zero_add]
  · simp only [dif_neg h]
    simp (disch := omega) only [lane_n, sign_one, quotient_n, select_half, select_zero, lower_one, upper_one]
    by_cases e : (l.val - 128) / 64 = 0
    · have e' : l.val / 64 % 2 = 0 := by omega
      simp only [if_pos e, if_pos e', mul_zero, mul_one, Finset.sum_const_zero, add_zero]
    · have e' : ¬ l.val / 64 % 2 = 0 := by omega
      simp only [if_neg e, if_neg e', mul_zero, mul_one, Finset.sum_const_zero, zero_add]

/-! The block on the diagonal. -/

/-- The four heads' logits of the diagonal block, less the keys' gates, masked after each row's own token. -/
def less' : Fin 4 → FVec Ideal S256x256 .f32
  | 0 => k0_pay86 (grp g) heads rows cols K T Q
  | 1 => k0_pay90 (grp g) heads rows cols (k0_pay84 T) (k0_pay85 K Q) 4#32
  | 2 => k0_pay94 (grp g) heads rows cols (k0_pay84 T) (k0_pay85 K Q)
  | 3 => k0_pay99 (grp g) heads rows cols (k0_pay84 T) (k0_pay85 K Q)

theorem less'_apply (h : Fin 4) (r s : Fin 256) : less' g Q K T h (ix2 r s) = if s.val ≤ r.val then raw g Q K T h r s else ⊥ := by
  unfold raw
  match h with
  | 0 =>
    rw [row_0]; pointwise [less', k0_pay86, k0_pay85, k0_pay84]
    rw [show (0#32 : BitVec 32) = BitVec.ofNat 32 (0 : Fin 4).val from rfl, head_word]
    simp (disch := omega) only [select_eq, select_le, mask_eq]
    rw [pick_sum (fun x : Fin 8 => (T (ix3 0 x s) : EReal)) ⟨4 * g.val + (0 : Fin 4).val, by omega⟩]
    rfl
  | 1 =>
    rw [row_1]; pointwise [less', k0_pay90, k0_pay85, k0_pay84]
    rw [show (1#32 : BitVec 32) = BitVec.ofNat 32 (1 : Fin 4).val from rfl, head_word]
    simp (disch := omega) only [select_eq, select_le, mask_eq]
    rw [pick_sum (fun x : Fin 8 => (T (ix3 0 x s) : EReal)) ⟨4 * g.val + (1 : Fin 4).val, by omega⟩]
    rfl
  | 2 =>
    rw [row_2]; pointwise [less', k0_pay94, k0_pay85, k0_pay84]
    rw [show (2#32 : BitVec 32) = BitVec.ofNat 32 (2 : Fin 4).val from rfl, head_word]
    simp (disch := omega) only [select_eq, select_le, mask_eq]
    rw [pick_sum (fun x : Fin 8 => (T (ix3 0 x s) : EReal)) ⟨4 * g.val + (2 : Fin 4).val, by omega⟩]
    rfl
  | 3 =>
    rw [row_3]; pointwise [less', k0_pay99, k0_pay85, k0_pay84]
    rw [show (3#32 : BitVec 32) = BitVec.ofNat 32 (3 : Fin 4).val from rfl, head_word]
    simp (disch := omega) only [select_eq, select_le, mask_eq]
    rw [pick_sum (fun x : Fin 8 => (T (ix3 0 x s) : EReal)) ⟨4 * g.val + (3 : Fin 4).val, by omega⟩]
    rfl

def tops' : Four :=
  (k0_pay87 (grp g) heads rows cols cq.1 m.1 K T Q, k0_pay91 (grp g) heads rows cols cq.2.1 m.2.1 (k0_pay84 T) (k0_pay85 K Q) 4#32,
    k0_pay95 (grp g) heads rows cols cq.2.2.1 m.2.2.1 (k0_pay84 T) (k0_pay85 K Q), k0_pay100 (grp g) heads rows cols cq.2.2.2 m.2.2.2 (k0_pay84 T) (k0_pay85 K Q))

def scales' : Fin 4 → FVec Ideal S256x1 .f32
  | 0 => k0_pay88 (grp g) heads rows cols cq.1 m.1 K T Q
  | 1 => k0_pay92 (grp g) heads rows cols cq.2.1 m.2.1 (k0_pay84 T) (k0_pay85 K Q) 4#32
  | 2 => k0_pay96 (grp g) heads rows cols cq.2.2.1 m.2.2.1 (k0_pay84 T) (k0_pay85 K Q)
  | 3 => k0_pay101 (grp g) heads rows cols cq.2.2.2 m.2.2.2 (k0_pay84 T) (k0_pay85 K Q)

def weights' : Fin 4 → FVec Ideal S256x256 .bf16
  | 0 => k0_pay89 (grp g) heads rows cols cq.1 m.1 K T Q
  | 1 => k0_pay93 (grp g) heads rows cols cq.2.1 m.2.1 (k0_pay84 T) (k0_pay85 K Q) 4#32
  | 2 => k0_pay98 (k0_pay97 (grp g) heads rows cols cq.2.2.1 m.2.2.1 (k0_pay84 T) (k0_pay85 K Q))
  | 3 => k0_pay102 (grp g) heads rows cols cq.2.2.2 m.2.2.2 (k0_pay84 T) (k0_pay85 K Q)

theorem tops'_apply (h : Fin 4) (r : Fin 256) : carry (tops' g Q K T cq m) h (ix2 r 0)
    = max (carry m h (ix2 r 0)) (Finset.fold max (Ideal.ofBits .f32 0xFF800000#32) (fun s : Fin 256 => (less' g Q K T h (ix2 r s) : EReal)) Finset.univ + carry cq h (ix2 r 0)) := by
  match h with
  | 0 => pointwise [carry, tops', less', k0_pay87]
  | 1 => pointwise [carry, tops', less', k0_pay91]
  | 2 => pointwise [carry, tops', less', k0_pay95]
  | 3 => pointwise [carry, tops', less', k0_pay100]

theorem scales'_apply (h : Fin 4) (r : Fin 256) : scales' g Q K T cq m h (ix2 r 0)
    = Ideal.exp (carry m h (ix2 r 0) - carry (tops' g Q K T cq m) h (ix2 r 0)) := by
  match h with
  | 0 => pointwise [carry, tops', scales', k0_pay88]
  | 1 => pointwise [carry, tops', scales', k0_pay92]
  | 2 => pointwise [carry, tops', scales', k0_pay96]
  | 3 => pointwise [carry, tops', scales', k0_pay101]

theorem weights'_apply (h : Fin 4) (r s : Fin 256) : weights' g Q K T cq m h (ix2 r s)
    = Ideal.exp (less' g Q K T h (ix2 r s) - (carry (tops' g Q K T cq m) h (ix2 r 0) - carry cq h (ix2 r 0))) := by
  match h with
  | 0 => pointwise [carry, tops', less', weights', k0_pay89]
  | 1 => pointwise [carry, tops', less', weights', k0_pay93]
  | 2 => pointwise [carry, tops', less', weights', k0_pay98, k0_pay97]
  | 3 => pointwise [carry, tops', less', weights', k0_pay102]

/-! Outside the loop. -/

/-- A query's lanes at head `h` of the group, scaled; zero at the other heads' lanes. -/
def lanes (h : Fin 4) (r j : Fin 256) : EReal := if j.val / 64 = h.val then K (ix3 0 r j) * scale else 0

theorem pay65_apply (r j : Fin 256) : k0_pay65 (k0_pay64 K) (ix2 r j) = lanes K 0 r j := by
  pointwise [k0_pay65, k0_pay64, k0_pay61, k0_pay62, k0_pay63, lanes, scale]
  simp only [lane_256, sign_one, quotient]
  rw [select_eq _ 0 (by omega) (by omega)]

theorem pay66_apply (r j : Fin 256) : k0_pay66 k0_pay61 (k0_pay62 K) k0_pay63 (ix2 r j) = lanes K 1 r j := by
  pointwise [k0_pay66, k0_pay61, k0_pay62, k0_pay63, lanes, scale]
  simp only [lane_256, sign_one, quotient]
  rw [select_eq _ 1 (by omega) (by omega)]

theorem pay67_apply (r j : Fin 256) : k0_pay67 k0_pay61 (k0_pay62 K) k0_pay63 (ix2 r j) = lanes K 2 r j := by
  pointwise [k0_pay67, k0_pay61, k0_pay62, k0_pay63, lanes, scale]
  simp only [lane_256, sign_one, quotient]
  rw [select_eq _ 2 (by omega) (by omega)]

theorem pay68_apply (r j : Fin 256) : k0_pay68 k0_pay61 (k0_pay62 K) k0_pay63 (ix2 r j) = lanes K 3 r j := by
  pointwise [k0_pay68, k0_pay61, k0_pay62, k0_pay63, lanes, scale]
  simp only [lane_256, sign_one, quotient]
  rw [select_eq _ 3 (by omega) (by omega)]

variable (Y : Vec Ideal S1x256x128 .f32)

/-- The rows' gates, a head each. -/
def gates : Four := (k0_pay72 (k0_pay71 (grp g) Y), k0_pay73 (grp g) tokens (k0_pay70 Y), k0_pay74 (grp g) tokens (k0_pay70 Y), k0_pay75 (grp g) tokens (k0_pay70 Y))

theorem gates_apply (h : Fin 4) (r : Fin 256) : carry (gates g Y) h (ix2 r 0) = Y (ix3 0 r ⟨4 * g.val + h.val, by omega⟩) := by
  match h with
  | 0 =>
    pointwise [carry, gates, k0_pay72, k0_pay71, k0_pay70]
    rw [show (0#32 : BitVec 32) = BitVec.ofNat 32 (0 : Fin 4).val from rfl, head_word]
    simp (disch := omega) only [select_eq]
    exact pick_sum (fun x : Fin 128 => (Y (ix3 0 r x) : EReal)) ⟨4 * g.val + (0 : Fin 4).val, by omega⟩
  | 1 =>
    pointwise [carry, gates, k0_pay73, k0_pay70]
    rw [show (1#32 : BitVec 32) = BitVec.ofNat 32 (1 : Fin 4).val from rfl, head_word]
    simp (disch := omega) only [select_eq]
    exact pick_sum (fun x : Fin 128 => (Y (ix3 0 r x) : EReal)) ⟨4 * g.val + (1 : Fin 4).val, by omega⟩
  | 2 =>
    pointwise [carry, gates, k0_pay74, k0_pay70]
    rw [show (2#32 : BitVec 32) = BitVec.ofNat 32 (2 : Fin 4).val from rfl, head_word]
    simp (disch := omega) only [select_eq]
    exact pick_sum (fun x : Fin 128 => (Y (ix3 0 r x) : EReal)) ⟨4 * g.val + (2 : Fin 4).val, by omega⟩
  | 3 =>
    pointwise [carry, gates, k0_pay75, k0_pay70]
    rw [show (3#32 : BitVec 32) = BitVec.ofNat 32 (3 : Fin 4).val from rfl, head_word]
    simp (disch := omega) only [select_eq]
    exact pick_sum (fun x : Fin 128 => (Y (ix3 0 r x) : EReal)) ⟨4 * g.val + (3 : Fin 4).val, by omega⟩

/-- Nothing seen. -/
def none4 : Four := (k0_pay77, k0_pay78, k0_pay79, k0_pay80)

theorem none4_apply (h : Fin 4) (r : Fin 256) : carry none4 h (ix2 r 0) = (⊥ : EReal) := by
  match h with
  | 0 => pointwise [carry, none4, k0_pay77]; rfl
  | 1 => pointwise [carry, none4, k0_pay78]; rfl
  | 2 => pointwise [carry, none4, k0_pay79]; rfl
  | 3 => pointwise [carry, none4, k0_pay80]; rfl

theorem pay76_apply (p : Fin 2) (r l : Fin 256) : k0_pay76 (F := Ideal) (ix3 p r l) = 0 := by
  pointwise [k0_pay76]

/-- The output block, from the two planes of totals. -/
theorem pay113_apply (A B : FVec Ideal S1x256x256 .f32) (r j : Fin 256) :
    (k0_pay113 A A B B : FVec Ideal S1x256x256 .bf16) (ix3 0 r j)
      = if h : j.val < 128 then Ideal.div (A (ix3 0 r ⟨j.val, by omega⟩) : EReal) (A (ix3 0 r ⟨128 + j.val, by omega⟩))
        else Ideal.div (B (ix3 0 r ⟨j.val - 128, by omega⟩)) (B (ix3 0 r ⟨128 + (j.val - 128), by omega⟩)) := by
  pointwise [k0_pay113]

end Blocks

end Cert.FoxPay
-- ==== Proof.FoxTrip.lean ====
/- What one trip of the forgetting-attention kernel's loop yields and writes, in the values named before. -/
module

public import proofs.«01_k».proof.Proof.FoxPay

@[expose] public section

set_option maxRecDepth 16384

noncomputable section

namespace Cert.FoxTrip

open Cert.FoxIdeal Cert.FoxIdeal.Gen Cert.FoxPay
open Idealize.ShloMosaic Idealize.ShloMosaic.TcCoe Idealize.SL.Sem

variable (𝒱 : Variants) (c : Dev nD) (bd : Option 𝒱.V) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x128 .f32) (harg6 : arg6.IsWhole)
  (arg7 : Memref sig .tc .vmem S1x8x2048 .f32) (harg7 : arg7.IsWhole) (arg8 : Memref sig .tc .vmem S1x256x256 .bf16) (harg8 : arg8.IsWhole)
  (arg9 : Memref sig .tc .vmem S1024x256 .bf16) (harg9 : arg9.IsWhole) (arg10 : Memref sig .tc .vmem S2x256x256 .f32) (harg10 : arg10.IsWhole)
  (g : Fin 2) (arg2 : BitVec 32) (cq : Four) (v107 v108 v109 v110 : FVec Ideal S256x1 .f32) (w0 w1 : BitVec 32)
  (X4 : BufTy.Contents (Elt Ideal) arg4.view.ty) (X5 : BufTy.Contents (Elt Ideal) arg5.view.ty)
  (X7 : BufTy.Contents (Elt Ideal) arg7.view.ty) (X9 : BufTy.Contents (Elt Ideal) arg9.view.ty)

/-- The stacked queries as a trip reads them. -/
abbrev queries : Vec Ideal S1024x256 .bf16 :=
  View.readAt (Elt Ideal) arg9.view (Rect.unit (s := S1024x256) ![0, 0] S1024x256.size inb_S1024x256_S1024x256_0_0).toLoadRect X9

/-- A trip's block of a key or value buffer. -/
abbrev block (arg4 : Memref sig .tc .vmem S1x2048x256 .bf16) (X4 : BufTy.Contents (Elt Ideal) arg4.view.ty) (k : Fin (k0_t1_loop i).trips) :
    Vec Ideal S1x256x256 .bf16 :=
  View.readAt (Elt Ideal) arg4.view (Rect.unit (s := S1x2048x256) (k0_off1 i k) S1x256x256.size (k0_off1_inb i k)).toLoadRect X4

/-- A trip's block of the keys' gates. -/
abbrev gate (k : Fin (k0_t1_loop i).trips) : Vec Ideal S1x8x256 .f32 :=
  View.readAt (Elt Ideal) arg7.view (Rect.unit (s := S1x8x2048) (k0_off2 i k) S1x8x256.size (k0_off2_inb i k)).toLoadRect X7

/-- A plane of the totals. -/
abbrev plane0 (f : BufTy.Contents (Elt Ideal) arg10.view.ty) : Vec Ideal S1x256x256 .f32 :=
  View.readAt (Elt Ideal) arg10.view (Rect.unit (s := S2x256x256) ![0, 0, 0] S1x256x256.size inb_S2x256x256_S1x256x256_0_0_0).toLoadRect f

abbrev plane1 (f : BufTy.Contents (Elt Ideal) arg10.view.ty) : Vec Ideal S1x256x256 .f32 :=
  View.readAt (Elt Ideal) arg10.view (Rect.unit (s := S2x256x256) ![1, 0, 0] S1x256x256.size inb_S2x256x256_S1x256x256_1_0_0).toLoadRect f

theorem tripR_eq (k : Fin (k0_t1_loop i).trips) (acc : Four) (f : BufTy.Contents (Elt Ideal) arg10.view.ty) :
    tripR_k0_t1 (F := Ideal) 𝒱 c bd i arg3 harg3 arg4 harg4 arg5 harg5 arg6 harg6 arg7 harg7 arg8 harg8 arg9 harg9 arg10 harg10 (grp g) arg2 heads rows cols k0_pay69 cq.1 cq.2.1 cq.2.2.1 cq.2.2.2 v107 v108 v109 v110 w0 w1 X4 X5 X7 X9 k acc f
      = tops g (queries arg9 X9) (block i arg4 X4 k) (gate i arg7 X7 k) cq acc := by
  unfold tripR_k0_t1 trip_k0_t1
  rfl

theorem tripL_eq (k : Fin (k0_t1_loop i).trips) (acc : Four) (f : BufTy.Contents (Elt Ideal) arg10.view.ty) :
    tripL_k0_t1 (F := Ideal) 𝒱 c bd i arg3 harg3 arg4 harg4 arg5 harg5 arg6 harg6 arg7 harg7 arg8 harg8 arg9 harg9 arg10 harg10 (grp g) arg2 heads rows cols k0_pay69 cq.1 cq.2.1 cq.2.2.1 cq.2.2.2 v107 v108 v109 v110 w0 w1 X4 X5 X7 X9 k acc f
      = [⟨Rect.unit (s := S2x256x256) ![1, 0, 0] S1x256x256.size inb_S2x256x256_S1x256x256_1_0_0,
            k0_pay81 (k0_pay30 k0_pay69
              (scales g (queries arg9 X9) (block i arg4 X4 k) (gate i arg7 X7 k) cq acc 2) (weights g (queries arg9 X9) (block i arg4 X4 k) (gate i arg7 X7 k) cq acc 2)
              (scales g (queries arg9 X9) (block i arg4 X4 k) (gate i arg7 X7 k) cq acc 3) (weights g (queries arg9 X9) (block i arg4 X4 k) (gate i arg7 X7 k) cq acc 3)
              (k0_pay26 (k0_pay1 (block i arg5 X5 k))) k0_pay27 64#32 k0_pay28 k0_pay29 (Scalar.extui (Scalar.cmpi CmpIPredicate.sgt 64#32 0#32)) (plane1 arg10 f))⟩,
          ⟨Rect.unit (s := S2x256x256) ![0, 0, 0] S1x256x256.size inb_S2x256x256_S1x256x256_0_0_0,
            k0_pay25 k0_pay69
              (scales g (queries arg9 X9) (block i arg4 X4 k) (gate i arg7 X7 k) cq acc 0) (weights g (queries arg9 X9) (block i arg4 X4 k) (gate i arg7 X7 k) cq acc 0)
              (scales g (queries arg9 X9) (block i arg4 X4 k) (gate i arg7 X7 k) cq acc 1) (weights g (queries arg9 X9) (block i arg4 X4 k) (gate i arg7 X7 k) cq acc 1)
              (k0_pay21 (k0_pay1 (block i arg5 X5 k))) k0_pay22 k0_pay23 (k0_pay24 (k0_pay1 (block i arg5 X5 k))) 0#32 (plane0 arg10 f)⟩] := by
  unfold tripL_k0_t1 trip_k0_t1
  rfl

end Cert.FoxTrip
-- ==== Proof.FoxRow.lean ====
/- Softmax by blocks: a running maximum, totals scaled when it grows, and the quotient that does not depend on it. -/
module

public import proofs.«01_k».proof.Proof.StickLoss

@[expose] public section

set_option maxRecDepth 16384

noncomputable section

namespace Cert.FoxRow

open Cert.StickRow Cert.StickLoss
open Idealize.ShloMosaic

/-- A real factor not below zero goes through a sum. -/
theorem mul_sum {ι : Type} (S : Finset ι) (f : ι → EReal) (a : ℝ) (ha : 0 ≤ a) : (a : EReal) * ∑ t ∈ S, f t = ∑ t ∈ S, (a : EReal) * f t := by
  classical
  induction S using Finset.induction_on with
  | empty => simp
  | insert t S ht ih =>
    rw [Finset.sum_insert ht, Finset.sum_insert ht, EReal.left_distrib_of_nonneg_of_ne_top (EReal.coe_nonneg.mpr ha) (EReal.coe_ne_top a), ih]

theorem exp_coe (x : ℝ) : Ideal.exp (x : EReal) = (Real.exp x : EReal) := rfl
theorem exp_bot : Ideal.exp ⊥ = 0 := rfl

/-- The values before `n`, each weighted by the exponential of its logit less `ν`. -/
def total (U : ℕ → EReal) (v : ℕ → EReal) (ν : EReal) (n : ℕ) : EReal := ∑ k ∈ Finset.range n, Ideal.exp (U k - ν) * v k

/-- Lowering the weights' exponent by one factor. -/
theorem exp_shift (U : EReal) (hU : Tame U) (ν ξ : ℝ) : Ideal.exp (U - ξ) = (Real.exp (ν - ξ) : EReal) * Ideal.exp (U - ν) := by
  rcases hU with rfl | ⟨x, rfl⟩
  · rw [EReal.bot_sub, EReal.bot_sub, exp_bot, mul_zero]
  · rw [← EReal.coe_sub, ← EReal.coe_sub, exp_coe, exp_coe, ← EReal.coe_mul, ← Real.exp_add]
    congr 2; ring

theorem total_shift (U : ℕ → EReal) (hU : ∀ k, Tame (U k)) (v : ℕ → EReal) (ν ξ : ℝ) (n : ℕ) :
    total U v ξ n = (Real.exp (ν - ξ) : EReal) * total U v ν n := by
  unfold total
  rw [mul_sum _ _ _ (Real.exp_pos _).le]
  refine Finset.sum_congr rfl fun k _ => ?_
  rw [exp_shift _ (hU k) ν ξ, mul_assoc]

theorem total_block (U v : ℕ → EReal) (ν : EReal) (n : ℕ) :
    total U v ν (n + 256) = total U v ν n + ∑ s : Fin 256, Ideal.exp (U (n + s.val) - ν) * v (n + s.val) := by
  unfold total
  rw [Finset.sum_range_add, Finset.sum_range (n := 256)]

/-- What has been seen: nothing at first, and then a real maximum. -/
def Seen (m : EReal) (n : ℕ) : Prop := (m = ⊥ ∧ n = 0) ∨ ∃ x : ℝ, m = x

/-- One block more: the totals so far scaled, and the block's own added. -/
theorem total_step (U : ℕ → EReal) (hU : ∀ k, Tame (U k)) (v : ℕ → EReal) (m : EReal) (n : ℕ) (hm : Seen m n) (m' C : ℝ) :
    Ideal.exp (m - m') * total U v (m - C) n + ∑ s : Fin 256, Ideal.exp (U (n + s.val) - (m' - C)) * v (n + s.val)
      = total U v (m' - C) (n + 256) := by
  rw [total_block]
  congr 1
  rcases hm with ⟨rfl, rfl⟩ | ⟨x, rfl⟩
  · rw [EReal.bot_sub, exp_bot, zero_mul]; rfl
  · rw [← EReal.coe_sub, ← EReal.coe_sub, ← EReal.coe_sub, exp_coe, total_shift U hU v (x - C) (m' - C)]
    congr 3; ring_nf

theorem inf_neg : Ideal.ofBits .f32 0xFF800000#32 = ⊥ := by simp [Ideal.ofBits, Ideal.ieee]

/-- The maximum of tame values, one of them real, is real. -/
theorem fold_real {n : ℕ} (f : Fin n → EReal) (hf : ∀ s, Tame (f s)) (a : Fin n) (ha : ∃ x : ℝ, f a = x) :
    ∃ x : ℝ, Finset.fold max (Ideal.ofBits .f32 0xFF800000#32) f Finset.univ = x := by
  have h1 : Finset.fold max (Ideal.ofBits .f32 0xFF800000#32) f Finset.univ ≠ ⊤ := by
    refine ne_of_lt ((Finset.fold_max_lt _).mpr ⟨by rw [inf_neg]; exact bot_lt_top, fun s _ => ?_⟩)
    rcases hf s with h | ⟨x, h⟩
    · rw [h]; exact bot_lt_top
    · rw [h]; exact EReal.coe_lt_top x
  have h2 : Finset.fold max (Ideal.ofBits .f32 0xFF800000#32) f Finset.univ ≠ ⊥ := by
    obtain ⟨x, h⟩ := ha
    have := (Finset.le_fold_max (b := Ideal.ofBits .f32 0xFF800000#32) (f := f) (s := Finset.univ) (f a)).mpr (Or.inr ⟨a, Finset.mem_univ _, le_rfl⟩)
    exact fun e => absurd (lt_of_lt_of_le (EReal.bot_lt_coe x) (h ▸ this)) (by rw [e]; exact lt_irrefl _)
  exact ⟨_, (EReal.coe_toReal h1 h2).symm⟩

/-- The running maximum stays real. -/
theorem top_real (m M C : EReal) (n : ℕ) (hm : Seen m n) (hM : ∃ x : ℝ, M = x) (hC : ∃ x : ℝ, C = x) : ∃ x : ℝ, max m (M + C) = x := by
  obtain ⟨x, rfl⟩ := hM
  obtain ⟨y, rfl⟩ := hC
  rcases hm with ⟨rfl, -⟩ | ⟨z, rfl⟩
  · exact ⟨x + y, by rw [max_eq_right bot_le, EReal.coe_add]⟩
  · exact ⟨max z (x + y), by rw [← EReal.coe_add, coe_max]⟩

/-- The sum of the weights is a real number above zero. -/
theorem ones_pos (U : ℕ → EReal) (hU : ∀ k, Tame (U k)) (ν : ℝ) (n : ℕ) (hn : 0 < n) (h0 : ∃ x : ℝ, U 0 = x) :
    ∃ y : ℝ, 0 < y ∧ total U (fun _ => 1) ν n = y := by
  have hr : ∀ k, ∃ w : ℝ, 0 ≤ w ∧ Ideal.exp (U k - ν) = w := fun k => by
    rcases hU k with h | ⟨x, h⟩
    · exact ⟨0, le_rfl, by rw [h, EReal.bot_sub, exp_bot]; rfl⟩
    · exact ⟨_, (Real.exp_pos (x - ν)).le, by rw [h, ← EReal.coe_sub, exp_coe]⟩
  choose w w0 hw using hr
  refine ⟨∑ k ∈ Finset.range n, w k, ?_, ?_⟩
  · refine Finset.sum_pos' (fun k _ => w0 k) ⟨0, Finset.mem_range.mpr hn, ?_⟩
    obtain ⟨x, h⟩ := h0
    have e := hw 0
    rw [h, ← EReal.coe_sub, exp_coe] at e
    rw [← EReal.coe_injective e]
    exact Real.exp_pos _
  · unfold total
    simp only [hw, mul_one]
    clear hw w0
    induction n with
    | zero => simp
    | succ n ih =>
      by_cases hn : 0 < n
      · rw [Finset.sum_range_succ, Finset.sum_range_succ, ih hn, EReal.coe_add]
      · obtain rfl : n = 0 := by omega
        simp

theorem div_real (x : EReal) (y : ℝ) (hy : 0 < y) : Ideal.div x y = (y⁻¹ : ℝ) * x := by
  unfold Ideal.div
  rw [if_neg (by exact_mod_cast hy.ne'), mul_comm, EReal.coe_inv]

/-- The quotient of the totals is the sum of the values by softmax weights, whatever real number each side subtracts. -/
theorem quotient_eq (U : ℕ → EReal) (hU : ∀ k, Tame (U k)) (v : ℕ → EReal) (ν ξ : ℝ) (n : ℕ) (hn : 0 < n) (h0 : ∃ x : ℝ, U 0 = x) :
    Ideal.div (total U v ν n) (total U (fun _ => 1) ν n)
      = ∑ k ∈ Finset.range n, Ideal.div (Ideal.exp (U k - ξ)) (total U (fun _ => 1) ξ n) * v k := by
  obtain ⟨y, hy, ey⟩ := ones_pos U hU ν n hn h0
  have ex : total U (fun _ => 1) ξ n = ((Real.exp (ν - ξ) * y : ℝ) : EReal) := by
    rw [total_shift U hU _ ν ξ, ey, EReal.coe_mul]
  have hx : 0 < Real.exp (ν - ξ) * y := mul_pos (Real.exp_pos _) hy
  rw [ex, ey, div_real _ _ hy]
  unfold total
  rw [mul_sum _ _ _ (inv_nonneg.mpr hy.le)]
  refine Finset.sum_congr rfl fun k _ => ?_
  rw [div_real _ _ hx, exp_shift _ (hU k) ν ξ, ← mul_assoc, ← mul_assoc, ← EReal.coe_mul]
  congr 3
  field_simp

end Cert.FoxRow
-- ==== Proof.FoxLoop.lean ====
/- What the forgetting-attention kernel's loop has seen and added up after each trip. -/
module

public import proofs.«01_k».proof.Proof.FoxTrip
public import proofs.«01_k».proof.Proof.FoxRow
public import proofs.«01_k».proof.Proof.StickLoop

@[expose] public section

set_option maxRecDepth 16384

noncomputable section

namespace Cert.FoxLoop

open Cert.FoxIdeal Cert.FoxIdeal.Gen Cert.FoxPay Cert.FoxTrip Cert.StickRow Cert.StickLoss Cert.FoxRow
open Cert.StickPay (row carry)
open Cert.StickLoop (ite_fn)
open Idealize.ShloMosaic Idealize.ShloMosaic.TcCoe Idealize.SL.Sem

/-- The head of a lane of each plane of the totals. -/
abbrev headA (l : Fin 256) : Fin 4 := if l.val / 64 % 2 = 0 then 0 else 1
abbrev headB (l : Fin 256) : Fin 4 := if l.val / 64 % 2 = 0 then 2 else 3

/-- What a lane of each plane weighs: a value lane, or one. -/
def sideA (v : Fin 256 → ℕ → EReal) (l : Fin 256) (t : ℕ) : EReal := if h : l.val < 128 then v ⟨l.val, by omega⟩ t else 1
def sideB (v : Fin 256 → ℕ → EReal) (l : Fin 256) (t : ℕ) : EReal := if h : l.val < 128 then v ⟨128 + l.val, by omega⟩ t else 1

/-- Plane 0 read after a piece of plane 1 and one of plane 0. -/
theorem read_plane0 (arg10 : Memref sig .tc .vmem S2x256x256 .f32) (G : BufTy.Contents (Elt Ideal) arg10.view.ty)
    (w1 w0 : FVec Ideal S1x256x256 .f32) (L : List (View.Piece (Elt Ideal) S2x256x256 .f32)) (r l : Fin 256) :
    arg10.view.read (Elt Ideal) (arg10.view.writes (Elt Ideal) G
      (⟨Rect.unit (s := S2x256x256) ![1, 0, 0] S1x256x256.size inb_S2x256x256_S1x256x256_1_0_0, w1⟩
        :: ⟨Rect.unit (s := S2x256x256) ![0, 0, 0] S1x256x256.size inb_S2x256x256_S1x256x256_0_0_0, w0⟩ :: L)) (ix3 0 r l) = w0 (ix3 0 r l) := by
  rw [View.read_writes_cons_unit_of_not_mem arg10.view G _ _ _ _ rfl 0 (Or.inl (show 0 < 1 from Nat.one_pos))]
  exact View.read_writes_cons_unit_of_mem arg10.view G _ _ _ _ _ rfl fun a => by
    match a with
    | 0 => rfl
    | 1 => exact (Nat.zero_add _).symm
    | 2 => exact (Nat.zero_add _).symm

/-- Plane 1 read after a piece of plane 1. -/
theorem read_plane1 (arg10 : Memref sig .tc .vmem S2x256x256 .f32) (G : BufTy.Contents (Elt Ideal) arg10.view.ty)
    (w1 : FVec Ideal S1x256x256 .f32) (L : List (View.Piece (Elt Ideal) S2x256x256 .f32)) (r l : Fin 256) :
    arg10.view.read (Elt Ideal) (arg10.view.writes (Elt Ideal) G
      (⟨Rect.unit (s := S2x256x256) ![1, 0, 0] S1x256x256.size inb_S2x256x256_S1x256x256_1_0_0, w1⟩ :: L)) (ix3 1 r l) = w1 (ix3 0 r l) :=
  View.read_writes_cons_unit_of_mem arg10.view G _ _ _ _ _ rfl fun a => by
    match a with
    | 0 => rfl
    | 1 => exact (Nat.zero_add _).symm
    | 2 => exact (Nat.zero_add _).symm

/-- Plane 1 read after a piece of plane 0. -/
theorem skip_plane0 (arg10 : Memref sig .tc .vmem S2x256x256 .f32) (G : BufTy.Contents (Elt Ideal) arg10.view.ty)
    (w0 : FVec Ideal S1x256x256 .f32) (L : List (View.Piece (Elt Ideal) S2x256x256 .f32)) (r l : Fin 256) :
    arg10.view.read (Elt Ideal) (arg10.view.writes (Elt Ideal) G
      (⟨Rect.unit (s := S2x256x256) ![0, 0, 0] S1x256x256.size inb_S2x256x256_S1x256x256_0_0_0, w0⟩ :: L)) (ix3 1 r l)
      = arg10.view.read (Elt Ideal) (arg10.view.writes (Elt Ideal) G L) (ix3 1 r l) :=
  View.read_writes_cons_unit_of_not_mem arg10.view G _ _ _ _ rfl 0 (Or.inr (show 0 + 1 ≤ 1 from le_rfl))

theorem plane0_apply (arg10 : Memref sig .tc .vmem S2x256x256 .f32) (f : BufTy.Contents (Elt Ideal) arg10.view.ty) (r l : Fin 256) :
    plane0 arg10 f (ix3 0 r l) = arg10.view.read (Elt Ideal) f (ix3 0 r l) := by
  refine congrArg (arg10.view.read (Elt Ideal) f) (funext fun a => Fin.ext ?_)
  match a with
  | 0 => rfl
  | 1 => show 0 + 1 * r.val = r.val; omega
  | 2 => show 0 + 1 * l.val = l.val; omega

theorem plane1_apply (arg10 : Memref sig .tc .vmem S2x256x256 .f32) (f : BufTy.Contents (Elt Ideal) arg10.view.ty) (r l : Fin 256) :
    plane1 arg10 f (ix3 0 r l) = arg10.view.read (Elt Ideal) f (ix3 1 r l) := by
  refine congrArg (arg10.view.read (Elt Ideal) f) (funext fun a => Fin.ext ?_)
  match a with
  | 0 => rfl
  | 1 => show 0 + 1 * r.val = r.val; omega
  | 2 => show 0 + 1 * l.val = l.val; omega

/-- One block more of a row's totals. -/
theorem row_step (U : ℕ → EReal) (hU : ∀ k, Tame (U k)) (vv : ℕ → EReal) (m m' : EReal) (C : ℝ) (n : ℕ) (hm : Seen m n) (hm' : ∃ x : ℝ, m' = x)
    (α A : EReal) (p w : Fin 256 → EReal) (hα : α = Ideal.exp (m - m')) (hA : A = total U vv (m - C) n)
    (hp : ∀ s, p s = Ideal.exp (U (n + s.val) - (m' - C))) (hw : ∀ s, w s = vv (n + s.val)) :
    α * A + ∑ s, p s * w s = total U vv (m' - C) (n + 256) := by
  obtain ⟨x, rfl⟩ := hm'
  rw [hα, hA, ← total_step U hU vv m n hm x C]
  simp only [hp, hw]

section Step
variable (U : Fin 4 → Fin 256 → ℕ → EReal) (hU : ∀ h r t, Tame (U h r t)) (v : Fin 256 → ℕ → EReal) (C : Fin 4 → Fin 256 → ℝ)
  (g : Fin 2) (cq : Four) (hC : ∀ h r, carry cq h (ix2 r 0) = (C h r : EReal))
  (Q : Vec Ideal S1024x256 .bf16) (K V : Vec Ideal S1x256x256 .bf16) (T : Vec Ideal S1x8x256 .f32) (m : Four) (n : ℕ)
  (hm : ∀ h r, Seen (carry m h (ix2 r 0)) n) (h0 : ∀ h r, ∃ x : ℝ, U h r n = x)
  (hV : ∀ (u j : Fin 256), V (ix3 0 u j) = v j (n + u.val))
include hU hC hm h0

section Usual
variable (hK : ∀ h r (s : Fin 256), less g Q K T h (ix2 r s) = U h r (n + s.val))
include hK

theorem tops_real (h : Fin 4) (r : Fin 256) : ∃ x : ℝ, carry (tops g Q K T cq m) h (ix2 r 0) = (x : EReal) := by
  rw [tops_apply]
  refine top_real _ _ _ n (hm h r) ?_ ⟨_, hC h r⟩
  refine fold_real _ (fun s => ?_) 0 ?_
  · rw [hK]; exact hU _ _ _
  · rw [hK]; exact h0 h r

theorem weight_step (h : Fin 4) (r s : Fin 256) :
    weights g Q K T cq m h (ix2 r s) = Ideal.exp (U h r (n + s.val) - (carry (tops g Q K T cq m) h (ix2 r 0) - (C h r : EReal))) := by
  rw [weights_apply, hK, hC]

include hV
theorem planeA_step (A : FVec Ideal S1x256x256 .f32) (r l : Fin 256)
    (hA : A (ix3 0 r l) = total (U (headA l) r) (sideA v l) (carry m (headA l) (ix2 r 0) - (C (headA l) r : EReal)) n) :
    k0_pay25 k0_pay69 (scales g Q K T cq m 0) (weights g Q K T cq m 0) (scales g Q K T cq m 1) (weights g Q K T cq m 1)
        (k0_pay21 (k0_pay1 V)) k0_pay22 k0_pay23 (k0_pay24 (k0_pay1 V)) 0#32 A (ix3 0 r l)
      = total (U (headA l) r) (sideA v l) (carry (tops g Q K T cq m) (headA l) (ix2 r 0) - (C (headA l) r : EReal)) (n + 256) := by
  rw [pay25_apply]
  simp only [ite_fn (scales g Q K T cq m), ite_fn (weights g Q K T cq m)]
  refine row_step _ (hU _ r) _ _ _ _ n (hm _ r) (tops_real U hU C g cq hC Q K T m n hm h0 hK _ r) _ _ _ _ (scales_apply g Q K T cq m _ r) hA
    (fun s => weight_step U hU C g cq hC Q K T m n hm h0 hK _ r s) fun s => ?_
  unfold sideA
  split_ifs
  · exact hV _ _
  · rfl

theorem planeB_step (A : FVec Ideal S1x256x256 .f32) (r l : Fin 256)
    (hA : A (ix3 0 r l) = total (U (headB l) r) (sideB v l) (carry m (headB l) (ix2 r 0) - (C (headB l) r : EReal)) n) :
    k0_pay81 (k0_pay30 k0_pay69 (scales g Q K T cq m 2) (weights g Q K T cq m 2) (scales g Q K T cq m 3) (weights g Q K T cq m 3)
        (k0_pay26 (k0_pay1 V)) k0_pay27 64#32 k0_pay28 k0_pay29 (Scalar.extui (Scalar.cmpi CmpIPredicate.sgt 64#32 0#32)) A) (ix3 0 r l)
      = total (U (headB l) r) (sideB v l) (carry (tops g Q K T cq m) (headB l) (ix2 r 0) - (C (headB l) r : EReal)) (n + 256) := by
  rw [pay30_apply]
  simp only [ite_fn (scales g Q K T cq m), ite_fn (weights g Q K T cq m)]
  refine row_step _ (hU _ r) _ _ _ _ n (hm _ r) (tops_real U hU C g cq hC Q K T m n hm h0 hK _ r) _ _ _ _ (scales_apply g Q K T cq m _ r) hA
    (fun s => weight_step U hU C g cq hC Q K T m n hm h0 hK _ r s) fun s => ?_
  unfold sideB
  split_ifs
  · exact hV _ _
  · rfl

end Usual

section Diagonal
variable (hK : ∀ h r (s : Fin 256), less' g Q K T h (ix2 r s) = U h r (n + s.val))
include hK

theorem tops'_real (h : Fin 4) (r : Fin 256) : ∃ x : ℝ, carry (tops' g Q K T cq m) h (ix2 r 0) = (x : EReal) := by
  rw [tops'_apply]
  refine top_real _ _ _ n (hm h r) ?_ ⟨_, hC h r⟩
  refine fold_real _ (fun s => ?_) 0 ?_
  · rw [hK]; exact hU _ _ _
  · rw [hK]; exact h0 h r

theorem weight'_step (h : Fin 4) (r s : Fin 256) :
    weights' g Q K T cq m h (ix2 r s) = Ideal.exp (U h r (n + s.val) - (carry (tops' g Q K T cq m) h (ix2 r 0) - (C h r : EReal))) := by
  rw [weights'_apply, hK, hC]

include hV
theorem planeA'_step (A : FVec Ideal S1x256x256 .f32) (r l : Fin 256)
    (hA : A (ix3 0 r l) = total (U (headA l) r) (sideA v l) (carry m (headA l) (ix2 r 0) - (C (headA l) r : EReal)) n) :
    k0_pay107 k0_pay69 (scales' g Q K T cq m 0) (weights' g Q K T cq m 0) (scales' g Q K T cq m 1) (weights' g Q K T cq m 1)
        (k0_pay103 (k0_pay83 V)) k0_pay104 64#32 k0_pay105 k0_pay106 (Scalar.extui (Scalar.cmpi CmpIPredicate.sgt 64#32 0#32))
        (Scalar.extui (Scalar.cmpi CmpIPredicate.slt 64#32 0#32)) A (ix3 0 r l)
      = total (U (headA l) r) (sideA v l) (carry (tops' g Q K T cq m) (headA l) (ix2 r 0) - (C (headA l) r : EReal)) (n + 256) := by
  rw [pay107_apply]
  simp only [ite_fn (scales' g Q K T cq m), ite_fn (weights' g Q K T cq m)]
  refine row_step _ (hU _ r) _ _ _ _ n (hm _ r) (tops'_real U hU C g cq hC Q K T m n hm h0 hK _ r) _ _ _ _ (scales'_apply g Q K T cq m _ r) hA
    (fun s => weight'_step U hU C g cq hC Q K T m n hm h0 hK _ r s) fun s => ?_
  unfold sideA
  split_ifs
  · exact hV _ _
  · rfl

theorem planeB'_step (A : FVec Ideal S1x256x256 .f32) (r l : Fin 256)
    (hA : A (ix3 0 r l) = total (U (headB l) r) (sideB v l) (carry m (headB l) (ix2 r 0) - (C (headB l) r : EReal)) n) :
    k0_pay112 k0_pay69 (scales' g Q K T cq m 3) (k0_pay110 (weights' g Q K T cq m 2) (weights' g Q K T cq m 3)
        (k0_pay108 (k0_pay83 V)) rows' cols' k0_pay109) (k0_pay111 (scales' g Q K T cq m 2)) A (ix3 0 r l)
      = total (U (headB l) r) (sideB v l) (carry (tops' g Q K T cq m) (headB l) (ix2 r 0) - (C (headB l) r : EReal)) (n + 256) := by
  rw [pay112_apply]
  simp only [ite_fn (scales' g Q K T cq m), ite_fn (weights' g Q K T cq m)]
  refine row_step _ (hU _ r) _ _ _ _ n (hm _ r) (tops'_real U hU C g cq hC Q K T m n hm h0 hK _ r) _ _ _ _ (scales'_apply g Q K T cq m _ r) hA
    (fun s => weight'_step U hU C g cq hC Q K T m n hm h0 hK _ r s) fun s => ?_
  unfold sideB
  split_ifs
  · exact hV _ _
  · rfl

end Diagonal
end Step

section State
variable (U : Fin 4 → Fin 256 → ℕ → EReal) (hU : ∀ h r t, Tame (U h r t)) (v : Fin 256 → ℕ → EReal) (C : Fin 4 → Fin 256 → ℝ)
  (g : Fin 2) (cq : Four) (hC : ∀ h r, carry cq h (ix2 r 0) = (C h r : EReal))
include hU hC

variable (𝒱 : Variants) (c : Dev nD) (bd : Option 𝒱.V) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x128 .f32) (harg6 : arg6.IsWhole)
  (arg7 : Memref sig .tc .vmem S1x8x2048 .f32) (harg7 : arg7.IsWhole) (arg8 : Memref sig .tc .vmem S1x256x256 .bf16) (harg8 : arg8.IsWhole)
  (arg9 : Memref sig .tc .vmem S1024x256 .bf16) (harg9 : arg9.IsWhole) (arg10 : Memref sig .tc .vmem S2x256x256 .f32) (harg10 : arg10.IsWhole)
  (arg2 : BitVec 32) (v107 v108 v109 v110 : FVec Ideal S256x1 .f32) (w0 w1 : BitVec 32)
  (X4 : BufTy.Contents (Elt Ideal) arg4.view.ty) (X5 : BufTy.Contents (Elt Ideal) arg5.view.ty)
  (X7 : BufTy.Contents (Elt Ideal) arg7.view.ty) (X9 : BufTy.Contents (Elt Ideal) arg9.view.ty)
  (G : BufTy.Contents (Elt Ideal) arg10.view.ty) (init : Four)

/-- What holds of the carried maxima and the planes after `n` keys. -/
def Holds (m : Four) (f : BufTy.Contents (Elt Ideal) arg10.view.ty) (n : ℕ) : Prop :=
  (∀ h r, Seen (carry m h (ix2 r 0)) n)
  ∧ (∀ r l, arg10.view.read (Elt Ideal) f (ix3 0 r l) = total (U (headA l) r) (sideA v l) (carry m (headA l) (ix2 r 0) - (C (headA l) r : EReal)) n)
  ∧ ∀ r l, arg10.view.read (Elt Ideal) f (ix3 1 r l) = total (U (headB l) r) (sideB v l) (carry m (headB l) (ix2 r 0) - (C (headB l) r : EReal)) n

/-- After `k` trips the first `k` blocks of keys have been seen. -/
theorem state
    (hK : ∀ (k : Fin (k0_t1_loop i).trips) h r (s : Fin 256),
      less g (queries arg9 X9) (block i arg4 X4 k) (gate i arg7 X7 k) h (ix2 r s) = U h r (256 * k.val + s.val))
    (hV : ∀ (k : Fin (k0_t1_loop i).trips) (u j : Fin 256), block i arg5 X5 k (ix3 0 u j) = v j (256 * k.val + u.val))
    (h0 : ∀ (k : Fin (k0_t1_loop i).trips) h r, ∃ x : ℝ, U h r (256 * k.val) = x)
    (hs : Holds U v C arg10 init G 0) (k : ℕ) (hk : k ≤ (k0_t1_loop i).trips) :
    Holds U v C arg10
      (st_k0_t1 (F := Ideal) 𝒱 c bd i arg3 harg3 arg4 harg4 arg5 harg5 arg6 harg6 arg7 harg7 arg8 harg8 arg9 harg9 arg10 harg10 (grp g) arg2 heads rows cols k0_pay69 cq.1 cq.2.1 cq.2.2.1 cq.2.2.2 v107 v108 v109 v110 w0 w1 X4 X5 X7 X9 G init k).1
      (arg10.view.writes (Elt Ideal) G (st_k0_t1 (F := Ideal) 𝒱 c bd i arg3 harg3 arg4 harg4 arg5 harg5 arg6 harg6 arg7 harg7 arg8 harg8 arg9 harg9 arg10 harg10 (grp g) arg2 heads rows cols k0_pay69 cq.1 cq.2.1 cq.2.2.1 cq.2.2.2 v107 v108 v109 v110 w0 w1 X4 X5 X7 X9 G init k).2)
      (256 * k) := by
  induction k with
  | zero => exact hs
  | succ k ih =>
    obtain ⟨i1, i2, i3⟩ := ih (by omega)
    have hkt : k < (k0_t1_loop i).trips := by omega
    have e := st_k0_t1_succ (F := Ideal) 𝒱 c bd i arg3 harg3 arg4 harg4 arg5 harg5 arg6 harg6 arg7 harg7 arg8 harg8 arg9 harg9 arg10 harg10 (grp g) arg2 heads rows cols k0_pay69 cq.1 cq.2.1 cq.2.2.1 cq.2.2.2 v107 v108 v109 v110 w0 w1 X4 X5 X7 X9 G init ⟨k, hkt⟩
    rw [tripR_eq, tripL_eq] at e
    rw [e, show 256 * (k + 1) = 256 * k + 256 by omega]
    refine ⟨fun h r => Or.inr ?_, fun r l => ?_, fun r l => ?_⟩
    · exact tops_real U hU C g cq hC _ _ _ _ _ i1 (h0 ⟨k, hkt⟩) (hK ⟨k, hkt⟩) h r
    · refine (read_plane0 arg10 G _ _ _ r l).trans ?_
      refine planeA_step U hU v C g cq hC _ _ _ _ _ _ i1 (h0 ⟨k, hkt⟩) (hV ⟨k, hkt⟩) (hK ⟨k, hkt⟩) _ r l ?_
      rw [plane0_apply]; exact i2 r l
    · refine (read_plane1 arg10 G _ _ r l).trans ?_
      refine planeB_step U hU v C g cq hC _ _ _ _ _ _ i1 (h0 ⟨k, hkt⟩) (hV ⟨k, hkt⟩) (hK ⟨k, hkt⟩) _ r l ?_
      rw [plane1_apply]; exact i3 r l

end State

end Cert.FoxLoop
-- ==== Proof.FoxKernel.lean ====
/- The forgetting-attention kernel's reads as elements of its operands. -/
module

public import proofs.«01_k».proof.Proof.FoxLoop

@[expose] public section

set_option maxRecDepth 16384

noncomputable section

namespace Cert.FoxKernel

open Cert.FoxIdeal Cert.FoxIdeal.Gen Cert.FoxPay Cert.FoxTrip Cert.StickRow Cert.StickLoss Cert.FoxRow Cert.FoxLoop
open Cert.StickPay (row carry scale)
open Idealize.ShloMosaic Idealize.ShloMosaic.TcCoe Idealize.SL.Sem

/-! The offsets and the trip counts, as numbers. -/

theorem trips_1 (i : grid0.Coords) : (k0_t1_loop i).trips = (i 2).val := by
  have h : ∀ q : Fin 8, Scf.trips (0#32) (Scalar.addi 0#32 (Scalar.muli (Scalar.divsi (Scalar.subi (BitVec.ofNat 32 q.val) 0#32) 1#32) 1#32)) 1#32 = q.val := by
    decide +kernel
  exact h (i 2)

theorem trips_2 (i : grid0.Coords) : (k0_t2_loop i).trips = 0 := by
  have h : ∀ q : Fin 8, Scf.trips (Scalar.addi 0#32 (Scalar.muli (Scalar.divsi (Scalar.subi (BitVec.ofNat 32 q.val) 0#32) 1#32) 1#32))
      (Scalar.addi 0#32 (Scalar.subi (BitVec.ofNat 32 q.val) 0#32)) 1#32 = 0 := by
    decide +kernel
  exact h (i 2)

theorem off_trip : ∀ k : Fin 8, (Scalar.indexCast (Scalar.muli (Scf.iv 0#32 1#32 k.val) 256#32) : Index).toNat = 256 * k.val := by decide +kernel

theorem off_own : ∀ q : Fin 8, (Scalar.indexCast (Scalar.muli (BitVec.ofNat 32 q.val) 256#32) : Index).toNat = 256 * q.val := by decide +kernel

theorem off1_1 (i : grid0.Coords) (k : Fin (k0_t1_loop i).trips) : k0_off1 i k 1 = 256 * k.val := by
  have hk : k.val < (i 2).val := lt_of_lt_of_eq k.isLt (trips_1 i)
  have hq : (i 2).val < 8 := (i 2).isLt
  exact off_trip ⟨k.val, by omega⟩

theorem off2_2 (i : grid0.Coords) (k : Fin (k0_t1_loop i).trips) : k0_off2 i k 2 = 256 * k.val := by
  have hk : k.val < (i 2).val := lt_of_lt_of_eq k.isLt (trips_1 i)
  have hq : (i 2).val < 8 := (i 2).isLt
  exact off_trip ⟨k.val, by omega⟩

theorem off5_1 (i : grid0.Coords) : k0_off5 i 1 = 256 * (i 2).val := off_own (i 2)
theorem off6_2 (i : grid0.Coords) : k0_off6 i 2 = 256 * (i 2).val := off_own (i 2)

theorem block_apply (i : grid0.Coords) (arg4 : Memref sig .tc .vmem S1x2048x256 .bf16) (harg4 : arg4.IsWhole) (x : Vec Ideal S1x2048x256 .bf16)
    (k : Fin (k0_t1_loop i).trips) (u j : Fin 256) (t : Fin 2048) (ht : t.val = 256 * k.val + u.val) :
    block i arg4 (harg4.unread x) k (ix3 0 u j) = x (ix3 0 t j) := by
  rw [block, View.readAt_apply, harg4.read_unread]
  refine congrArg x (funext fun a => Fin.ext ?_)
  match a with
  | 0 => rfl
  | 1 => show k0_off1 i k 1 + 1 * u.val = t.val; rw [off1_1, ht]; omega
  | 2 => show 0 + 1 * j.val = j.val; omega

theorem gate_apply (i : grid0.Coords) (arg7 : Memref sig .tc .vmem S1x8x2048 .f32) (harg7 : arg7.IsWhole) (x : Vec Ideal S1x8x2048 .f32)
    (k : Fin (k0_t1_loop i).trips) (h : Fin 8) (u : Fin 256) (t : Fin 2048) (ht : t.val = 256 * k.val + u.val) :
    gate i arg7 (harg7.unread x) k (ix3 0 h u) = x (ix3 0 h t) := by
  rw [gate, View.readAt_apply, harg7.read_unread]
  refine congrArg x (funext fun a => Fin.ext ?_)
  match a with
  | 0 => rfl
  | 1 => show 0 + 1 * h.val = h.val; omega
  | 2 => show k0_off2 i k 2 + 1 * u.val = t.val; rw [off2_2, ht]; omega

/-- The rows' own block of keys or values, and of the keys' gates. -/
abbrev own (i : grid0.Coords) (arg4 : Memref sig .tc .vmem S1x2048x256 .bf16) (harg4 : arg4.IsWhole) (x1 : Vec Ideal S1x2048x256 .bf16) : Vec Ideal S1x256x256 .bf16 :=
  View.readAt (Elt Ideal) arg4.view (Rect.unit (s := S1x2048x256) (k0_off5 i) S1x256x256.size (k0_off5_inb i)).toLoadRect (harg4.unread x1)

abbrev ownGate (i : grid0.Coords) (arg7 : Memref sig .tc .vmem S1x8x2048 .f32) (harg7 : arg7.IsWhole) (x : Vec Ideal S1x8x2048 .f32) : Vec Ideal S1x8x256 .f32 :=
  View.readAt (Elt Ideal) arg7.view (Rect.unit (s := S1x8x2048) (k0_off6 i) S1x8x256.size (k0_off6_inb i)).toLoadRect (harg7.unread x)

theorem own_apply (i : grid0.Coords) (arg4 : Memref sig .tc .vmem S1x2048x256 .bf16) (harg4 : arg4.IsWhole) (x : Vec Ideal S1x2048x256 .bf16)
    (u j : Fin 256) (t : Fin 2048) (ht : t.val = 256 * (i 2).val + u.val) : own i arg4 harg4 x (ix3 0 u j) = x (ix3 0 t j) := by
  rw [own, View.readAt_apply, harg4.read_unread]
  refine congrArg x (funext fun a => Fin.ext ?_)
  match a with
  | 0 => rfl
  | 1 => show k0_off5 i 1 + 1 * u.val = t.val; rw [off5_1, ht]; omega
  | 2 => show 0 + 1 * j.val = j.val; omega

theorem ownGate_apply (i : grid0.Coords) (arg7 : Memref sig .tc .vmem S1x8x2048 .f32) (harg7 : arg7.IsWhole) (x : Vec Ideal S1x8x2048 .f32)
    (h : Fin 8) (u : Fin 256) (t : Fin 2048) (ht : t.val = 256 * (i 2).val + u.val) : ownGate i arg7 harg7 x (ix3 0 h u) = x (ix3 0 h t) := by
  rw [ownGate, View.readAt_apply, harg7.read_unread]
  refine congrArg x (funext fun a => Fin.ext ?_)
  match a with
  | 0 => rfl
  | 1 => show 0 + 1 * h.val = h.val; omega
  | 2 => show k0_off6 i 2 + 1 * u.val = t.val; rw [off6_2, ht]; omega

section Stack
variable (arg3 : Memref sig .tc .vmem S1x256x256 .bf16) (harg3 : arg3.IsWhole) (arg9 : Memref sig .tc .vmem S1024x256 .bf16) (x0 : Vec Ideal S1x256x256 .bf16)

/-- The query block as read. -/
abbrev readQ : Vec Ideal S1x256x256 .bf16 :=
  View.readAt (Elt Ideal) arg3.view (Rect.unit (s := S1x256x256) ![0, 0, 0] S1x256x256.size inb_S1x256x256_S1x256x256_0_0_0).toLoadRect (harg3.unread x0)

theorem readQ_eq : readQ arg3 harg3 x0 = x0 := by
  funext y
  rw [readQ, View.readAt_apply, harg3.read_unread]
  refine congrArg x0 (funext fun a => Fin.ext ?_)
  match a with
  | 0 => show 0 + 1 * (y 0).val = (y 0).val; omega
  | 1 => show 0 + 1 * (y 1).val = (y 1).val; omega
  | 2 => show 0 + 1 * (y 2).val = (y 2).val; omega

/-- The scratch of stacked queries as the kernel leaves it. -/
abbrev stacked : BufTy.Contents (Elt Ideal) arg9.view.ty :=
  arg9.view.writes (Elt Ideal) arg9.view.junk
      [⟨Rect.unit (s := S1024x256) ![768, 0] S256x256.size inb_S1024x256_S256x256_768_0, k0_pay68 k0_pay61 (k0_pay62 (readQ arg3 harg3 x0)) k0_pay63⟩,
       ⟨Rect.unit (s := S1024x256) ![512, 0] S256x256.size inb_S1024x256_S256x256_512_0, k0_pay67 k0_pay61 (k0_pay62 (readQ arg3 harg3 x0)) k0_pay63⟩,
       ⟨Rect.unit (s := S1024x256) ![256, 0] S256x256.size inb_S1024x256_S256x256_256_0, k0_pay66 k0_pay61 (k0_pay62 (readQ arg3 harg3 x0)) k0_pay63⟩,
       ⟨Rect.unit (s := S1024x256) ![0, 0] S256x256.size inb_S1024x256_S256x256_0_0, k0_pay65 (k0_pay64 (readQ arg3 harg3 x0))⟩]

abbrev stack : Vec Ideal S1024x256 .bf16 := queries arg9 (stacked arg3 harg3 arg9 x0)

/-- The stacked queries, read back: each head's rows hold its own lanes. -/
theorem stack_apply (h : Fin 4) (r j : Fin 256) : stack arg3 harg3 arg9 x0 (ix2 (row h r) j) = lanes x0 h r j := by
  have e : ∀ g, queries arg9 g (ix2 (row h r) j) = arg9.view.read (Elt Ideal) g (ix2 (row h r) j) := fun g => by
    refine congrArg (arg9.view.read (Elt Ideal) g) (funext fun a => Fin.ext ?_)
    match a with
    | 0 => show 0 + 1 * (row h r).val = (row h r).val; omega
    | 1 => show 0 + 1 * j.val = j.val; omega
  rw [stack, e]
  unfold stacked
  rw [readQ_eq]
  have hr := r.isLt
  match h with
  | 3 =>
    refine (View.read_writes_cons_unit_of_mem arg9.view _ _ _ _ _ (ix2 r j) rfl fun a => ?_).trans (pay68_apply x0 r j)
    match a with
    | 0 => rfl
    | 1 => exact (Nat.zero_add _).symm
  | 2 =>
    rw [View.read_writes_cons_unit_of_not_mem arg9.view _ _ _ _ _ rfl 0 (Or.inl (show (row 2 r).val < 768 by show 256 * 2 + r.val < 768; omega))]
    refine (View.read_writes_cons_unit_of_mem arg9.view _ _ _ _ _ (ix2 r j) rfl fun a => ?_).trans (pay67_apply x0 r j)
    match a with
    | 0 => rfl
    | 1 => exact (Nat.zero_add _).symm
  | 1 =>
    rw [View.read_writes_cons_unit_of_not_mem arg9.view _ _ _ _ _ rfl 0 (Or.inl (show (row 1 r).val < 768 by show 256 * 1 + r.val < 768; omega)),
      View.read_writes_cons_unit_of_not_mem arg9.view _ _ _ _ _ rfl 0 (Or.inl (show (row 1 r).val < 512 by show 256 * 1 + r.val < 512; omega))]
    refine (View.read_writes_cons_unit_of_mem arg9.view _ _ _ _ _ (ix2 r j) rfl fun a => ?_).trans (pay66_apply x0 r j)
    match a with
    | 0 => rfl
    | 1 => exact (Nat.zero_add _).symm
  | 0 =>
    rw [View.read_writes_cons_unit_of_not_mem arg9.view _ _ _ _ _ rfl 0 (Or.inl (show (row 0 r).val < 768 by show 256 * 0 + r.val < 768; omega)),
      View.read_writes_cons_unit_of_not_mem arg9.view _ _ _ _ _ rfl 0 (Or.inl (show (row 0 r).val < 512 by show 256 * 0 + r.val < 512; omega)),
      View.read_writes_cons_unit_of_not_mem arg9.view _ _ _ _ _ rfl 0 (Or.inl (show (row 0 r).val < 256 by show 256 * 0 + r.val < 256; omega))]
    refine (View.read_writes_cons_unit_of_mem arg9.view _ _ _ _ _ (ix2 r j) rfl fun a => ?_).trans (pay65_apply x0 r j)
    match a with
    | 0 => show 256 * 0 + r.val = 0 + r.val; omega
    | 1 => exact (Nat.zero_add _).symm

end Stack

section Gates
variable (arg6 : Memref sig .tc .vmem S1x256x128 .f32) (harg6 : arg6.IsWhole) (x3 : Vec Ideal S1x256x128 .f32)

/-- The rows' gates as read. -/
abbrev readY : Vec Ideal S1x256x128 .f32 :=
  View.readAt (Elt Ideal) arg6.view (Rect.unit (s := S1x256x128) ![0, 0, 0] S1x256x128.size inb_S1x256x128_S1x256x128_0_0_0).toLoadRect (harg6.unread x3)

theorem readY_eq : readY arg6 harg6 x3 = x3 := by
  funext y
  rw [readY, View.readAt_apply, harg6.read_unread]
  refine congrArg x3 (funext fun a => Fin.ext ?_)
  match a with
  | 0 => show 0 + 1 * (y 0).val = (y 0).val; omega
  | 1 => show 0 + 1 * (y 1).val = (y 1).val; omega
  | 2 => show 0 + 1 * (y 2).val = (y 2).val; omega

end Gates

/-- The logit of key `t` for a row of a head, less the key's gate; the mask after the row's own token. -/
def logit (x0 : Vec Ideal S1x256x256 .bf16) (x1 : Vec Ideal S1x2048x256 .bf16) (x4 : Vec Ideal S1x8x2048 .f32) (g : Fin 2) (qi : ℕ) (h : Fin 4) (r : Fin 256) (t : ℕ) : EReal :=
  if t ≤ 256 * qi + r.val then
    (if ht : t < 2048 then (∑ j : Fin 256, lanes x0 h r j * (x1 (ix3 0 ⟨t, ht⟩ j) : EReal)) - x4 (ix3 0 ⟨4 * g.val + h.val, by omega⟩ ⟨t, ht⟩) else 0)
  else ⊥

/-- A value lane by token. -/
def val (x2 : Vec Ideal S1x2048x256 .bf16) (j : Fin 256) (t : ℕ) : EReal := if ht : t < 2048 then x2 (ix3 0 ⟨t, ht⟩ j) else 0

theorem scale_real : ∃ x : ℝ, scale = (x : EReal) := by
  unfold scale
  exact ⟨_, rfl⟩

section Real
variable (x0 : Vec Ideal S1x256x256 .bf16) (x1 : Vec Ideal S1x2048x256 .bf16) (x4 : Vec Ideal S1x8x2048 .f32)
  (h0 : ∀ y, ∃ x : ℝ, x0 y = (x : EReal)) (h1 : ∀ y, ∃ x : ℝ, x1 y = (x : EReal)) (h4 : ∀ y, ∃ x : ℝ, x4 y = (x : EReal)) (g : Fin 2) (qi : ℕ)
include h0 h1 h4

theorem logit_real (h : Fin 4) (r : Fin 256) (t : ℕ) (hr : t ≤ 256 * qi + r.val) : ∃ x : ℝ, logit x0 x1 x4 g qi h r t = x := by
  unfold logit
  rw [if_pos hr]
  by_cases ht : t < 2048
  · rw [dif_pos ht]
    obtain ⟨y, hy⟩ := h4 (ix3 0 ⟨4 * g.val + h.val, by omega⟩ ⟨t, ht⟩)
    obtain ⟨w, hw⟩ := sum_real Finset.univ (fun j : Fin 256 => lanes x0 h r j * (x1 (ix3 0 ⟨t, ht⟩ j) : EReal)) fun j => by
      obtain ⟨b, hb⟩ := h1 (ix3 0 ⟨t, ht⟩ j)
      obtain ⟨a, ha⟩ := h0 (ix3 0 r j)
      obtain ⟨s, hs⟩ := scale_real
      unfold lanes
      rw [hb, ha, hs]
      split_ifs
      · exact ⟨a * s * b, by push_cast; rfl⟩
      · exact ⟨0, by rw [zero_mul]; rfl⟩
    exact ⟨w - y, by rw [hw, hy, EReal.coe_sub]⟩
  · rw [dif_neg ht]; exact ⟨0, rfl⟩

theorem logit_tame (h : Fin 4) (r : Fin 256) (t : ℕ) : Tame (logit x0 x1 x4 g qi h r t) := by
  by_cases hr : t ≤ 256 * qi + r.val
  · exact Or.inr (logit_real x0 x1 x4 h0 h1 h4 g qi h r t hr)
  · exact Or.inl (by unfold logit; rw [if_neg hr])

end Real

section Blocks
variable (i : grid0.Coords) (g : Fin 2)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg7 : Memref sig .tc .vmem S1x8x2048 .f32) (harg7 : arg7.IsWhole)
  (arg9 : Memref sig .tc .vmem S1024x256 .bf16)
  (x0 : Vec Ideal S1x256x256 .bf16) (x1 x2 : Vec Ideal S1x2048x256 .bf16) (x4 : Vec Ideal S1x8x2048 .f32)

theorem block_logit (k : Fin (k0_t1_loop i).trips) (h : Fin 4) (r s : Fin 256) :
    less g (stack arg3 harg3 arg9 x0) (block i arg4 (harg4.unread x1) k) (gate i arg7 (harg7.unread x4) k) h (ix2 r s)
      = logit x0 x1 x4 g (i 2).val h r (256 * k.val + s.val) := by
  have hq : (i 2).val < 8 := (i 2).isLt
  have hk : k.val < (i 2).val := lt_of_lt_of_eq k.isLt (trips_1 i)
  have hs := s.isLt
  unfold logit
  rw [less_apply, raw, dif_pos (show 256 * k.val + s.val < 2048 by omega), if_pos (show 256 * k.val + s.val ≤ 256 * (i 2).val + r.val by omega),
    gate_apply i arg7 harg7 x4 k _ s ⟨256 * k.val + s.val, by omega⟩ rfl]
  refine congrArg (· - _) (Finset.sum_congr rfl fun j _ => ?_)
  rw [stack_apply, block_apply i arg4 harg4 x1 k s j ⟨256 * k.val + s.val, by omega⟩ rfl]

theorem own_logit (h : Fin 4) (r s : Fin 256) :
    less' g (stack arg3 harg3 arg9 x0) (own i arg4 harg4 x1) (ownGate i arg7 harg7 x4) h (ix2 r s)
      = logit x0 x1 x4 g (i 2).val h r (256 * (i 2).val + s.val) := by
  have hq : (i 2).val < 8 := (i 2).isLt
  have hr := r.isLt
  have hs := s.isLt
  unfold logit
  rw [less'_apply]
  by_cases hsr : s.val ≤ r.val
  · rw [raw, dif_pos (show 256 * (i 2).val + s.val < 2048 by omega), if_pos hsr, if_pos (show 256 * (i 2).val + s.val ≤ 256 * (i 2).val + r.val by omega),
      ownGate_apply i arg7 harg7 x4 _ s ⟨256 * (i 2).val + s.val, by omega⟩ rfl]
    refine congrArg (· - _) (Finset.sum_congr rfl fun j _ => ?_)
    rw [stack_apply, own_apply i arg4 harg4 x1 s j ⟨256 * (i 2).val + s.val, by omega⟩ rfl]
  · rw [if_neg hsr, if_neg (by omega)]

theorem block_val (k : Fin (k0_t1_loop i).trips) (u j : Fin 256) :
    block i arg5 (harg5.unread x2) k (ix3 0 u j) = val x2 j (256 * k.val + u.val) := by
  have hq : (i 2).val < 8 := (i 2).isLt
  have hk : k.val < (i 2).val := lt_of_lt_of_eq k.isLt (trips_1 i)
  have hu := u.isLt
  unfold val
  rw [dif_pos (by omega), block_apply i arg5 harg5 x2 k u j ⟨256 * k.val + u.val, by omega⟩ rfl]

theorem own_val (u j : Fin 256) : own i arg5 harg5 x2 (ix3 0 u j) = val x2 j (256 * (i 2).val + u.val) := by
  have hq : (i 2).val < 8 := (i 2).isLt
  have hu := u.isLt
  unfold val
  rw [dif_pos (by omega), own_apply i arg5 harg5 x2 u j ⟨256 * (i 2).val + u.val, by omega⟩ rfl]

end Blocks

end Cert.FoxKernel
-- ==== Proof.FoxOut.lean ====
/- What the forgetting-attention kernel leaves in its output block. -/
module

public import proofs.«01_k».proof.Proof.FoxKernel

@[expose] public section

set_option maxRecDepth 16384

noncomputable section

namespace Cert.FoxOut

open Cert.FoxIdeal Cert.FoxIdeal.Gen Cert.FoxPay Cert.FoxTrip Cert.StickRow Cert.StickLoss Cert.FoxRow Cert.FoxLoop Cert.FoxKernel
open Cert.StickPay (row carry)
open Idealize.ShloMosaic Idealize.ShloMosaic.TcCoe Idealize.SL.Sem

variable (c : Dev nD) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x128 .f32) (harg6 : arg6.IsWhole)
  (arg7 : Memref sig .tc .vmem S1x8x2048 .f32) (harg7 : arg7.IsWhole) (arg8 : Memref sig .tc .vmem S1x256x256 .bf16) (harg8 : arg8.IsWhole)
  (arg9 : Memref sig .tc .vmem S1024x256 .bf16) (harg9 : arg9.IsWhole) (arg10 : Memref sig .tc .vmem S2x256x256 .f32) (harg10 : arg10.IsWhole)
  (x0 : Vec Ideal S1x256x256 .bf16) (x1 x2 : Vec Ideal S1x2048x256 .bf16) (x3 : Vec Ideal S1x256x128 .f32) (x4 : Vec Ideal S1x8x2048 .f32)

/-- The group of heads a grid point computes, and its rows' gates. -/
abbrev group : Fin 2 := i 1
abbrev cqs : Four := gates (group i) (readY arg6 harg6 x3)

/-- The planes at the start. -/
abbrev planes0 : List (View.Piece (Elt Ideal) S2x256x256 .f32) :=
  [⟨Rect.unit (s := S2x256x256) ![0, 0, 0] S2x256x256.size inb_S2x256x256_S2x256x256_0_0_0, k0_pay76 (F := Ideal)⟩]

/-- The loop's state after its last trip. -/
abbrev after : Four × List (View.Piece (Elt Ideal) S2x256x256 .f32) :=
  st_k0_t1 (F := Ideal) Variants.none c none i arg3 harg3 arg4 harg4 arg5 harg5 arg6 harg6 arg7 harg7 arg8 harg8 arg9 harg9 arg10 harg10
    (grp (group i)) (BitVec.ofNat 32 (i 2).val) heads rows cols k0_pay69
    (cqs i arg6 harg6 x3).1 (cqs i arg6 harg6 x3).2.1 (cqs i arg6 harg6 x3).2.2.1 (cqs i arg6 harg6 x3).2.2.2
    k0_pay77 k0_pay78 k0_pay79 k0_pay80 0#32 (Scalar.muli (Scalar.divsi (Scalar.subi (BitVec.ofNat 32 (i 2).val) 0#32) 1#32) 1#32)
    (harg4.unread x1) (harg5.unread x2) (harg7.unread x4) (stacked arg3 harg3 arg9 x0)
    (arg10.view.writes (Elt Ideal) arg10.view.junk planes0) none4 (k0_t1_loop i).trips

/-- The own block's pieces of the planes, over what the loop left. -/
abbrev last0 (m : Four) (L : List (View.Piece (Elt Ideal) S2x256x256 .f32)) : View.Piece (Elt Ideal) S2x256x256 .f32 :=
  ⟨Rect.unit (s := S2x256x256) ![0, 0, 0] S1x256x256.size inb_S2x256x256_S1x256x256_0_0_0,
    k0_pay107 k0_pay69
      (scales' (group i) (stack arg3 harg3 arg9 x0) (own i arg4 harg4 x1) (ownGate i arg7 harg7 x4) (cqs i arg6 harg6 x3) m 0)
      (weights' (group i) (stack arg3 harg3 arg9 x0) (own i arg4 harg4 x1) (ownGate i arg7 harg7 x4) (cqs i arg6 harg6 x3) m 0)
      (scales' (group i) (stack arg3 harg3 arg9 x0) (own i arg4 harg4 x1) (ownGate i arg7 harg7 x4) (cqs i arg6 harg6 x3) m 1)
      (weights' (group i) (stack arg3 harg3 arg9 x0) (own i arg4 harg4 x1) (ownGate i arg7 harg7 x4) (cqs i arg6 harg6 x3) m 1)
      (k0_pay103 (k0_pay83 (own i arg5 harg5 x2))) k0_pay104 64#32 k0_pay105 k0_pay106 (Scalar.extui (Scalar.cmpi CmpIPredicate.sgt 64#32 0#32))
      (Scalar.extui (Scalar.cmpi CmpIPredicate.slt 64#32 0#32)) (plane0 arg10 (arg10.view.writes (Elt Ideal) arg10.view.junk L))⟩

abbrev last1 (m : Four) (L : List (View.Piece (Elt Ideal) S2x256x256 .f32)) : View.Piece (Elt Ideal) S2x256x256 .f32 :=
  ⟨Rect.unit (s := S2x256x256) ![1, 0, 0] S1x256x256.size inb_S2x256x256_S1x256x256_1_0_0,
    k0_pay112 k0_pay69
      (scales' (group i) (stack arg3 harg3 arg9 x0) (own i arg4 harg4 x1) (ownGate i arg7 harg7 x4) (cqs i arg6 harg6 x3) m 3)
      (k0_pay110 (weights' (group i) (stack arg3 harg3 arg9 x0) (own i arg4 harg4 x1) (ownGate i arg7 harg7 x4) (cqs i arg6 harg6 x3) m 2)
        (weights' (group i) (stack arg3 harg3 arg9 x0) (own i arg4 harg4 x1) (ownGate i arg7 harg7 x4) (cqs i arg6 harg6 x3) m 3)
        (k0_pay108 (k0_pay83 (own i arg5 harg5 x2))) rows' cols' k0_pay109)
      (k0_pay111 (scales' (group i) (stack arg3 harg3 arg9 x0) (own i arg4 harg4 x1) (ownGate i arg7 harg7 x4) (cqs i arg6 harg6 x3) m 2))
      (plane1 arg10 (arg10.view.writes (Elt Ideal) arg10.view.junk
        (last0 i arg3 harg3 arg4 harg4 arg5 harg5 arg6 harg6 arg7 harg7 arg9 arg10 x0 x1 x2 x3 x4 m L :: L)))⟩

/-- The planes at the end. -/
abbrev ends (m : Four) (L : List (View.Piece (Elt Ideal) S2x256x256 .f32)) : BufTy.Contents (Elt Ideal) arg10.view.ty :=
  arg10.view.writes (Elt Ideal) arg10.view.junk
    (last1 i arg3 harg3 arg4 harg4 arg5 harg5 arg6 harg6 arg7 harg7 arg9 arg10 x0 x1 x2 x3 x4 m L
      :: last0 i arg3 harg3 arg4 harg4 arg5 harg5 arg6 harg6 arg7 harg7 arg9 arg10 x0 x1 x2 x3 x4 m L :: L)

theorem t2_nil (arg1 arg2 : BitVec 32) (v61 : IVec S8x256 32) (v62 v63 : IVec S256x256 32) (v68 : IVec S256x256 1)
    (v78 v86 v94 v102 v107 v108 v109 v110 : FVec Ideal S256x1 .f32) (w0 w1 w2 : BitVec 32)
    (X4 : BufTy.Contents (Elt Ideal) arg4.view.ty) (X5 : BufTy.Contents (Elt Ideal) arg5.view.ty) (X7 : BufTy.Contents (Elt Ideal) arg7.view.ty)
    (X9 : BufTy.Contents (Elt Ideal) arg9.view.ty) (G : BufTy.Contents (Elt Ideal) arg10.view.ty) (init : Four) :
    st_k0_t2 (F := Ideal) Variants.none c none i arg3 harg3 arg4 harg4 arg5 harg5 arg6 harg6 arg7 harg7 arg8 harg8 arg9 harg9 arg10 harg10 arg1 arg2 v61 v62 v63 v68 v78 v86 v94 v102 v107 v108 v109 v110 w0 w1 w2 X4 X5 X7 X9 G init
      (k0_t2_loop i).trips = (init, []) := by
  rw [trips_2]; rfl

/-- The kernel's output block from the two planes as the last block leaves them. -/
theorem out_planes : ∃ S : Four × List (View.Piece (Elt Ideal) S2x256x256 .f32),
    S = ((after c i arg3 harg3 arg4 harg4 arg5 harg5 arg6 harg6 arg7 harg7 arg8 harg8 arg9 harg9 arg10 harg10 x0 x1 x2 x3 x4).1, []) ∧
    out0_A_5 (F := Ideal) c i arg3 harg3 arg4 harg4 arg5 harg5 arg6 harg6 arg7 harg7 arg8 harg8 arg9 harg9 arg10 harg10 x0 x1 x2 x3 x4
      = k0_pay113
        (plane0 arg10 (ends i arg3 harg3 arg4 harg4 arg5 harg5 arg6 harg6 arg7 harg7 arg9 arg10 x0 x1 x2 x3 x4 S.1
          (S.2 ++ ((after c i arg3 harg3 arg4 harg4 arg5 harg5 arg6 harg6 arg7 harg7 arg8 harg8 arg9 harg9 arg10 harg10 x0 x1 x2 x3 x4).2 ++ planes0))))
        (plane0 arg10 (ends i arg3 harg3 arg4 harg4 arg5 harg5 arg6 harg6 arg7 harg7 arg9 arg10 x0 x1 x2 x3 x4 S.1
          (S.2 ++ ((after c i arg3 harg3 arg4 harg4 arg5 harg5 arg6 harg6 arg7 harg7 arg8 harg8 arg9 harg9 arg10 harg10 x0 x1 x2 x3 x4).2 ++ planes0))))
        (plane1 arg10 (ends i arg3 harg3 arg4 harg4 arg5 harg5 arg6 harg6 arg7 harg7 arg9 arg10 x0 x1 x2 x3 x4 S.1
          (S.2 ++ ((after c i arg3 harg3 arg4 harg4 arg5 harg5 arg6 harg6 arg7 harg7 arg8 harg8 arg9 harg9 arg10 harg10 x0 x1 x2 x3 x4).2 ++ planes0))))
        (plane1 arg10 (ends i arg3 harg3 arg4 harg4 arg5 harg5 arg6 harg6 arg7 harg7 arg9 arg10 x0 x1 x2 x3 x4 S.1
          (S.2 ++ ((after c i arg3 harg3 arg4 harg4 arg5 harg5 arg6 harg6 arg7 harg7 arg8 harg8 arg9 harg9 arg10 harg10 x0 x1 x2 x3 x4).2 ++ planes0)))) := by
  refine ⟨?S, ?nil, ?eq⟩
  case eq =>
    unfold out0_A_5 kernelRun0_A
    dsimp only
    funext y
    refine (View.read_writes_cons_unit_of_mem VO0_5 _ _ _ _ y y rfl fun a => ?_).trans ?_
    · match a with
      | 0 => exact (Nat.zero_add _).symm
      | 1 => exact (Nat.zero_add _).symm
      | 2 => exact (Nat.zero_add _).symm
    · rfl
  case nil =>
    exact t2_nil ..

end Cert.FoxOut
-- ==== Proof.FoxValue.lean ====
/- The forgetting-attention kernel's output block, in full: each row's quotient of totals. -/
module

public import proofs.«01_k».proof.Proof.FoxOut

@[expose] public section

set_option maxRecDepth 16384

noncomputable section

namespace Cert.FoxValue

open Cert.FoxIdeal Cert.FoxIdeal.Gen Cert.FoxPay Cert.FoxTrip Cert.StickRow Cert.StickLoss Cert.FoxRow Cert.FoxLoop Cert.FoxKernel Cert.FoxOut
open Cert.StickPay (row carry)
open Idealize.ShloMosaic Idealize.ShloMosaic.TcCoe Idealize.SL.Sem

variable (c : Dev nD) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x256x128 .f32) (harg6 : arg6.IsWhole)
  (arg7 : Memref sig .tc .vmem S1x8x2048 .f32) (harg7 : arg7.IsWhole) (arg8 : Memref sig .tc .vmem S1x256x256 .bf16) (harg8 : arg8.IsWhole)
  (arg9 : Memref sig .tc .vmem S1024x256 .bf16) (harg9 : arg9.IsWhole) (arg10 : Memref sig .tc .vmem S2x256x256 .f32) (harg10 : arg10.IsWhole)
  (x0 : Vec Ideal S1x256x256 .bf16) (x1 x2 : Vec Ideal S1x2048x256 .bf16) (x3 : Vec Ideal S1x256x128 .f32) (x4 : Vec Ideal S1x8x2048 .f32)

theorem start_read (p : Fin 2) (r l : Fin 256) : arg10.view.read (Elt Ideal) (arg10.view.writes (Elt Ideal) arg10.view.junk planes0) (ix3 p r l) = (0 : EReal) := by
  refine (View.read_writes_cons_unit_of_mem arg10.view _ _ _ _ (ix3 p r l) (ix3 p r l) rfl fun a => ?_).trans (pay76_apply p r l)
  match a with
  | 0 => exact (Nat.zero_add _).symm
  | 1 => exact (Nat.zero_add _).symm
  | 2 => exact (Nat.zero_add _).symm

theorem total_zero (U v : ℕ → EReal) (ν : EReal) : total U v ν 0 = 0 := by
  unfold total; rw [Finset.range_zero, Finset.sum_empty]

variable (h0 : ∀ y, ∃ x : ℝ, x0 y = (x : EReal)) (h1 : ∀ y, ∃ x : ℝ, x1 y = (x : EReal)) (h4 : ∀ y, ∃ x : ℝ, x4 y = (x : EReal))
  (C : Fin 4 → Fin 256 → ℝ) (hC : ∀ h r, carry (cqs i arg6 harg6 x3) h (ix2 r 0) = (C h r : EReal))
include h0 h1 h4 hC

theorem after_holds : Holds (logit x0 x1 x4 (group i) (i 2).val) (val x2) C arg10
    (after c i arg3 harg3 arg4 harg4 arg5 harg5 arg6 harg6 arg7 harg7 arg8 harg8 arg9 harg9 arg10 harg10 x0 x1 x2 x3 x4).1
    (arg10.view.writes (Elt Ideal) arg10.view.junk
      ((after c i arg3 harg3 arg4 harg4 arg5 harg5 arg6 harg6 arg7 harg7 arg8 harg8 arg9 harg9 arg10 harg10 x0 x1 x2 x3 x4).2 ++ planes0))
    (256 * (i 2).val) := by
  rw [View.writes_append]
  have s := state (logit x0 x1 x4 (group i) (i 2).val) (logit_tame x0 x1 x4 h0 h1 h4 _ _) (val x2) C (group i) (cqs i arg6 harg6 x3) hC
    Variants.none c none i arg3 harg3 arg4 harg4 arg5 harg5 arg6 harg6 arg7 harg7 arg8 harg8 arg9 harg9 arg10 harg10 (BitVec.ofNat 32 (i 2).val)
    k0_pay77 k0_pay78 k0_pay79 k0_pay80 0#32 (Scalar.muli (Scalar.divsi (Scalar.subi (BitVec.ofNat 32 (i 2).val) 0#32) 1#32) 1#32)
    (harg4.unread x1) (harg5.unread x2) (harg7.unread x4) (stacked arg3 harg3 arg9 x0)
    (arg10.view.writes (Elt Ideal) arg10.view.junk planes0) none4
    (fun k h r u => block_logit i (group i) arg3 harg3 arg4 harg4 arg7 harg7 arg9 x0 x1 x4 k h r u)
    (fun k u j => block_val i arg5 harg5 x2 k u j)
    (fun k h r => logit_real x0 x1 x4 h0 h1 h4 _ _ h r _ (by
      have hk : k.val < (i 2).val := lt_of_lt_of_eq k.isLt (trips_1 i)
      omega))
    ⟨fun h r => Or.inl ⟨none4_apply h r, rfl⟩, fun r l => by rw [start_read, total_zero], fun r l => by rw [start_read, total_zero]⟩
    (k0_t1_loop i).trips le_rfl
  have e : 256 * (k0_t1_loop i).trips = 256 * (i 2).val := by rw [trips_1]
  rw [e] at s
  exact s

/-- The kernel's output block at a row and a lane. -/
theorem out_quotient (r j : Fin 256) : ∃ ν : ℝ,
    (out0_A_5 (F := Ideal) c i arg3 harg3 arg4 harg4 arg5 harg5 arg6 harg6 arg7 harg7 arg8 harg8 arg9 harg9 arg10 harg10 x0 x1 x2 x3 x4 (ix3 0 r j) : EReal)
      = Ideal.div (total (logit x0 x1 x4 (group i) (i 2).val ⟨j.val / 64, by omega⟩ r) (val x2 j) ν (256 * (i 2).val + 256))
          (total (logit x0 x1 x4 (group i) (i 2).val ⟨j.val / 64, by omega⟩ r) (fun _ => 1) ν (256 * (i 2).val + 256)) := by
  obtain ⟨S, hS, e⟩ := out_planes c i arg3 harg3 arg4 harg4 arg5 harg5 arg6 harg6 arg7 harg7 arg8 harg8 arg9 harg9 arg10 harg10 x0 x1 x2 x3 x4
  obtain ⟨s1, s2, s3⟩ := after_holds c i arg3 harg3 arg4 harg4 arg5 harg5 arg6 harg6 arg7 harg7 arg8 harg8 arg9 harg9 arg10 harg10 x0 x1 x2 x3 x4 h0 h1 h4 C hC
  subst hS
  rw [e]
  dsimp only
  rw [List.nil_append]
  revert s1 s2 s3
  generalize after c i arg3 harg3 arg4 harg4 arg5 harg5 arg6 harg6 arg7 harg7 arg8 harg8 arg9 harg9 arg10 harg10 x0 x1 x2 x3 x4 = st
  intro s1 s2 s3
  have hU := logit_tame x0 x1 x4 h0 h1 h4 (group i) (i 2).val
  have hr0 : ∀ h r, ∃ x : ℝ, logit x0 x1 x4 (group i) (i 2).val h r (256 * (i 2).val) = x := fun h r =>
    logit_real x0 x1 x4 h0 h1 h4 _ _ h r _ (Nat.le_add_right _ _)
  have hK := fun h r s => own_logit i (group i) arg3 harg3 arg4 harg4 arg7 harg7 arg9 x0 x1 x4 h r s
  have hV := fun u j => own_val i arg5 harg5 x2 u j
  have A : ∀ l : Fin 256, plane0 arg10 (ends i arg3 harg3 arg4 harg4 arg5 harg5 arg6 harg6 arg7 harg7 arg9 arg10 x0 x1 x2 x3 x4 st.1 (st.2 ++ planes0)) (ix3 0 r l)
      = total (logit x0 x1 x4 (group i) (i 2).val (headA l) r) (sideA (val x2) l)
        (carry (tops' (group i) (stack arg3 harg3 arg9 x0) (own i arg4 harg4 x1) (ownGate i arg7 harg7 x4) (cqs i arg6 harg6 x3) st.1) (headA l) (ix2 r 0) - (C (headA l) r : EReal))
        (256 * (i 2).val + 256) := fun l => by
    rw [plane0_apply]
    refine (read_plane0 arg10 _ _ _ _ r l).trans ?_
    refine planeA'_step _ hU _ C _ _ hC _ _ _ _ _ _ s1 hr0 hV hK _ r l ?_
    rw [plane0_apply]; exact s2 r l
  have B : ∀ l : Fin 256, plane1 arg10 (ends i arg3 harg3 arg4 harg4 arg5 harg5 arg6 harg6 arg7 harg7 arg9 arg10 x0 x1 x2 x3 x4 st.1 (st.2 ++ planes0)) (ix3 0 r l)
      = total (logit x0 x1 x4 (group i) (i 2).val (headB l) r) (sideB (val x2) l)
        (carry (tops' (group i) (stack arg3 harg3 arg9 x0) (own i arg4 harg4 x1) (ownGate i arg7 harg7 x4) (cqs i arg6 harg6 x3) st.1) (headB l) (ix2 r 0) - (C (headB l) r : EReal))
        (256 * (i 2).val + 256) := fun l => by
    rw [plane1_apply]
    refine (read_plane1 arg10 _ _ _ r l).trans ?_
    refine planeB'_step _ hU _ C _ _ hC _ _ _ _ _ _ s1 hr0 hV hK _ r l ?_
    rw [plane1_apply]
    refine (skip_plane0 arg10 _ _ _ r l).trans ?_
    exact s3 r l
  obtain ⟨μ, hμ⟩ := tops'_real _ hU C _ _ hC _ _ _ _ _ s1 hr0 hK (⟨j.val / 64, by omega⟩ : Fin 4) r
  refine ⟨μ - C ⟨j.val / 64, by omega⟩ r, ?_⟩
  rw [pay113_apply, EReal.coe_sub, ← hμ]
  have hj := j.isLt
  by_cases h : j.val < 128
  · rw [dif_pos h, A, A]
    have e1 : ∀ l : Fin 256, l.val / 64 % 2 = j.val / 64 → headA l = (⟨j.val / 64, by omega⟩ : Fin 4) := fun l hl => by
      unfold headA
      split_ifs with q
      · exact Fin.ext (by show 0 = j.val / 64; omega)
      · exact Fin.ext (by show 1 = j.val / 64; omega)
    rw [e1 ⟨j.val, by omega⟩ (by show j.val / 64 % 2 = _; omega), e1 ⟨128 + j.val, by omega⟩ (by show (128 + j.val) / 64 % 2 = _; omega)]
    have f1 : sideA (val x2) ⟨j.val, by omega⟩ = val x2 j := funext fun t => dif_pos h
    have f2 : sideA (val x2) ⟨128 + j.val, by omega⟩ = fun _ => 1 := funext fun t => dif_neg (by show ¬ 128 + j.val < 128; omega)
    rw [f1, f2]
  · rw [dif_neg h, B, B]
    have e1 : ∀ l : Fin 256, 2 + l.val / 64 % 2 = j.val / 64 → headB l = (⟨j.val / 64, by omega⟩ : Fin 4) := fun l hl => by
      unfold headB
      split_ifs with q
      · exact Fin.ext (by show 2 = j.val / 64; omega)
      · exact Fin.ext (by show 3 = j.val / 64; omega)
    rw [e1 ⟨j.val - 128, by omega⟩ (by show 2 + (j.val - 128) / 64 % 2 = _; omega), e1 ⟨128 + (j.val - 128), by omega⟩ (by show 2 + (128 + (j.val - 128)) / 64 % 2 = _; omega)]
    have f1 : sideB (val x2) ⟨j.val - 128, by omega⟩ = val x2 j := funext fun t => by
      unfold sideB
      rw [dif_pos (show j.val - 128 < 128 by omega)]
      exact congrArg (fun l => val x2 l t) (Fin.ext (by show 128 + (j.val - 128) = j.val; omega))
    have f2 : sideB (val x2) ⟨128 + (j.val - 128), by omega⟩ = fun _ => 1 := funext fun t => dif_neg (by show ¬ 128 + (j.val - 128) < 128; omega)
    rw [f1, f2]

end Cert.FoxValue
-- ==== Proof.FoxRef.lean ====
/- The forgetting-attention reference, read at an index: the softmax of the gated logits, and the quotient it is. -/
module

public import proofs.«01_k».proof.Proof.FoxRow
public import proofs.«01_k».proof.Proof.StickRef
public import proofs.«01_k».proof.Proof.Gen.FoxRefIdeal.Run

@[expose] public section

set_option maxRecDepth 16384

noncomputable section

namespace Cert.FoxRef

open Cert.FoxRefIdeal Cert.FoxRefIdeal.Gen Cert.FoxRefIdeal.Value Cert.StickRow Cert.StickLoss Cert.FoxRow Cert.ProjRow Cert.ProjRef
open Cert.StickRef (zval select_if)
open Idealize.ShloMosaic Idealize.ShloMosaic.TcCoe Idealize.SL.Sem

/-! The reference's arrays by name. -/

section Arrays
variable (a : FVec Ideal S16x2048x1536 .bf16) (g : FVec Ideal S16x8x2048 .f32)

/-- Queries, keys and values by head. -/
def queriesT : FVec Ideal S16x8x2048x64 .f32 :=
  extf .f32 (transpose S16x8x2048x64 [0, 2, 1, 3] (shapeCast S16x2048x8x64 (extractStridedSlice S16x2048x512 ![0, 0, 0] a slices_S16x2048x1536_S16x2048x512_0_0_0) shapeCasts_S16x2048x512_S16x2048x8x64) transposes_S16x2048x8x64_S16x8x2048x64_0_2_1_3) bitsLt_bf16_f32
def keysT : FVec Ideal S16x8x2048x64 .f32 :=
  extf .f32 (transpose S16x8x2048x64 [0, 2, 1, 3] (shapeCast S16x2048x8x64 (extractStridedSlice S16x2048x512 ![0, 0, 512] a slices_S16x2048x1536_S16x2048x512_0_0_512) shapeCasts_S16x2048x512_S16x2048x8x64) transposes_S16x2048x8x64_S16x8x2048x64_0_2_1_3) bitsLt_bf16_f32
def valuesT : FVec Ideal S16x8x2048x64 .f32 :=
  extf .f32 (transpose S16x8x2048x64 [0, 2, 1, 3] (shapeCast S16x2048x8x64 (extractStridedSlice S16x2048x512 ![0, 0, 1024] a slices_S16x2048x1536_S16x2048x512_0_0_1024) shapeCasts_S16x2048x512_S16x2048x8x64) transposes_S16x2048x8x64_S16x8x2048x64_0_2_1_3) bitsLt_bf16_f32

/-- The keys up to each query. -/
def causalT : IVec S16x8x2048x2048 1 :=
  broadcastInDim S16x8x2048x2048 ![2, 3] bcast_S2048x2048_S16x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logits with the gates between key and query. -/
def gatedT : FVec Ideal S16x8x2048x2048 .f32 :=
  subf (addf (mulf (Host.dotGeneral dot_S16x8x2048x64_S16x8x2048x64_S16x8x2048x2048_3_3_2_2_01_01 none (queriesT a) (keysT a)) (broadcastInDim S16x8x2048x2048 ![] bcast_S_S16x8x2048x2048 (constant S_ .f32 0x3E000000#32)))
    (broadcastInDim S16x8x2048x2048 ![0, 1, 2, 3] bcast_S16x8x2048x1_S16x8x2048x2048_0_1_2_3 (broadcastInDim S16x8x2048x1 ![0, 1, 2] bcast_S16x8x2048_S16x8x2048x1_0_1_2 g)))
    (broadcastInDim S16x8x2048x2048 ![0, 1, 2, 3] bcast_S16x8x1x2048_S16x8x2048x2048_0_1_2_3 (broadcastInDim S16x8x1x2048 ![0, 1, 3] bcast_S16x8x2048_S16x8x1x2048_0_1_3 g))

def scoresT : FVec Ideal S16x8x2048x2048 .f32 :=
  select causalT (gatedT a g) (broadcastInDim S16x8x2048x2048 ![] bcast_S_S16x8x2048x2048 (id (constant S_ .f32 0xFF800000#32)))

/-- A number a row, spread over the row. -/
def spreadT (x : FVec Ideal S16x8x2048 .f32) : FVec Ideal S16x8x2048x2048 .f32 :=
  broadcastInDim S16x8x2048x2048 ![0, 1, 2, 3] bcast_S16x8x2048x1_S16x8x2048x2048_0_1_2_3 (broadcastInDim S16x8x2048x1 ![0, 1, 2] bcast_S16x8x2048_S16x8x2048x1_0_1_2 x)

def topT (x : FVec Ideal S16x8x2048x2048 .f32) : FVec Ideal S16x8x2048 .f32 :=
  maximumf (broadcastInDim S16x8x2048 ![] bcast_S_S16x8x2048 (constant S_ .f32 0xFF800000#32)) (Host.reduce FloatOps.maximumf x (constant S_ .f32 0xFF800000#32) reducesTo_S16x8x2048x2048_S16x8x2048_d3 h_S_)

def expsT (x : FVec Ideal S16x8x2048x2048 .f32) : FVec Ideal S16x8x2048x2048 .f32 := Host.exp (subf x (spreadT (topT x)))

def softT (x : FVec Ideal S16x8x2048x2048 .f32) : FVec Ideal S16x8x2048x2048 .f32 :=
  Host.divf (expsT x) (spreadT (Host.reduceAdd (expsT x) (constant S_ .f32 0x00000000#32) reducesTo_S16x8x2048x2048_S16x8x2048_d3 h_S_))

def outT : FVec Ideal S16x2048x512 .bf16 :=
  truncf .bf16 (shapeCast S16x2048x512 (transpose S16x2048x8x64 [0, 2, 1, 3] (Host.dotGeneral dot_S16x8x2048x2048_S16x8x2048x64_S16x8x2048x64_3_2_2_3_01_01 none (softT (scoresT a g)) (valuesT a)) transposes_S16x8x2048x64_S16x2048x8x64_0_2_1_3) shapeCasts_S16x2048x8x64_S16x2048x512) bitsLt_bf16_f32

end Arrays

theorem res_eq (m : (ℓ : Loc nD τ sig) → Buf (Elt Ideal) ℓ) (c : Dev nD) :
    res_out0 m c = outT (m ((c.tc : Thread nD τ).loc main_arg0)) (m ((c.tc : Thread nD τ).loc main_arg2)) := by
  unfold res_out0 res_main_v43
  rfl

theorem run_values (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v43) = outT (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (run m g) fun r h c => ⟨(h c).1.trans (res_eq m c), (h c).2⟩

/-! At an index. -/

theorem causalT_apply (b : Fin 16) (h : Fin 8) (s t : Fin 2048) : causalT (ix4 b h s t) = if t.val ≤ s.val then 1#1 else 0#1 := by
  unfold causalT
  pointwise
  rw [WordCmp.cmpi_sle_ofNat (by omega) (by omega)]
  by_cases h : t.val ≤ s.val
  · rw [if_pos h, decide_eq_true h]; rfl
  · rw [if_neg h, decide_eq_false h]; rfl

theorem gatedT_apply (a : FVec Ideal S16x2048x1536 .bf16) (g : FVec Ideal S16x8x2048 .f32) (b : Fin 16) (h : Fin 8) (s t : Fin 2048) :
    gatedT a g (ix4 b h s t) = zval a b h s t + g (ix3 b h s) - g (ix3 b h t) := by
  unfold gatedT queriesT keysT zval
  pointwise

/-- The score of a key for a query of a head. -/
def score (a : FVec Ideal S16x2048x1536 .bf16) (g : FVec Ideal S16x8x2048 .f32) (b : Fin 16) (h : Fin 8) (s t : Fin 2048) : EReal :=
  if t.val ≤ s.val then zval a b h s t + g (ix3 b h s) - g (ix3 b h t) else ⊥

theorem scoresT_apply (a : FVec Ideal S16x2048x1536 .bf16) (g : FVec Ideal S16x8x2048 .f32) (b : Fin 16) (h : Fin 8) (s t : Fin 2048) :
    scoresT a g (ix4 b h s t) = score a g b h s t := by
  unfold scoresT score
  pointwise [causalT_apply, gatedT_apply]
  rw [show id (constant (F := Ideal) S_ .f32 0xFF800000#32) ix0 = (⊥ : EReal) from inf_neg]
  exact select_if _ _ _

theorem reduce_apply (x : FVec Ideal S16x8x2048x2048 .f32) (b : Fin 16) (h : Fin 8) (s : Fin 2048) : ∃ f : Fin 2048 → EReal, f = (fun t => x (ix4 b h s t)) ∧
    Host.reduce FloatOps.maximumf x (constant S_ .f32 0xFF800000#32) reducesTo_S16x8x2048x2048_S16x8x2048_d3 h_S_ (ix3 b h s)
      = Finset.fold max (Ideal.ofBits .f32 0xFF800000#32) f Finset.univ := by
  refine ⟨_, rfl, ?_⟩
  pointwise

theorem top_max (y : FVec Ideal S16x8x2048 .f32) (i : S16x8x2048.Idx) :
    (maximumf (broadcastInDim S16x8x2048 ![] bcast_S_S16x8x2048 (constant S_ .f32 0xFF800000#32)) y i : EReal)
      = max (Ideal.ofBits .f32 0xFF800000#32 : EReal) (y i) := rfl

theorem topT_real (x : FVec Ideal S16x8x2048x2048 .f32) (b : Fin 16) (h : Fin 8) (s : Fin 2048)
    (hx : ∀ t : Fin 2048, Tame (x (ix4 b h s t))) (h0 : ∃ w : ℝ, x (ix4 b h s 0) = (w : EReal)) : ∃ M : ℝ, topT x (ix3 b h s) = (M : EReal) := by
  obtain ⟨f, hf, e⟩ := reduce_apply x b h s
  obtain ⟨M, hM⟩ := fold_real f (fun t => by rw [hf]; exact hx t) 0 (by rw [hf]; exact h0)
  refine ⟨M, (top_max _ _).trans ?_⟩
  rw [e, hM, inf_neg, max_eq_right bot_le]

theorem expsT_apply (x : FVec Ideal S16x8x2048x2048 .f32) (b : Fin 16) (h : Fin 8) (s t : Fin 2048) :
    expsT x (ix4 b h s t) = Ideal.exp (x (ix4 b h s t) - topT x (ix3 b h s)) := by
  unfold expsT spreadT
  pointwise

theorem softT_apply (x : FVec Ideal S16x8x2048x2048 .f32) (b : Fin 16) (h : Fin 8) (s t : Fin 2048) :
    softT x (ix4 b h s t) = Ideal.div (expsT x (ix4 b h s t)) (∑ u : Fin 2048, expsT x (ix4 b h s u)) := by
  unfold softT spreadT
  pointwise

theorem outT_apply (a : FVec Ideal S16x2048x1536 .bf16) (g : FVec Ideal S16x8x2048 .f32) (b : Fin 16) (s : Fin 2048) (j : Fin 512) :
    outT a g (ix3 b s j) = ∑ t : Fin 2048, softT (scoresT a g) (ix4 b ⟨j.val / 64, by omega⟩ s t) * a (ix3 b t ⟨1024 + j.val, by omega⟩) := by
  unfold outT valuesT
  pointwise

/-! The quotient. -/

/-- A key's logit less its gate, the mask after the query. -/
def base (a : FVec Ideal S16x2048x1536 .bf16) (g : FVec Ideal S16x8x2048 .f32) (b : Fin 16) (h : Fin 8) (s : Fin 2048) (k : ℕ) : EReal :=
  if k ≤ s.val then (if hk : k < 2048 then zval a b h s ⟨k, hk⟩ - g (ix3 b h ⟨k, hk⟩) else 0) else ⊥

/-- A value lane by token. -/
def lane (a : FVec Ideal S16x2048x1536 .bf16) (b : Fin 16) (j : Fin 512) (k : ℕ) : EReal :=
  if hk : k < 2048 then a (ix3 b ⟨k, hk⟩ ⟨1024 + j.val, by omega⟩) else 0

theorem total_end (U v : ℕ → EReal) (ν : EReal) (n N : ℕ) (hn : n ≤ N) (hU : ∀ k, n ≤ k → U k = ⊥) : total U v ν N = total U v ν n := by
  unfold total
  refine (Finset.sum_subset (Finset.range_mono hn) fun k _ hk => ?_).symm
  rw [hU k (by rw [Finset.mem_range] at hk; omega), EReal.bot_sub, exp_bot, zero_mul]

section Quotient
variable (a : FVec Ideal S16x2048x1536 .bf16) (g : FVec Ideal S16x8x2048 .f32)
  (hz : ∀ b h s t, ∃ x : ℝ, zval a b h s t = x) (hg : ∀ y, ∃ x : ℝ, g y = (x : EReal))
include hz hg

theorem base_real (b : Fin 16) (h : Fin 8) (s : Fin 2048) (k : ℕ) (hk : k ≤ s.val) : ∃ x : ℝ, base a g b h s k = x := by
  unfold base
  rw [if_pos hk, dif_pos (by omega)]
  obtain ⟨x, hx⟩ := hz b h s ⟨k, by omega⟩
  obtain ⟨y, hy⟩ := hg (ix3 b h ⟨k, by omega⟩)
  exact ⟨x - y, by rw [hx, hy, EReal.coe_sub]⟩

theorem base_tame (b : Fin 16) (h : Fin 8) (s : Fin 2048) (k : ℕ) : Tame (base a g b h s k) := by
  by_cases hk : k ≤ s.val
  · exact Or.inr (base_real a g hz hg b h s k hk)
  · exact Or.inl (by unfold base; rw [if_neg hk])

theorem score_eq (b : Fin 16) (h : Fin 8) (s t : Fin 2048) : score a g b h s t = base a g b h s t.val + g (ix3 b h s) := by
  unfold score base
  obtain ⟨w, hw⟩ := hg (ix3 b h s)
  by_cases ht : t.val ≤ s.val
  · rw [if_pos ht, if_pos ht, dif_pos t.isLt]
    obtain ⟨x, hx⟩ := hz b h s t
    obtain ⟨y, hy⟩ := hg (ix3 b h t)
    show _ = zval a b h s t - g (ix3 b h t) + g (ix3 b h s)
    rw [hx, hy, hw, ← EReal.coe_add, ← EReal.coe_sub, ← EReal.coe_sub, ← EReal.coe_add]
    exact congrArg (fun z : ℝ => (z : EReal)) (by ring)
  · rw [if_neg ht, if_neg ht, EReal.bot_add]

theorem exps_eq (b : Fin 16) (h : Fin 8) (s : Fin 2048) : ∃ ξ : ℝ, ∀ t : Fin 2048,
    expsT (scoresT a g) (ix4 b h s t) = Ideal.exp (base a g b h s t.val - ξ) := by
  obtain ⟨w, hw⟩ := hg (ix3 b h s)
  have hs : ∀ t : Fin 2048, (scoresT a g (ix4 b h s t) : EReal) = base a g b h s t.val + w := fun t => by
    rw [scoresT_apply, score_eq a g hz hg, hw]
  obtain ⟨M, hM⟩ : ∃ M : ℝ, topT (scoresT a g) (ix3 b h s) = (M : EReal) := by
    refine topT_real _ b h s (fun t => ?_) ?_
    · rw [hs]
      rcases base_tame a g hz hg b h s t.val with e | ⟨x, e⟩
      · exact Or.inl (by rw [e, EReal.bot_add])
      · exact Or.inr ⟨x + w, by rw [e, EReal.coe_add]⟩
    · rw [hs]
      obtain ⟨x, e⟩ := base_real a g hz hg b h s (0 : Fin 2048).val (Nat.zero_le _)
      exact ⟨x + w, by rw [e, EReal.coe_add]⟩
  refine ⟨M - w, fun t => ?_⟩
  rw [expsT_apply, hs, hM]
  rcases base_tame a g hz hg b h s t.val with e | ⟨x, e⟩
  · rw [e, EReal.bot_add, EReal.bot_sub, EReal.bot_sub]
  · rw [e, ← EReal.coe_add, ← EReal.coe_sub, ← EReal.coe_sub]
    exact congrArg (fun z : ℝ => Ideal.exp (z : EReal)) (by ring)

/-- The reference's output, as a quotient of totals. -/
theorem outT_eq (b : Fin 16) (s : Fin 2048) (j : Fin 512) (ν : ℝ) (n : ℕ) (hs : s.val < n) (hn : n ≤ 2048) :
    (outT a g (ix3 b s j) : EReal) = Ideal.div (total (base a g b ⟨j.val / 64, by omega⟩ s) (lane a b j) ν n)
      (total (base a g b ⟨j.val / 64, by omega⟩ s) (fun _ => 1) ν n) := by
  obtain ⟨ξ, hξ⟩ := exps_eq a g hz hg b ⟨j.val / 64, by omega⟩ s
  have hb : ∀ k, n ≤ k → base a g b ⟨j.val / 64, by omega⟩ s k = ⊥ := fun k hk => by
    unfold base; rw [if_neg (by omega)]
  rw [← total_end _ _ _ n 2048 hn hb, ← total_end _ _ _ n 2048 hn hb,
    quotient_eq _ (base_tame a g hz hg b _ s) _ ν ξ 2048 (by omega) (base_real a g hz hg b _ s 0 (Nat.zero_le _)),
    outT_apply, Finset.sum_range]
  refine Finset.sum_congr rfl fun t _ => ?_
  rw [softT_apply]
  simp only [hξ]
  have e1 : total (base a g b ⟨j.val / 64, by omega⟩ s) (fun _ => 1) ξ 2048
      = ∑ u : Fin 2048, Ideal.exp (base a g b ⟨j.val / 64, by omega⟩ s u.val - ξ) := by
    unfold total
    rw [Finset.sum_range]
    simp only [mul_one]
  rw [e1]
  unfold lane
  rw [dif_pos t.isLt]

end Quotient

end Cert.FoxRef
-- ==== Proof.FoxFinal.lean ====
/- The forgetting kernel's windows as elements of the launched arguments, and its result array, index by index. -/
module

public import proofs.«01_k».proof.Proof.FoxValue
public import proofs.«01_k».proof.Proof.FoxRef
public import proofs.«01_k».proof.Proof.StickFinal
public import Idealize.ShloMosaic.Lib.StableHlo.ReadAt
public import Idealize.ShloMosaic.Lib.Pipeline.ReadBack

@[expose] public section

set_option maxRecDepth 16384

noncomputable section

namespace Cert.FoxFinal

open Cert.FoxIdeal Cert.FoxIdeal.Gen Cert.FoxPay Cert.FoxRow Cert.FoxKernel Cert.FoxOut
open Cert.StickPay (scale carry)
open Cert.StickFinal (Finite scale_eq zval_real head_sum sum_scale)
open Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N,
    win0_0.index t = ![t.val / 16, t.val % 8, t.val / 8 % 2] ∧ win0_1.index t = ![t.val / 16, 0, 2 + t.val / 8 % 2]
    ∧ win0_2.index t = ![t.val / 16, 0, 4 + t.val / 8 % 2] ∧ win0_3.index t = ![t.val / 16, t.val % 8, 0]
    ∧ win0_4.index t = ![t.val / 16, 0, 0] ∧ win0_5.index t = ![t.val / 16, t.val % 8, t.val / 8 % 2] :=
  (by decide +kernel : ∀ t : Fin grid0.N, _)

theorem coord : ∀ t : Fin cfg0.N, (grid0.coords t 2).val = t.val % 8 ∧ (grid0.coords t 1).val = t.val / 8 % 2 :=
  (by decide +kernel : ∀ t : Fin grid0.N, _)

theorem n_lt (t : Fin cfg0.N) : t.val < 256 := by
  have h : cfg0.N = 256 := N_0
  have := t.isLt
  omega

/-- The sequence, the token of row `r` and the column of lane `j` at a grid point. -/
abbrev seqOf (t : Fin cfg0.N) : Fin 16 := ⟨t.val / 16, by have := n_lt t; omega⟩
abbrev tokOf (t : Fin cfg0.N) (r : Fin 256) : Fin 2048 := ⟨256 * (t.val % 8) + r.val, by omega⟩
abbrev colOf (t : Fin cfg0.N) (j : Fin 256) : Fin 512 := ⟨256 * (t.val / 8 % 2) + j.val, by omega⟩

theorem blk_0 (c : Dev nD) (t : Fin cfg0.N) (r j : Fin 256) :
    iblk m c 0 t (ix3 0 r j) = m ((c : Thread nD τ).loc main_arg0) (ix3 (seqOf t) (tokOf t r) ⟨(colOf t j).val, by omega⟩) := by
  have e : ((cfg0.win 0).blk t).view.emb (ix3 0 r j) = (ix3 (seqOf t) (tokOf t r) ⟨(colOf t j).val, by omega⟩ : S16x2048x1536.Idx) := by
    blk_ext [idx t]
  unfold iblk
  exact congrArg _ e

theorem blk_1 (c : Dev nD) (t : Fin cfg0.N) (k : Fin 2048) (j : Fin 256) :
    iblk m c 1 t (ix3 0 k j) = m ((c : Thread nD τ).loc main_arg0) (ix3 (seqOf t) k ⟨512 + (colOf t j).val, by omega⟩) := by
  have e : ((cfg0.win 1).blk t).view.emb (ix3 0 k j) = (ix3 (seqOf t) k ⟨512 + (colOf t j).val, by omega⟩ : S16x2048x1536.Idx) := by
    blk_ext [idx t]
  unfold iblk
  exact congrArg _ e

theorem blk_2 (c : Dev nD) (t : Fin cfg0.N) (k : Fin 2048) (j : Fin 256) :
    iblk m c 2 t (ix3 0 k j) = m ((c : Thread nD τ).loc main_arg0) (ix3 (seqOf t) k ⟨1024 + (colOf t j).val, by omega⟩) := by
  have e : ((cfg0.win 2).blk t).view.emb (ix3 0 k j) = (ix3 (seqOf t) k ⟨1024 + (colOf t j).val, by omega⟩ : S16x2048x1536.Idx) := by
    blk_ext [idx t]
  unfold iblk
  exact congrArg _ e

theorem blk_3 (c : Dev nD) (t : Fin cfg0.N) (r : Fin 256) (j : Fin 128) :
    iblk m c 3 t (ix3 0 r j) = m ((c : Thread nD τ).loc main_arg1) (ix3 (seqOf t) (tokOf t r) j) := by
  have e : ((cfg0.win 3).blk t).view.emb (ix3 0 r j) = (ix3 (seqOf t) (tokOf t r) j : S16x2048x128.Idx) := by
    blk_ext [idx t]
  unfold iblk
  exact congrArg _ e

theorem blk_4 (c : Dev nD) (t : Fin cfg0.N) (h : Fin 8) (k : Fin 2048) :
    iblk m c 4 t (ix3 0 h k) = m ((c : Thread nD τ).loc main_arg2) (ix3 (seqOf t) h k) := by
  have e : ((cfg0.win 4).blk t).view.emb (ix3 0 h k) = (ix3 (seqOf t) h k : S16x8x2048.Idx) := by
    blk_ext [idx t]
  unfold iblk
  exact congrArg _ e

theorem lanes_sum (x0 : Vec Ideal S1x256x256 .bf16) (x1 : Vec Ideal S1x2048x256 .bf16) (h : Fin 4) (r : Fin 256) (k : Fin 2048) :
    ∑ j : Fin 256, lanes x0 h r j * (x1 (ix3 0 k j) : EReal)
      = ∑ d : Fin 64, (x0 (ix3 0 r ⟨h.val * 64 + d.val, by omega⟩) : EReal) * scale * (x1 (ix3 0 k ⟨h.val * 64 + d.val, by omega⟩) : EReal) := by
  rw [← head_sum (fun l => (x0 (ix3 0 r l) : EReal) * scale * (x1 (ix3 0 k l) : EReal)) h]
  unfold lanes
  simp only [ite_mul, zero_mul]

theorem product_eq (c : Dev nD) (ha : Finite (m ((c : Thread nD τ).loc main_arg0))) (t : Fin cfg0.N) (r j : Fin 256) (k : Fin 2048) :
    ∑ l : Fin 256, lanes (iblk m c 0 t) ⟨j.val / 64, by omega⟩ r l * (iblk m c 1 t (ix3 0 k l) : EReal)
      = Cert.StickRef.zval (m ((c : Thread nD τ).loc main_arg0)) (seqOf t) ⟨(colOf t j).val / 64, by omega⟩ (tokOf t r) k := by
  rw [lanes_sum]
  unfold Cert.StickRef.zval
  simp only [blk_0, blk_1]
  rw [← scale_eq]
  obtain ⟨σ, hσ⟩ := scale_real
  rw [hσ]
  refine (sum_scale
    (fun d : Fin 64 => m ((c : Thread nD τ).loc main_arg0) (ix3 (seqOf t) (tokOf t r) ⟨256 * (t.val / 8 % 2) + (j.val / 64 * 64 + d.val), by omega⟩))
    (fun d : Fin 64 => m ((c : Thread nD τ).loc main_arg0) (ix3 (seqOf t) k ⟨512 + (256 * (t.val / 8 % 2) + (j.val / 64 * 64 + d.val)), by omega⟩)) σ
    (fun d => ha (seqOf t) (tokOf t r) ⟨256 * (t.val / 8 % 2) + (j.val / 64 * 64 + d.val), by omega⟩)
    (fun d => ha (seqOf t) k ⟨512 + (256 * (t.val / 8 % 2) + (j.val / 64 * 64 + d.val)), by omega⟩)).trans ?_
  refine congrArg (· * (σ : EReal)) (Finset.sum_congr rfl fun d _ => ?_)
  have e : (256 * (t.val / 8 % 2) + j.val) / 64 * 64 + d.val = 256 * (t.val / 8 % 2) + (j.val / 64 * 64 + d.val) := by omega
  refine congrArg₂ (· * ·) (congrArg _ (congrArg _ (Fin.ext ?_))) (congrArg _ (congrArg _ (Fin.ext ?_)))
  · exact e.symm
  · exact congrArg (512 + ·) e.symm

theorem logit_eq (c : Dev nD) (ha : Finite (m ((c : Thread nD τ).loc main_arg0))) (t : Fin cfg0.N) (g : Fin 2) (hg : g.val = t.val / 8 % 2) (r j : Fin 256) :
    logit (iblk m c 0 t) (iblk m c 1 t) (iblk m c 4 t) g (t.val % 8) ⟨j.val / 64, by omega⟩ r
      = Cert.FoxRef.base (m ((c : Thread nD τ).loc main_arg0)) (m ((c : Thread nD τ).loc main_arg2)) (seqOf t)
          ⟨(colOf t j).val / 64, by omega⟩ (tokOf t r) := by
  funext k
  unfold logit Cert.FoxRef.base
  by_cases h1 : k ≤ 256 * (t.val % 8) + r.val
  · rw [if_pos h1, if_pos h1]
    by_cases h2 : k < 2048
    · rw [dif_pos h2, dif_pos h2]
      refine congrArg₂ (fun x y : EReal => x - y) (product_eq m c ha t r j ⟨k, h2⟩) ?_
      rw [blk_4]
      refine congrArg (fun h : Fin 8 => (m ((c : Thread nD τ).loc main_arg2) (ix3 (seqOf t) h ⟨k, h2⟩) : EReal)) (Fin.ext ?_)
      show 4 * g.val + j.val / 64 = (256 * (t.val / 8 % 2) + j.val) / 64
      omega
    · rw [dif_neg h2, dif_neg h2]
  · rw [if_neg h1, if_neg h1]

/-- The call's result as a function of its arguments. -/
abbrev G (c : Dev nD) : FVec Ideal S16x2048x512 .bf16 :=
  Cert.FoxRef.outT (m ((c : Thread nD τ).loc main_arg0)) (m ((c : Thread nD τ).loc main_arg2))

section Point

variable (c : Dev nD) (ha : Finite (m ((c : Thread nD τ).loc main_arg0)))
  (hy : ∀ i, ∃ x : ℝ, m ((c : Thread nD τ).loc main_arg1) i = (x : EReal)) (hg : ∀ i, ∃ x : ℝ, m ((c : Thread nD τ).loc main_arg2) i = (x : EReal))

include ha hy hg

theorem point (t : Fin cfg0.N) (r j : Fin 256) :
    outsAt0 m c t (ix3 0 r j) = G m c (ix3 (seqOf t) (tokOf t r) (colOf t j)) := by
  have h0 : ∀ y, ∃ x : ℝ, iblk m c 0 t y = (x : EReal) := fun y => by
    idx_vars y
    rw [Subsingleton.elim (α := Fin 1) y0 0, blk_0]
    exact ha _ _ ⟨(colOf t y2).val, by omega⟩
  have h1 : ∀ y, ∃ x : ℝ, iblk m c 1 t y = (x : EReal) := fun y => by
    idx_vars y
    rw [Subsingleton.elim (α := Fin 1) y0 0, blk_1]
    exact ha _ _ ⟨512 + (colOf t y2).val, by omega⟩
  have h4 : ∀ y, ∃ x : ℝ, iblk m c 4 t y = (x : EReal) := fun y => by
    idx_vars y
    rw [Subsingleton.elim (α := Fin 1) y0 0, blk_4]
    exact hg _
  have h3 : ∀ (h : Fin 4) (r : Fin 256), ∃ x : ℝ, carry (cqs (grid0.coords t) (ms0_3 t) (hs0_3 t) (iblk m c 3 t)) h (ix2 r 0) = (x : EReal) := fun h r => by
    unfold cqs
    rw [readY_eq, gates_apply, blk_3]
    exact hy _
  choose C hC using h3
  obtain ⟨ν, e⟩ := Cert.FoxValue.out_quotient c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _)
    (iblk m c 0 t) (iblk m c 1 t) (iblk m c 2 t) (iblk m c 3 t) (iblk m c 4 t) h0 h1 h4 C hC r j
  unfold outsAt0
  refine e.trans ?_
  have hv : val (iblk m c 2 t) j = Cert.FoxRef.lane (m ((c : Thread nD τ).loc main_arg0)) (seqOf t) (colOf t j) := by
    funext k
    unfold val Cert.FoxRef.lane
    by_cases hk : k < 2048
    · rw [dif_pos hk, dif_pos hk, blk_2]
    · rw [dif_neg hk, dif_neg hk]
  rw [(coord t).1, logit_eq m c ha t (group (grid0.coords t)) (coord t).2, hv]
  exact (Cert.FoxRef.outT_eq _ _ (zval_real _ ha) hg (seqOf t) (tokOf t r) (colOf t j) ν (256 * (t.val % 8) + 256)
    (by show 256 * (t.val % 8) + r.val < _; omega) (by omega)).symm

theorem emb_5 (t : Fin cfg0.N) (u : Fin 1) (r j : Fin 256) :
    ((cfg0.win 5).blk t).view.emb (ix3 u r j) = (ix3 (seqOf t) (tokOf t r) (colOf t j) : S16x2048x512.Idx) := by
  blk_ext [idx t]

theorem final : (dats m 0 c).arrAt 5 cfg0.N = G m c := by
  refine (dats m 0 c).arrAt_eq_of_covers 5 _ (by decide +kernel) fun t _ y => ?_
  blk_simp
  rw [after0_5]
  idx_vars y
  rw [Subsingleton.elim (α := Fin 1) y0 0]
  exact (point m c ha hy hg t _ _).trans (congrArg (G m c) (emb_5 m c ha hy hg t _ _ _)).symm

end Point

end Cert.FoxFinal
-- ==== Proof.FoxCert.lean ====
/- The forgetting kernel and its reference compute the same result, over finite queries, keys and gates. -/
module

public import proofs.«01_k».proof.Defs
public import proofs.«01_k».proof.Proof.FoxFinal
public import proofs.«01_k».proof.Proof.StickCert
public import Idealize.ShloMosaic.Lib.Claim

@[expose] public section

set_option maxRecDepth 16384

noncomputable section

namespace Cert.FoxCert

open Idealize.ShloMosaic Idealize.ShloMosaic.TcCoe Idealize.SL.Sem
open Cert.StickCert (inf_eq)

instance preFacts : Cert.Pre_finite4.Facts :=
  ⟨by decide, by decide, by decide, by decide, by decide, by decide, by decide, by decide, by decide, by decide, by decide⟩

/-- A number whose magnitude is below infinity is real. -/
theorem real_of (x : EReal) (h : BitVec.ofBool (decide (max x (-x) < ⊤)) = 1#1) : ∃ w : ℝ, x = (w : EReal) := by
  induction x using EReal.rec with
  | bot => exact absurd h (by simp)
  | top => exact absurd h (by simp)
  | coe x => exact ⟨x, rfl⟩

theorem and_one (p q r : BitVec 1) (h : p &&& q &&& r = 1#1) : p = 1#1 ∧ q = 1#1 ∧ r = 1#1 := by
  revert p q r; decide

section Finite

variable (a : FVec Ideal Cert.FoxIdeal.S16x2048x1536 .bf16) (y : FVec Ideal Cert.FoxIdeal.S16x2048x128 .f32) (g : FVec Ideal Cert.FoxIdeal.S16x8x2048 .f32)

/-- The precondition at an index. -/
theorem fn_apply (b : Fin 16) (s : Fin 2048) (h : Fin 8) (d : Fin 128) :
    (Cert.Pre_finite4.fn (F := Ideal) a y g) (ix4 b s h d)
      = BitVec.ofBool (decide (max (a (ix3 b s ⟨h.val * 128 + d.val, by omega⟩) : EReal) (-(a (ix3 b s ⟨h.val * 128 + d.val, by omega⟩) : EReal)) < ⊤))
        &&& BitVec.ofBool (decide (max (y (ix3 b s d) : EReal) (-(y (ix3 b s d) : EReal)) < ⊤))
        &&& BitVec.ofBool (decide (max (g (ix3 b h s) : EReal) (-(g (ix3 b h s) : EReal)) < ⊤)) := by
  rw [← inf_eq]
  unfold Cert.Pre_finite4.fn
  pointwise
  rfl

variable (hp : Cert.Pre_finite4.fn (F := Ideal) a y g = fun _ => 1#1)
include hp

theorem finite_all (b : Fin 16) (s : Fin 2048) (h : Fin 8) (d : Fin 128) :
    (∃ x : ℝ, a (ix3 b s ⟨h.val * 128 + d.val, by omega⟩) = (x : EReal)) ∧ (∃ x : ℝ, y (ix3 b s d) = (x : EReal)) ∧ ∃ x : ℝ, g (ix3 b h s) = (x : EReal) := by
  have e := (fn_apply a y g b s h d).symm.trans (congrFun hp (ix4 b s h d))
  obtain ⟨e1, e2, e3⟩ := and_one _ _ _ e
  exact ⟨real_of _ e1, real_of _ e2, real_of _ e3⟩

theorem finite_a : Cert.StickFinal.Finite a := fun b s j => by
  obtain ⟨x, hx⟩ := (finite_all a y g hp b s ⟨j.val / 128, by omega⟩ ⟨j.val % 128, by omega⟩).1
  exact ⟨x, (congrArg (fun l : Fin 1536 => (a (ix3 b s l) : EReal)) (Fin.ext (by show j.val = j.val / 128 * 128 + j.val % 128; omega))).trans hx⟩

theorem finite_y (i : Cert.FoxIdeal.S16x2048x128.Idx) : ∃ x : ℝ, y i = (x : EReal) := by
  idx_vars i
  exact (finite_all a y g hp i0 i1 0 i2).2.1

theorem finite_g (i : Cert.FoxIdeal.S16x8x2048.Idx) : ∃ x : ℝ, g i = (x : EReal) := by
  idx_vars i
  exact (finite_all a y g hp i0 i2 i1 0).2.2

end Finite

theorem algebraic : Cert.algebraic_FoxIdeal_FoxRefIdeal_pre_finite4 := by
  pair_intro
  · run_from Cert.FoxIdeal.Value.run_blocks m g
  · refine θ_run_mono (Cert.FoxRef.run_values m' g') fun r h c => ?_
    obtain ⟨r0, h5⟩ := h c
    refine ⟨?_, h5⟩
    obtain ⟨e0, e1, e2⟩ := hagree c
    have hp := hpre c
    rw [Cert.FoxFinal.final m c (finite_a _ _ _ hp) (finite_y _ _ _ hp) (finite_g _ _ _ hp)]
    rw [r0, e0, e2]

end Cert.FoxCert
-- ==== Proof.FoxFrames.lean ====
/- The forgetting call's reference frame, and the one constant named. -/
module

public import proofs.«01_k».proof.Proof.FoxCert

@[expose] public section

set_option maxRecDepth 16384

noncomputable section

namespace Cert.FoxFrames

open Idealize.ShloMosaic Idealize.SL.Sem

theorem refFrame : Cert.quiescent_FoxRefIdeal := by
  intro m g _
  refine θ_run_mono (Cert.FoxRefIdeal.Value.run m g) fun r h => ⟨fun c => (h c).2, funext fun x => ?_⟩
  obtain ⟨d, s⟩ := x
  exact (show SemLoc Cert.FoxRefIdeal.sig → False by decide) s |>.elim

theorem refFramePre : Cert.quiescent_FoxRefIdeal_pre_finite4 := fun m g _ => refFrame m g trivial

theorem preserves : Cert.preserves_Fox_FoxIdeal :=
  IdealRules.named_const.statement Cert.FoxIdeal.κ "mask" .f32 0xF149F2CA#32 ⊥ rfl

end Cert.FoxFrames
-- ==== Proof.lean ====
module

public import proofs.«01_k».proof.Defs
public import proofs.«01_k».proof.Proof.Gen.PostIdeal.Value
public import proofs.«01_k».proof.Proof.Gen.PostRefIdeal.Run
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.ProjIdeal.Value
public import proofs.«01_k».proof.Proof.Gen.ProjRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.PostCert
public import proofs.«01_k».proof.Proof.PostFrames
public import proofs.«01_k».proof.Proof.ProjCert
public import proofs.«01_k».proof.Proof.ProjFrames
public import proofs.«01_k».proof.Proof.Gen.Stick
public import proofs.«01_k».proof.Proof.Gen.Stick.Frame
public import proofs.«01_k».proof.Proof.Gen.Stick.Skeleton
public import proofs.«01_k».proof.Proof.Gen.Stick.Loops
public import proofs.«01_k».proof.Proof.Gen.Stick.Launch
public import proofs.«01_k».proof.Proof.Gen.Stick.Points
public import proofs.«01_k».proof.Proof.Gen.StickIdeal
public import proofs.«01_k».proof.Proof.Gen.StickIdeal.Frame
public import proofs.«01_k».proof.Proof.Gen.StickIdeal.Skeleton
public import proofs.«01_k».proof.Proof.Gen.StickIdeal.Loops
public import proofs.«01_k».proof.Proof.Gen.StickIdeal.Launch
public import proofs.«01_k».proof.Proof.Gen.StickIdeal.Points
public import proofs.«01_k».proof.Proof.Gen.StickIdeal.Value
public import proofs.«01_k».proof.Proof.Gen.StickRefIdeal
public import proofs.«01_k».proof.Proof.Gen.StickRefIdeal.Run
public import proofs.«01_k».proof.Proof.StickCert
public import proofs.«01_k».proof.Proof.StickFrames
public import proofs.«01_k».proof.Proof.Gen.Fox
public import proofs.«01_k».proof.Proof.Gen.Fox.Frame
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.FoxIdeal
public import proofs.«01_k».proof.Proof.Gen.FoxIdeal.Frame
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Value
public import proofs.«01_k».proof.Proof.Gen.FoxRefIdeal
public import proofs.«01_k».proof.Proof.Gen.FoxRefIdeal.Run
public import proofs.«01_k».proof.Proof.FoxCert
public import proofs.«01_k».proof.Proof.FoxFrames
public import Idealize.ShloMosaic.Lib.Claim

@[expose] public section

noncomputable section

namespace Cert.Proof

open Idealize.ShloMosaic Idealize.SL.Sem

theorem claim : Cert.Claim :=
  ⟨Cert.Post.Gen.facts, Cert.PostIdeal.Gen.facts, Cert.PostRefIdeal.Gen.facts,
    Cert.Proj.Gen.facts, Cert.ProjIdeal.Gen.facts, Cert.ProjRefIdeal.Gen.facts,
    Cert.Stick.Gen.facts, Cert.StickIdeal.Gen.facts, Cert.StickRefIdeal.Gen.facts,
    Cert.Fox.Gen.facts, Cert.FoxIdeal.Gen.facts, Cert.FoxRefIdeal.Gen.facts, Cert.StickCert.preFacts, Cert.FoxCert.preFacts,
    fun m ρ _ => Cert.Post.Gen.frame m ρ, fun m ρ _ => Cert.PostIdeal.Gen.frame m ρ, Cert.PostFrames.refFrame,
    fun m ρ _ => Cert.Proj.Gen.frame m ρ, fun m ρ _ => Cert.ProjIdeal.Gen.frame m ρ, Cert.ProjFrames.refFrame,
    fun m ρ _ => Cert.Stick.Gen.frame m ρ, fun m ρ _ => Cert.StickIdeal.Gen.frame m ρ, fun m ρ _ => Cert.StickIdeal.Gen.frame m ρ,
    Cert.StickFrames.refFrame, Cert.StickFrames.refFramePre,
    fun m ρ _ => Cert.Fox.Gen.frame m ρ, fun m ρ _ => Cert.FoxIdeal.Gen.frame m ρ, fun m ρ _ => Cert.FoxIdeal.Gen.frame m ρ,
    Cert.FoxFrames.refFrame, Cert.FoxFrames.refFramePre,
    trivial, Cert.PostCert.algebraic, trivial, Cert.ProjCert.algebraic, Cert.StickFrames.preserves, Cert.StickCert.algebraic,
    Cert.FoxFrames.preserves, Cert.FoxCert.algebraic⟩

end Cert.Proof

end
